-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_at_least_minus_one [hPre_scores_at_least_minus_one : Cert.Pre_scores_at_least_minus_one.Facts] (m : (ℓ : Loc Cert.KernelIdeal.nD Cert.KernelIdeal.τ Cert.KernelIdeal.sig) → Buf (Elt Ideal) ℓ) : Prop :=
  ∀ c : Dev Cert.KernelIdeal.nD,
    (Cert.Pre_scores_at_least_minus_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_at_least_minus_one [hPre_scores_at_least_minus_one : Cert.Pre_scores_at_least_minus_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_at_least_minus_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_at_least_minus_one [hKernelIdeal : Cert.KernelIdeal.Facts] [hPre_scores_at_least_minus_one : Cert.Pre_scores_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_at_least_minus_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_at_least_minus_one [hReferenceIdeal : Cert.ReferenceIdeal.Facts] [hPre_scores_at_least_minus_one : Cert.Pre_scores_at_least_minus_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_at_least_minus_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_at_least_minus_one [hKernelIdeal : Cert.KernelIdeal.Facts] [hReferenceIdeal : Cert.ReferenceIdeal.Facts] [hPre_scores_at_least_minus_one : Cert.Pre_scores_at_least_minus_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_at_least_minus_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_at_least_minus_one : Cert.Pre_scores_at_least_minus_one.Facts),
    quiescent_Kernel (hKernel := hKernel)
    ∧ quiescent_KernelIdeal (hKernelIdeal := hKernelIdeal)
    ∧ quiescent_KernelIdeal_pre_scores_at_least_minus_one (hKernelIdeal := hKernelIdeal) (hPre_scores_at_least_minus_one := hPre_scores_at_least_minus_one)
    ∧ quiescent_ReferenceIdeal (hReferenceIdeal := hReferenceIdeal)
    ∧ quiescent_ReferenceIdeal_pre_scores_at_least_minus_one (hReferenceIdeal := hReferenceIdeal) (hPre_scores_at_least_minus_one := hPre_scores_at_least_minus_one)
    ∧ preserves_Kernel_KernelIdeal
    ∧ algebraic_KernelIdeal_ReferenceIdeal_pre_scores_at_least_minus_one (hKernelIdeal := hKernelIdeal) (hReferenceIdeal := hReferenceIdeal) (hPre_scores_at_least_minus_one := hPre_scores_at_least_minus_one)
-- ==== Pre_scores_at_least_minus_one.lean ====
abbrev S4x20000x2 : Shape := ⟨3, ![4, 20000, 2]⟩
abbrev S4x20000x4 : Shape := ⟨3, ![4, 20000, 4]⟩
abbrev S4x20000x1 : Shape := ⟨3, ![4, 20000, 1]⟩
abbrev S4x20000 : Shape := ⟨2, ![4, 20000]⟩
abbrev S_ : Shape := ⟨0, ![]⟩

class Facts : Prop where
  slices_S4x20000x2_S4x20000x1_0_0_1 : S4x20000x2.Slices ![0, 0, 1] S4x20000x1
  shapeCasts_S4x20000x1_S4x20000 : S4x20000x1.ShapeCasts S4x20000
  bcast_S_S4x20000 : S_.BroadcastsInDim S4x20000 (![] : Fin 0 → Fin S4x20000.rank)
  reducesTo_S4x20000_S_d0_1 : S4x20000.ReducesTo [0, 1] S_
  h_S_ : 0 < S_.numel

variable [Facts]

def fn {F : FTy → Type} [FloatOps F] (main_arg0 : FVec F S4x20000x2 .f32) (main_arg1 : FVec F S4x20000x4 .f32) (main_arg2 : FVec F S4x20000x4 .f32) : IVec S_ 1 :=
  let main_v0 : FVec F S4x20000x1 .f32 := (extractStridedSlice S4x20000x1 ![0, 0, 1] · slices_S4x20000x2_S4x20000x1_0_0_1) main_arg0
  let main_v1 : FVec F S4x20000 .f32 := shapeCast S4x20000 main_v0 shapeCasts_S4x20000x1_S4x20000
  let main_cst : FVec F S_ .f32 := constant S_ .f32 0xBF800000#32
  let main_v2 : FVec F S4x20000 .f32 := broadcastInDim S4x20000 ![] bcast_S_S4x20000 main_cst
  let main_v3 : IVec S4x20000 1 := cmpf .oge main_v1 main_v2
  let main_c : IVec S_ 1 := constantI S_ 1 1#1
  let main_v4 : IVec S_ 1 := (fun x v => Host.reduce IntOp.andi x v reducesTo_S4x20000_S_d0_1 h_S_) main_v3 main_c
  main_v4
-- ==== Kernel.lean ====
abbrev S4x20000x2 : Shape := ⟨3, ![4, 20000, 2]⟩
abbrev S4x20000x4 : Shape := ⟨3, ![4, 20000, 4]⟩
abbrev S4x20000x1 : Shape := ⟨3, ![4, 20000, 1]⟩
abbrev S4x20000 : Shape := ⟨2, ![4, 20000]⟩
abbrev S_ : Shape := ⟨0, ![]⟩
abbrev S4x20480 : Shape := ⟨2, ![4, 20480]⟩
abbrev S4x160x128 : Shape := ⟨3, ![4, 160, 128]⟩
abbrev S4x4x20000 : Shape := ⟨3, ![4, 4, 20000]⟩
abbrev S4x4x20480 : Shape := ⟨3, ![4, 4, 20480]⟩
abbrev S4x4x160x128 : Shape := ⟨4, ![4, 4, 160, 128]⟩
abbrev S4x4x8x128 : Shape := ⟨4, ![4, 4, 8, 128]⟩
abbrev S4x1x160x128 : Shape := ⟨4, ![4, 1, 160, 128]⟩
abbrev S160x128 : Shape := ⟨2, ![160, 128]⟩
abbrev S1x160x128 : Shape := ⟨3, ![1, 160, 128]⟩
abbrev S40x16x128 : Shape := ⟨3, ![40, 16, 128]⟩
abbrev S1x16x128 : Shape := ⟨3, ![1, 16, 128]⟩
abbrev S40x8x2x1x128 : Shape := ⟨5, ![40, 8, 2, 1, 128]⟩
abbrev S40x8x1x1x128 : Shape := ⟨5, ![40, 8, 1, 1, 128]⟩
abbrev S40x4x2x2x128 : Shape := ⟨5, ![40, 4, 2, 2, 128]⟩
abbrev S40x4x1x2x128 : Shape := ⟨5, ![40, 4, 1, 2, 128]⟩
abbrev S40x2x2x4x128 : Shape := ⟨5, ![40, 2, 2, 4, 128]⟩
abbrev S40x2x1x4x128 : Shape := ⟨5, ![40, 2, 1, 4, 128]⟩
abbrev S40x1x2x8x128 : Shape := ⟨5, ![40, 1, 2, 8, 128]⟩
abbrev S40x1x1x8x128 : Shape := ⟨5, ![40, 1, 1, 8, 128]⟩
abbrev S4x10x16x128 : Shape := ⟨4, ![4, 10, 16, 128]⟩
abbrev S4x5x2x16x128 : Shape := ⟨5, ![4, 5, 2, 16, 128]⟩
abbrev S4x5x1x16x128 : Shape := ⟨5, ![4, 5, 1, 16, 128]⟩
abbrev S4x5x16x128 : Shape := ⟨4, ![4, 5, 16, 128]⟩
abbrev S4x5x1x128 : Shape := ⟨4, ![4, 5, 1, 128]⟩
abbrev S1x1x16x128 : Shape := ⟨4, ![1, 1, 16, 128]⟩
abbrev S20x16x128 : Shape := ⟨3, ![20, 16, 128]⟩
abbrev S20x1x2x8x128 : Shape := ⟨5, ![20, 1, 2, 8, 128]⟩
abbrev S20x1x1x8x128 : Shape := ⟨5, ![20, 1, 1, 8, 128]⟩
abbrev S20x2x2x4x128 : Shape := ⟨5, ![20, 2, 2, 4, 128]⟩
abbrev S20x2x1x4x128 : Shape := ⟨5, ![20, 2, 1, 4, 128]⟩
abbrev S20x4x2x2x128 : Shape := ⟨5, ![20, 4, 2, 2, 128]⟩
abbrev S20x4x1x2x128 : Shape := ⟨5, ![20, 4, 1, 2, 128]⟩
abbrev S20x8x2x1x128 : Shape := ⟨5, ![20, 8, 2, 1, 128]⟩
abbrev S20x8x1x1x128 : Shape := ⟨5, ![20, 8, 1, 1, 128]⟩
abbrev S4x4x16x128 : Shape := ⟨4, ![4, 4, 16, 128]⟩
abbrev S4x2x2x16x128 : Shape := ⟨5, ![4, 2, 2, 16, 128]⟩
abbrev S4x2x1x16x128 : Shape := ⟨5, ![4, 2, 1, 16, 128]⟩
abbrev S4x2x16x128 : Shape := ⟨4, ![4, 2, 16, 128]⟩
abbrev S4x2x1x128 : Shape := ⟨4, ![4, 2, 1, 128]⟩
abbrev S8x16x128 : Shape := ⟨3, ![8, 16, 128]⟩
abbrev S8x1x2x8x128 : Shape := ⟨5, ![8, 1, 2, 8, 128]⟩
abbrev S8x1x1x8x128 : Shape := ⟨5, ![8, 1, 1, 8, 128]⟩
abbrev S8x2x2x4x128 : Shape := ⟨5, ![8, 2, 2, 4, 128]⟩
abbrev S8x2x1x4x128 : Shape := ⟨5, ![8, 2, 1, 4, 128]⟩
abbrev S8x4x2x2x128 : Shape := ⟨5, ![8, 4, 2, 2, 128]⟩
abbrev S8x4x1x2x128 : Shape := ⟨5, ![8, 4, 1, 2, 128]⟩
abbrev S8x8x2x1x128 : Shape := ⟨5, ![8, 8, 2, 1, 128]⟩
abbrev S8x8x1x1x128 : Shape := ⟨5, ![8, 8, 1, 1, 128]⟩
abbrev S4x1x16x128 : Shape := ⟨4, ![4, 1, 16, 128]⟩
abbrev S4x3x16x128 : Shape := ⟨4, ![4, 3, 16, 128]⟩
abbrev S4x1x2x16x128 : Shape := ⟨5, ![4, 1, 2, 16, 128]⟩
abbrev S4x1x1x16x128 : Shape := ⟨5, ![4, 1, 1, 16, 128]⟩
abbrev S4x1x1x128 : Shape := ⟨4, ![4, 1, 1, 128]⟩
abbrev S4x16x128 : Shape := ⟨3, ![4, 16, 128]⟩
abbrev S4x1x2x8x128 : Shape := ⟨5, ![4, 1, 2, 8, 128]⟩
abbrev S4x1x1x8x128 : Shape := ⟨5, ![4, 1, 1, 8, 128]⟩
abbrev S4x2x2x4x128 : Shape := ⟨5, ![4, 2, 2, 4, 128]⟩
abbrev S4x2x1x4x128 : Shape := ⟨5, ![4, 2, 1, 4, 128]⟩
abbrev S4x4x2x2x128 : Shape := ⟨5, ![4, 4, 2, 2, 128]⟩
abbrev S4x4x1x2x128 : Shape := ⟨5, ![4, 4, 1, 2, 128]⟩
abbrev S4x8x2x1x128 : Shape := ⟨5, ![4, 8, 2, 1, 128]⟩
abbrev S4x8x1x1x128 : Shape := ⟨5, ![4, 8, 1, 1, 128]⟩
abbrev S16x128 : Shape := ⟨2, ![16, 128]⟩
abbrev S1x128 : Shape := ⟨2, ![1, 128]⟩
abbrev S128x128 : Shape := ⟨2, ![128, 128]⟩
abbrev S128x1 : Shape := ⟨2, ![128, 1]⟩
abbrev S2048x1 : Shape := ⟨2, ![2048, 1]⟩
abbrev S8x128 : Shape := ⟨2, ![8, 128]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩
abbrev S128 : Shape := ⟨1, ![128]⟩
abbrev S256x1 : Shape := ⟨2, ![256, 1]⟩
abbrev S256x128 : Shape := ⟨2, ![256, 128]⟩
abbrev S384x1 : Shape := ⟨2, ![384, 1]⟩
abbrev S384x128 : Shape := ⟨2, ![384, 128]⟩
abbrev S512x1 : Shape := ⟨2, ![512, 1]⟩
abbrev S512x128 : Shape := ⟨2, ![512, 128]⟩
abbrev S640x1 : Shape := ⟨2, ![640, 1]⟩
abbrev S640x128 : Shape := ⟨2, ![640, 128]⟩
abbrev S768x1 : Shape := ⟨2, ![768, 1]⟩
abbrev S768x128 : Shape := ⟨2, ![768, 128]⟩
abbrev S896x1 : Shape := ⟨2, ![896, 1]⟩
abbrev S896x128 : Shape := ⟨2, ![896, 128]⟩
abbrev S1024x1 : Shape := ⟨2, ![1024, 1]⟩
abbrev S1024x128 : Shape := ⟨2, ![1024, 128]⟩
abbrev S1152x1 : Shape := ⟨2, ![1152, 1]⟩
abbrev S1152x128 : Shape := ⟨2, ![1152, 128]⟩
abbrev S1280x1 : Shape := ⟨2, ![1280, 1]⟩
abbrev S1280x128 : Shape := ⟨2, ![1280, 128]⟩
abbrev S1408x1 : Shape := ⟨2, ![1408, 1]⟩
abbrev S1408x128 : Shape := ⟨2, ![1408, 128]⟩
abbrev S1536x1 : Shape := ⟨2, ![1536, 1]⟩
abbrev S1536x128 : Shape := ⟨2, ![1536, 128]⟩
abbrev S1664x1 : Shape := ⟨2, ![1664, 1]⟩
abbrev S1664x128 : Shape := ⟨2, ![1664, 128]⟩
abbrev S1792x1 : Shape := ⟨2, ![1792, 1]⟩
abbrev S1792x128 : Shape := ⟨2, ![1792, 128]⟩
abbrev S1920x1 : Shape := ⟨2, ![1920, 1]⟩
abbrev S1920x128 : Shape := ⟨2, ![1920, 128]⟩
abbrev S4 : Shape := ⟨1, ![4]⟩
abbrev S4x1x1 : Shape := ⟨3, ![4, 1, 1]⟩
abbrev S1x8x128 : Shape := ⟨3, ![1, 8, 128]⟩
abbrev S4x8x128 : Shape := ⟨3, ![4, 8, 128]⟩
abbrev S4x1x8x128 : Shape := ⟨4, ![4, 1, 8, 128]⟩
abbrev S4x4x1024 : Shape := ⟨3, ![4, 4, 1024]⟩
abbrev S4x1024x4 : Shape := ⟨3, ![4, 1024, 4]⟩
abbrev S4x1000x4 : Shape := ⟨3, ![4, 1000, 4]⟩

abbrev nBuf : Space → Nat
  | .hbm => 23
  | .vmem => 4
  | .smem => 0
  | _ => 0

abbrev bufTy : (tb : Table) → Fin (tcTables nBuf tb) → BufTy
  | .hbm, ⟨0, _⟩ => ⟨S4x20000x2, .f32⟩
  | .hbm, ⟨1, _⟩ => ⟨S4x20000x4, .f32⟩
  | .hbm, ⟨2, _⟩ => ⟨S4x20000x4, .f32⟩
  | .hbm, ⟨3, _⟩ => ⟨S4x20000x1, .f32⟩
  | .hbm, ⟨4, _⟩ => ⟨S4x20000, .f32⟩
  | .hbm, ⟨5, _⟩ => ⟨S_, .f32⟩
  | .hbm, ⟨6, _⟩ => ⟨S_, .f32⟩
  | .hbm, ⟨7, _⟩ => ⟨S4x20480, .f32⟩
  | .hbm, ⟨8, _⟩ => ⟨S4x160x128, .f32⟩
  | .hbm, ⟨9, _⟩ => ⟨S4x4x20000, .f32⟩
  | .hbm, ⟨10, _⟩ => ⟨S_, .i32⟩
  | .hbm, ⟨11, _⟩ => ⟨S_, .f32⟩
  | .hbm, ⟨12, _⟩ => ⟨S4x4x20480, .f32⟩
  | .hbm, ⟨13, _⟩ => ⟨S4x4x160x128, .f32⟩
  | .hbm, ⟨14, _⟩ => ⟨S4x4x20000, .f32⟩
  | .hbm, ⟨15, _⟩ => ⟨S_, .i32⟩
  | .hbm, ⟨16, _⟩ => ⟨S_, .f32⟩
  | .hbm, ⟨17, _⟩ => ⟨S4x4x20480, .f32⟩
  | .hbm, ⟨18, _⟩ => ⟨S4x4x160x128, .f32⟩
  | .hbm, ⟨19, _⟩ => ⟨S4x4x8x128, .f32⟩
  | .hbm, ⟨20, _⟩ => ⟨S4x4x1024, .f32⟩
  | .hbm, ⟨21, _⟩ => ⟨S4x1024x4, .f32⟩
  | .hbm, ⟨22, _⟩ => ⟨S4x1000x4, .f32⟩
  | .local _ .vmem, ⟨0, _⟩ => ⟨S4x160x128, .f32⟩
  | .local _ .vmem, ⟨1, _⟩ => ⟨S4x4x160x128, .f32⟩
  | .local _ .vmem, ⟨2, _⟩ => ⟨S4x4x160x128, .f32⟩
  | .local _ .vmem, ⟨3, _⟩ => ⟨S4x4x8x128, .f32⟩
  | _, _ => ⟨S4x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x20000x2 : Shape := ⟨3, ![4, 20000, 2]⟩
abbrev S4x20000x4 : Shape := ⟨3, ![4, 20000, 4]⟩
abbrev S4 : Shape := ⟨1, ![4]⟩
abbrev S4x20000x1 : Shape := ⟨3, ![4, 20000, 1]⟩
abbrev S4x20000 : Shape := ⟨2, ![4, 20000]⟩
abbrev S1x1x4 : Shape := ⟨3, ![1, 1, 4]⟩
abbrev S4x2000 : Shape := ⟨2, ![4, 2000]⟩
abbrev S4x2000x1 : Shape := ⟨3, ![4, 2000, 1]⟩
abbrev S_ : Shape := ⟨0, ![]⟩
abbrev S4x2000x4 : Shape := ⟨3, ![4, 2000, 4]⟩
abbrev S4x1x2000 : Shape := ⟨3, ![4, 1, 2000]⟩
abbrev S4x2000x2000 : Shape := ⟨3, ![4, 2000, 2000]⟩
abbrev S2000 : Shape := ⟨1, ![2000]⟩
abbrev S1x2000 : Shape := ⟨2, ![1, 2000]⟩
abbrev S4x1 : Shape := ⟨2, ![4, 1]⟩
abbrev S4x1000 : Shape := ⟨2, ![4, 1000]⟩
abbrev S4x1000x1 : Shape := ⟨3, ![4, 1000, 1]⟩
abbrev S4x1000x4 : Shape := ⟨3, ![4, 1000, 4]⟩

abbrev nBuf : Space → Nat
  | .hbm => 259
  | .vmem => 0
  | .smem => 0
  | _ => 0

abbrev hbmTy0_0 (i : Nat) : BufTy := match i % 128 with
  | 0 => ⟨S4x20000x2, .f32⟩
  | 1 => ⟨S4x20000x4, .f32⟩
  | 2 => ⟨S4x20000x4, .f32⟩
  | 3 => ⟨S4, .f32⟩
  | 4 => ⟨S4x20000x1, .f32⟩
  | 5 => ⟨S4x20000, .f32⟩
  | 6 => ⟨S1x1x4, .f32⟩
  | 7 => ⟨S4x20000x4, .f32⟩
  | 8 => ⟨S4x20000x4, .f32⟩
  | 9 => ⟨S4x2000, .f32⟩
  | 10 => ⟨S4x2000, .i32⟩
  | 11 => ⟨S4x2000x1, .i32⟩
  | 12 => ⟨S_, .i32⟩
  | 13 => ⟨S4x2000x1, .i32⟩
  | 14 => ⟨S4x2000x1, .i1⟩
  | 15 => ⟨S_, .i32⟩
  | 16 => ⟨S4x2000x1, .i32⟩
  | 17 => ⟨S4x2000x1, .i32⟩
  | 18 => ⟨S4x2000x1, .i32⟩
  | 19 => ⟨S4x2000x4, .f32⟩
  | 20 => ⟨S4x2000x1, .i32⟩
  | 21 => ⟨S_, .i32⟩
  | 22 => ⟨S4x2000x1, .i32⟩
  | 23 => ⟨S4x2000x1, .i1⟩
  | 24 => ⟨S_, .i32⟩
  | 25 => ⟨S4x2000x1, .i32⟩
  | 26 => ⟨S4x2000x1, .i32⟩
  | 27 => ⟨S4x2000x1, .i32⟩
  | 28 => ⟨S4x2000x4, .f32⟩
  | 29 => ⟨S4x2000x1, .f32⟩
  | 30 => ⟨S4x2000, .f32⟩
  | 31 => ⟨S4x2000x1, .f32⟩
  | 32 => ⟨S4x2000, .f32⟩
  | 33 => ⟨S4x2000, .f32⟩
  | 34 => ⟨S4x2000x1, .f32⟩
  | 35 => ⟨S4x2000, .f32⟩
  | 36 => ⟨S4x2000x1, .f32⟩
  | 37 => ⟨S4x2000, .f32⟩
  | 38 => ⟨S4x2000, .f32⟩
  | 39 => ⟨S4x2000x1, .f32⟩
  | 40 => ⟨S4x2000, .f32⟩
  | 41 => ⟨S_, .f32⟩
  | 42 => ⟨S4x2000, .f32⟩
  | 43 => ⟨S4x2000, .f32⟩
  | 44 => ⟨S4x2000, .f32⟩
  | 45 => ⟨S4x2000x1, .f32⟩
  | 46 => ⟨S4x2000, .f32⟩
  | 47 => ⟨S_, .f32⟩
  | 48 => ⟨S4x2000, .f32⟩
  | 49 => ⟨S4x2000, .f32⟩
  | 50 => ⟨S4x2000, .f32⟩
  | 51 => ⟨S4x2000x1, .f32⟩
  | 52 => ⟨S4x2000, .f32⟩
  | 53 => ⟨S4x2000, .f32⟩
  | 54 => ⟨S4x2000, .f32⟩
  | 55 => ⟨S4x2000x1, .f32⟩
  | 56 => ⟨S4x2000, .f32⟩
  | 57 => ⟨S4x2000, .f32⟩
  | 58 => ⟨S4x2000, .f32⟩
  | 59 => ⟨S4x2000x1, .f32⟩
  | 60 => ⟨S4x2000, .f32⟩
  | 61 => ⟨S4x2000, .f32⟩
  | 62 => ⟨S4x2000, .f32⟩
  | 63 => ⟨S4x2000x1, .f32⟩
  | 64 => ⟨S4x2000, .f32⟩
  | 65 => ⟨S4x2000, .f32⟩
  | 66 => ⟨S4x2000, .f32⟩
  | 67 => ⟨S_, .f32⟩
  | 68 => ⟨S4x2000, .f32⟩
  | 69 => ⟨S4x2000, .f32⟩
  | 70 => ⟨S4x2000, .f32⟩
  | 71 => ⟨S_, .f32⟩
  | 72 => ⟨S4x2000, .f32⟩
  | 73 => ⟨S4x2000, .f32⟩
  | 74 => ⟨S4x2000, .f32⟩
  | 75 => ⟨S4x2000, .f32⟩
  | 76 => ⟨S4x2000, .f32⟩
  | 77 => ⟨S4x2000x1, .f32⟩
  | 78 => ⟨S4x2000x1, .f32⟩
  | 79 => ⟨S4x2000x1, .f32⟩
  | 80 => ⟨S4x2000x1, .f32⟩
  | 81 => ⟨S4x2000x4, .f32⟩
  | 82 => ⟨S4x2000x1, .f32⟩
  | 83 => ⟨S4x2000, .f32⟩
  | 84 => ⟨S_, .f32⟩
  | 85 => ⟨S_, .f32⟩
  | 86 => ⟨S_, .f32⟩
  | 87 => ⟨S4x2000, .f32⟩
  | 88 => ⟨S4x2000, .f32⟩
  | 89 => ⟨S_, .f32⟩
  | 90 => ⟨S4x2000, .f32⟩
  | 91 => ⟨S4x2000, .f32⟩
  | 92 => ⟨S4x2000x1, .f32⟩
  | 93 => ⟨S4x2000, .f32⟩
  | 94 => ⟨S_, .f32⟩
  | 95 => ⟨S_, .f32⟩
  | 96 => ⟨S_, .f32⟩
  | 97 => ⟨S4x2000, .f32⟩
  | 98 => ⟨S4x2000, .f32⟩
  | 99 => ⟨S_, .f32⟩
  | 100 => ⟨S4x2000, .f32⟩
  | 101 => ⟨S4x2000, .f32⟩
  | 102 => ⟨S4x2000x1, .f32⟩
  | 103 => ⟨S4x2000, .f32⟩
  | 104 => ⟨S_, .f32⟩
  | 105 => ⟨S_, .f32⟩
  | 106 => ⟨S_, .f32⟩
  | 107 => ⟨S4x2000, .f32⟩
  | 108 => ⟨S4x2000, .f32⟩
  | 109 => ⟨S_, .f32⟩
  | 110 => ⟨S4x2000, .f32⟩
  | 111 => ⟨S4x2000, .f32⟩
  | 112 => ⟨S4x2000x1, .f32⟩
  | 113 => ⟨S4x2000, .f32⟩
  | 114 => ⟨S_, .f32⟩
  | 115 => ⟨S_, .f32⟩
  | 116 => ⟨S_, .f32⟩
  | 117 => ⟨S4x2000, .f32⟩
  | 118 => ⟨S4x2000, .f32⟩
  | 119 => ⟨S_, .f32⟩
  | 120 => ⟨S4x2000, .f32⟩
  | 121 => ⟨S4x2000, .f32⟩
  | 122 => ⟨S4x2000x1, .f32⟩
  | 123 => ⟨S4x2000x1, .f32⟩
  | 124 => ⟨S4x2000x1, .f32⟩
  | 125 => ⟨S4x2000x1, .f32⟩
  | 126 => ⟨S4x2000x4, .f32⟩
  | 127 => ⟨S4x2000x1, .f32⟩
  | _ => ⟨S4x20000x2, .f32⟩

abbrev hbmTy0_1 (i : Nat) : BufTy := match i % 128 with
  | 0 => ⟨S4x2000, .f32⟩
  | 1 => ⟨S4x2000x1, .f32⟩
  | 2 => ⟨S4x2000, .f32⟩
  | 3 => ⟨S4x2000x1, .f32⟩
  | 4 => ⟨S4x2000, .f32⟩
  | 5 => ⟨S4x2000x1, .f32⟩
  | 6 => ⟨S4x2000, .f32⟩
  | 7 => ⟨S4x2000, .f32⟩
  | 8 => ⟨S4x2000, .f32⟩
  | 9 => ⟨S4x2000, .f32⟩
  | 10 => ⟨S4x2000x1, .f32⟩
  | 11 => ⟨S4x1x2000, .f32⟩
  | 12 => ⟨S4x2000x2000, .f32⟩
  | 13 => ⟨S4x2000x2000, .f32⟩
  | 14 => ⟨S4x2000x2000, .f32⟩
  | 15 => ⟨S4x2000x1, .f32⟩
  | 16 => ⟨S4x1x2000, .f32⟩
  | 17 => ⟨S4x2000x2000, .f32⟩
  | 18 => ⟨S4x2000x2000, .f32⟩
  | 19 => ⟨S4x2000x2000, .f32⟩
  | 20 => ⟨S4x2000x1, .f32⟩
  | 21 => ⟨S4x1x2000, .f32⟩
  | 22 => ⟨S4x2000x2000, .f32⟩
  | 23 => ⟨S4x2000x2000, .f32⟩
  | 24 => ⟨S4x2000x2000, .f32⟩
  | 25 => ⟨S4x2000x1, .f32⟩
  | 26 => ⟨S4x1x2000, .f32⟩
  | 27 => ⟨S4x2000x2000, .f32⟩
  | 28 => ⟨S4x2000x2000, .f32⟩
  | 29 => ⟨S4x2000x2000, .f32⟩
  | 30 => ⟨S4x2000x2000, .f32⟩
  | 31 => ⟨S_, .f32⟩
  | 32 => ⟨S4x2000x2000, .f32⟩
  | 33 => ⟨S4x2000x2000, .f32⟩
  | 34 => ⟨S4x2000x2000, .f32⟩
  | 35 => ⟨S_, .f32⟩
  | 36 => ⟨S4x2000x2000, .f32⟩
  | 37 => ⟨S4x2000x2000, .f32⟩
  | 38 => ⟨S4x2000x2000, .f32⟩
  | 39 => ⟨S4x2000x1, .f32⟩
  | 40 => ⟨S4x1x2000, .f32⟩
  | 41 => ⟨S4x2000x2000, .f32⟩
  | 42 => ⟨S4x2000x2000, .f32⟩
  | 43 => ⟨S4x2000x2000, .f32⟩
  | 44 => ⟨S4x2000x2000, .f32⟩
  | 45 => ⟨S_, .f32⟩
  | 46 => ⟨S4x2000x2000, .f32⟩
  | 47 => ⟨S4x2000x2000, .f32⟩
  | 48 => ⟨S4x2000x2000, .f32⟩
  | 49 => ⟨S2000, .i32⟩
  | 50 => ⟨S1x2000, .i32⟩
  | 51 => ⟨S_, .i1⟩
  | 52 => ⟨S4x2000, .i1⟩
  | 53 => ⟨S_, .i32⟩
  | 54 => ⟨S_, .i32⟩
  | 55 => ⟨S4x2000x4, .f32⟩
  | 56 => ⟨S4x2000x2000, .f32⟩
  | 57 => ⟨S1x2000, .i32⟩
  | 58 => ⟨S_, .i32⟩
  | 59 => ⟨S_, .i32⟩
  | 60 => ⟨S4x2000, .i1⟩
  | 61 => ⟨S_, .i32⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S4x1x2000, .f32⟩
  | 74 => ⟨S4x2000, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S4x1, .i1⟩
  | 83 => ⟨S_, .f32⟩
  | 84 => ⟨S4x2000, .f32⟩
  | 85 => ⟨S4x2000, .i1⟩
  | 86 => ⟨S_, .i32⟩
  | 87 => ⟨S1x2000, .i32⟩
  | 88 => ⟨S1x2000, .i1⟩
  | 89 => ⟨S4x2000, .i1⟩
  | 90 => ⟨S4x2000, .i1⟩
  | 91 => ⟨S4x2000, .i1⟩
  | 92 => ⟨S4x2000, .i1⟩
  | 93 => ⟨S4x2000, .i1⟩
  | 94 => ⟨S4x2000, .i1⟩
  | 95 => ⟨S_, .i32⟩
  | 96 => ⟨S_, .i32⟩
  | 97 => ⟨S2000, .i32⟩
  | 98 => ⟨S1x2000, .i32⟩
  | 99 => ⟨S_, .i32⟩
  | 100 => ⟨S1x2000, .i32⟩
  | 101 => ⟨S1x2000, .i32⟩
  | 102 => ⟨S4x2000, .i32⟩
  | 103 => ⟨S4x2000, .i32⟩
  | 104 => ⟨S4x2000, .i32⟩
  | 105 => ⟨S4x2000, .i32⟩
  | 106 => ⟨S4x2000, .i32⟩
  | 107 => ⟨S4x2000, .i32⟩
  | 108 => ⟨S4x1000, .i32⟩
  | 109 => ⟨S4x1000x1, .i32⟩
  | 110 => ⟨S_, .i32⟩
  | 111 => ⟨S4x1000x1, .i32⟩
  | 112 => ⟨S4x1000x1, .i1⟩
  | 113 => ⟨S_, .i32⟩
  | 114 => ⟨S4x1000x1, .i32⟩
  | 115 => ⟨S4x1000x1, .i32⟩
  | 116 => ⟨S4x1000x1, .i32⟩
  | 117 => ⟨S4x1000x4, .f32⟩
  | 118 => ⟨S_, .i32⟩
  | 119 => ⟨S4x1000, .i32⟩
  | 120 => ⟨S4x1000, .i1⟩
  | 121 => ⟨S_, .i32⟩
  | 122 => ⟨S4x1000, .i32⟩
  | 123 => ⟨S4x1000, .i32⟩
  | 124 => ⟨S4x1000, .i32⟩
  | 125 => ⟨S4x1000x1, .i32⟩
  | 126 => ⟨S4x1000, .i1⟩
  | 127 => ⟨S4x1000x1, .i1⟩
  | _ => ⟨S4x20000x2, .f32⟩

abbrev hbmTy0_2 (i : Nat) : BufTy := match i % 128 with
  | 0 => ⟨S4x1000x1, .f32⟩
  | 1 => ⟨S4x1000x4, .f32⟩
  | 2 => ⟨S4x1000x4, .f32⟩
  | _ => ⟨S4x20000x2, .f32⟩

abbrev hbmTy (i : Nat) : BufTy := match i / 128 with
  | 0 => hbmTy0_0 i
  | 1 => hbmTy0_1 i
  | 2 => hbmTy0_2 i
  | _ => ⟨S4x20000x2, .f32⟩

abbrev bufTy : (tb : Table) → Fin (tcTables nBuf tb) → BufTy
  | .hbm, ⟨i, _⟩ => hbmTy i
  | _, _ => ⟨S4x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_4 : Ref sig .tc := ⟨.hbm, 84, rfl⟩
abbrev main_cst_5 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_cst_7 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_8 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_10 : Ref sig .tc := ⟨.hbm, 114, rfl⟩
abbrev main_cst_11 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_12 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_13 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_14 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c : Ref sig .tc := ⟨.hbm, 179, rfl⟩
abbrev main_v124 : Ref sig .tc := ⟨.hbm, 180, rfl⟩
abbrev main_c_15 : Ref sig .tc := ⟨.hbm, 181, rfl⟩
abbrev main_c_16 : Ref sig .tc := ⟨.hbm, 182, rfl⟩
abbrev main_v125_0 : Ref sig .tc := ⟨.hbm, 183, rfl⟩
abbrev main_v125_1 : Ref sig .tc := ⟨.hbm, 184, rfl⟩
abbrev main_v125_2 : Ref sig .tc := ⟨.hbm, 185, rfl⟩
abbrev main_v125_3 : Ref sig .tc := ⟨.hbm, 186, rfl⟩
abbrev main_v125_4 : Ref sig .tc := ⟨.hbm, 187, rfl⟩
abbrev main_v125_5 : Ref sig .tc := ⟨.hbm, 188, rfl⟩
abbrev main_while0c_c_23 : Ref sig .tc := ⟨.hbm, 189, rfl⟩
abbrev main_while0c_v140 : Ref sig .tc := ⟨.hbm, 190, rfl⟩
abbrev main_while0b_c_23 : Ref sig .tc := ⟨.hbm, 191, rfl⟩
abbrev main_while0b_v140 : Ref sig .tc := ⟨.hbm, 192, rfl⟩
abbrev main_while0b_c_24 : Ref sig .tc := ⟨.hbm, 193, rfl⟩
abbrev main_while0b_v141 : Ref sig .tc := ⟨.hbm, 194, rfl⟩
abbrev main_while0b_v142 : Ref sig .tc := ⟨.hbm, 195, rfl⟩
abbrev main_while0b_c_25 : Ref sig .tc := ⟨.hbm, 196, rfl⟩
abbrev main_while0b_v143 : Ref sig .tc := ⟨.hbm, 197, rfl⟩
abbrev main_while0b_v144 : Ref sig .tc := ⟨.hbm, 198, rfl⟩
abbrev main_while0b_c_26 : Ref sig .tc := ⟨.hbm, 199, rfl⟩
abbrev main_while0b_c_27 : Ref sig .tc := ⟨.hbm, 200, rfl⟩
abbrev main_while0b_v145 : Ref sig .tc := ⟨.hbm, 201, rfl⟩
abbrev main_while0b_v146 : Ref sig .tc := ⟨.hbm, 202, rfl⟩
abbrev main_while0b_c_28 : Ref sig .tc := ⟨.hbm, 203, rfl⟩
abbrev main_while0b_v147 : Ref sig .tc := ⟨.hbm, 204, rfl⟩
abbrev main_while0b_v148 : Ref sig .tc := ⟨.hbm, 205, rfl⟩
abbrev main_while0b_c_29 : Ref sig .tc := ⟨.hbm, 206, rfl⟩
abbrev main_while0b_v149 : Ref sig .tc := ⟨.hbm, 207, rfl⟩
abbrev main_while0b_v150 : Ref sig .tc := ⟨.hbm, 208, rfl⟩
abbrev main_while0b_c_30 : Ref sig .tc := ⟨.hbm, 209, rfl⟩
abbrev main_while0b_v151 : Ref sig .tc := ⟨.hbm, 210, rfl⟩
abbrev main_while0b_cst_31 : Ref sig .tc := ⟨.hbm, 211, rfl⟩
abbrev main_while0b_v152 : Ref sig .tc := ⟨.hbm, 212, rfl⟩
abbrev main_while0b_v153 : Ref sig .tc := ⟨.hbm, 213, rfl⟩
abbrev main_while0b_v154 : Ref sig .tc := ⟨.hbm, 214, rfl⟩
abbrev main_while0b_v155 : Ref sig .tc := ⟨.hbm, 215, rfl⟩
abbrev main_while0b_v156 : Ref sig .tc := ⟨.hbm, 216, rfl⟩
abbrev main_while0b_v157 : Ref sig .tc := ⟨.hbm, 217, rfl⟩
abbrev main_while0b_v158 : Ref sig .tc := ⟨.hbm, 218, rfl⟩
abbrev main_while0b_v159 : Ref sig .tc := ⟨.hbm, 219, rfl⟩
abbrev main_while0b_v160 : Ref sig .tc := ⟨.hbm, 220, rfl⟩
abbrev main_while0b_v161 : Ref sig .tc := ⟨.hbm, 221, rfl⟩
abbrev main_while0b_v162 : Ref sig .tc := ⟨.hbm, 222, rfl⟩
abbrev main_while0b_c_32 : Ref sig .tc := ⟨.hbm, 223, rfl⟩
abbrev main_while0b_v163 : Ref sig .tc := ⟨.hbm, 224, rfl⟩
abbrev main_v126 : Ref sig .tc := ⟨.hbm, 225, rfl⟩
abbrev main_v127 : Ref sig .tc := ⟨.hbm, 226, rfl⟩
abbrev main_c_17 : Ref sig .tc := ⟨.hbm, 227, rfl⟩
abbrev main_v128 : Ref sig .tc := ⟨.hbm, 228, rfl⟩
abbrev main_v129 : Ref sig .tc := ⟨.hbm, 229, rfl⟩
abbrev main_call6_v0 : Ref sig .tc := ⟨.hbm, 230, rfl⟩
abbrev main_call6_v1 : Ref sig .tc := ⟨.hbm, 231, rfl⟩
abbrev main_v130 : Ref sig .tc := ⟨.hbm, 232, rfl⟩
abbrev main_call7_v0 : Ref sig .tc := ⟨.hbm, 233, rfl⟩
abbrev main_call7_v1_0 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_call8_c : Ref sig .tc := ⟨.hbm, 238, rfl⟩
abbrev main_call8_v0 : Ref sig .tc := ⟨.hbm, 239, rfl⟩
abbrev main_call8_v1 : Ref sig .tc := ⟨.hbm, 240, rfl⟩
abbrev main_call8_c_0 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_v134 : Ref sig .tc := ⟨.hbm, 245, rfl⟩
abbrev main_call9_c : Ref sig .tc := ⟨.hbm, 246, rfl⟩
abbrev main_call9_v0 : Ref sig .tc := ⟨.hbm, 247, rfl⟩
abbrev main_call9_v1 : Ref sig .tc := ⟨.hbm, 248, rfl⟩
abbrev main_call9_c_0 : Ref sig .tc := ⟨.hbm, 249, rfl⟩
abbrev main_call9_v2 : Ref sig .tc := ⟨.hbm, 250, rfl⟩
abbrev main_call9_v3 : Ref sig .tc := ⟨.hbm, 251, rfl⟩
abbrev main_call9_v4 : Ref sig .tc := ⟨.hbm, 252, rfl⟩
abbrev main_call9_v5 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩

abbrev nD : Nat := 1
abbrev τ : Topo := Topo.v7x

variable {F : FTy → Type} [FloatOps F]

abbrev main_while0_count : Scf.Loop 32 := ⟨0#32, 2000#32, 1#32⟩
-- ==== Proof.Model.lean ====
/-
  The kernel's arithmetic as ordinary functions of arrays.

  The kernel is one straight line of vector operations, interrupted by sixteen loops. This module writes the same
  operations once each, as functions: the decoding of the boxes, one compare-exchange stage of a bitonic network, the
  sorting network, one merge of two sorted blocks, the overlap of two lists of boxes, what one block of the
  suppression hands its loop, and the loop itself. They are stated for any number format, so that both readings of
  the kernel share them.
-/
module

public import Idealize.ShloMosaic.Lib.Pipeline
public import Idealize.ShloMosaic.PureOps

@[expose] public section

noncomputable section

namespace Rpn

open Idealize.ShloMosaic

/-! ## Shapes, and the side conditions of the operations between them -/

abbrev sh1 (a : ℕ) : Shape := ⟨1, ![a]⟩
abbrev sh2 (a b : ℕ) : Shape := ⟨2, ![a, b]⟩
abbrev sh3 (a b c : ℕ) : Shape := ⟨3, ![a, b, c]⟩
abbrev sh4 (a b c d : ℕ) : Shape := ⟨4, ![a, b, c, d]⟩
abbrev sh5 (a b c d e : ℕ) : Shape := ⟨5, ![a, b, c, d, e]⟩
/-- `n` blocks of 2048 elements, each sixteen rows of 128. -/
abbrev B3 (n : ℕ) : Shape := sh3 n 16 128
/-- `n` blocks for each of the four images. -/
abbrev B4 (n : ℕ) : Shape := sh4 4 n 16 128

theorem bc_B3 (n : ℕ) : (B3 1).Broadcasts (B3 n) :=
  ⟨le_rfl, fun a => by fin_cases a <;> simp [Shape.size]⟩
theorem bc_B4 (n : ℕ) : (sh4 1 1 16 128).Broadcasts (B4 n) :=
  ⟨le_rfl, fun a => by fin_cases a <;> simp [Shape.size]⟩
theorem rot_B3 (n : ℕ) : (B3 n).Rotates 2 none := ⟨by simp, by simp⟩
theorem rot_B4 (n : ℕ) : (B4 n).Rotates 3 none := ⟨by simp, by simp⟩
theorem sc_rows (n g r : ℕ) (h : g * 2 * r = 16) : (B3 n).ShapeCasts (sh5 n g 2 r 128) := by
  simp only [Shape.ShapeCasts, Shape.numel, Shape.size, Fin.prod_univ_succ]
  simp
  left
  rw [show g * (2 * (r * 128)) = (g * 2 * r) * 128 by simp only [Nat.mul_assoc], h]
theorem sc_rows' (n g r : ℕ) (h : g * 2 * r = 16) : (sh5 n g 2 r 128).ShapeCasts (B3 n) := (sc_rows n g r h).symm
theorem sl_half (n g r o : ℕ) (h : o < 2) : (sh5 n g 2 r 128).Slices ![0, 0, o, 0, 0] (sh5 n g 1 r 128) :=
  ⟨rfl, fun a => by fin_cases a <;> simp [Shape.size] <;> omega⟩
theorem cc_half (n g r : ℕ) : Shape.Concatenates [sh5 n g 1 r 128, sh5 n g 1 r 128] (sh5 n g 2 r 128) 2 :=
  ⟨by simp, by
    intro s hs
    have : s = sh5 n g 1 r 128 := by simpa using hs
    subst this
    exact ⟨rfl, fun b hb => by fin_cases b <;> first | rfl | exact absurd rfl hb⟩, by simp [Shape.size]⟩
theorem sc_pair (n : ℕ) : (B4 (n * 2)).ShapeCasts (sh5 4 n 2 16 128) := by
  simp only [Shape.ShapeCasts, Shape.numel, Shape.size, Fin.prod_univ_succ]
  simp
  omega
theorem sl_pair (n o : ℕ) (h : o < 2) : (sh5 4 n 2 16 128).Slices ![0, 0, o, 0, 0] (sh5 4 n 1 16 128) :=
  sl_half 4 n 16 o h
theorem sc_unpair (n : ℕ) : (sh5 4 n 1 16 128).ShapeCasts (B4 n) := by
  simp only [Shape.ShapeCasts, Shape.numel, Shape.size, Fin.prod_univ_succ]
  simp
theorem sl_row (n r : ℕ) (h : r < 16) : (B4 n).Slices ![0, 0, r, 0] (sh4 4 n 1 128) :=
  ⟨rfl, fun a => by fin_cases a <;> simp [Shape.size] <;> omega⟩
theorem cc_revRows (n : ℕ) : Shape.Concatenates
    [sh4 4 n 1 128, sh4 4 n 1 128, sh4 4 n 1 128, sh4 4 n 1 128, sh4 4 n 1 128, sh4 4 n 1 128, sh4 4 n 1 128, sh4 4 n 1 128,
     sh4 4 n 1 128, sh4 4 n 1 128, sh4 4 n 1 128, sh4 4 n 1 128, sh4 4 n 1 128, sh4 4 n 1 128, sh4 4 n 1 128, sh4 4 n 1 128]
    (B4 n) 2 :=
  ⟨by simp, by
    intro s hs
    have : s = sh4 4 n 1 128 := by simpa using hs
    subst this
    exact ⟨rfl, fun b hb => by fin_cases b <;> first | rfl | exact absurd rfl hb⟩, by simp [Shape.size]⟩
theorem sc_flat (n : ℕ) : (B4 n).ShapeCasts (B3 (4 * n)) := by
  simp only [Shape.ShapeCasts, Shape.numel, Shape.size, Fin.prod_univ_succ]
  simp
  omega
theorem sc_flat' (n : ℕ) : (B3 (4 * n)).ShapeCasts (B4 n) := (sc_flat n).symm
theorem sl_take (n k o : ℕ) (h : o + k ≤ n) : (B4 n).Slices ![0, o, 0, 0] (B4 k) :=
  ⟨rfl, fun a => by fin_cases a <;> simp [Shape.size] <;> omega⟩
theorem cc_odd (n : ℕ) : Shape.Concatenates [B4 n, B4 1] (B4 (n + 1)) 1 :=
  ⟨by simp, by
    intro s hs
    have : s = B4 n ∨ s = B4 1 := by simpa using hs
    rcases this with h | h <;> subst h <;>
      exact ⟨rfl, fun b hb => by fin_cases b <;> first | rfl | exact absurd rfl hb⟩, by simp [Shape.size]⟩

variable {F : FTy → Type} [FloatOps F]

/-! ## The network -/

/-- The position in its block, `128 · row + lane`. -/
def ploc : IVec (B3 1) 32 :=
  addi (muli (broadcast (B3 1) 128#32) (iota .tc (B3 1) 32 [1] (by decide))) (iota .tc (B3 1) 32 [2] (by decide))

/-- Where the position has the bit `j`. -/
def bitMask (j : ℕ) : IVec (B3 1) 1 :=
  cmpi .ne (andi ploc (broadcast (B3 1) (BitVec.ofNat 32 j))) (broadcast (B3 1) 0#32)

/-- At each position the element `j` lanes away, `j` a power of two below 128: the lane with that bit flipped. -/
def lanePartner (n j : ℕ) (x : FVec F (B3 n) .f32) : FVec F (B3 n) .f32 :=
  select (broadcastTo (B3 n) (shapeCast (B3 1) (bitMask j) (by decide)) (bc_B3 n))
    (dynamicRotate 2 (BitVec.ofNat 32 j) none x (rot_B3 n))
    (dynamicRotate 2 (BitVec.ofNat 32 (128 - j)) none x (rot_B3 n))

/-- At each position the element `r` rows away, `r` a power of two below 16: the row with that bit flipped. -/
def rowPartner (n g r : ℕ) (h : g * 2 * r = 16) (x : FVec F (B3 n) .f32) : FVec F (B3 n) .f32 :=
  shapeCast (B3 n)
    (concatenate (sh5 n g 2 r 128) 2
      [⟨sh5 n g 1 r 128, extractStridedSlice (sh5 n g 1 r 128) ![0, 0, 1, 0, 0] (shapeCast (sh5 n g 2 r 128) x (sc_rows n g r h)) (sl_half n g r 1 (by decide))⟩,
       ⟨sh5 n g 1 r 128, extractStridedSlice (sh5 n g 1 r 128) ![0, 0, 0, 0, 0] (shapeCast (sh5 n g 2 r 128) x (sc_rows n g r h)) (sl_half n g r 0 (by decide))⟩]
      (cc_half n g r))
    (sc_rows' n g r h)

/-- At each position the element whose position differs in bit `s`. -/
def partner (n : ℕ) : ℕ → FVec F (B3 n) .f32 → FVec F (B3 n) .f32
  | 0 => lanePartner n 1
  | 1 => lanePartner n 2
  | 2 => lanePartner n 4
  | 3 => lanePartner n 8
  | 4 => lanePartner n 16
  | 5 => lanePartner n 32
  | 6 => lanePartner n 64
  | 7 => rowPartner n 8 1 rfl
  | 8 => rowPartner n 4 2 rfl
  | 9 => rowPartner n 2 4 rfl
  | _ => rowPartner n 1 8 rfl

/-- Six arrays that travel together: the key, the tie-breaking index, and the four corners of the boxes. -/
structure Six (F : FTy → Type) (S : Shape) where
  key : FVec F S .f32
  tie : FVec F S .f32
  p0 : FVec F S .f32
  p1 : FVec F S .f32
  p2 : FVec F S .f32
  p3 : FVec F S .f32

/-- Where the first element goes before the second: the larger key, and of equal keys the smaller tie. -/
def better {S : Shape} (k t k' t' : FVec F S .f32) : IVec S 1 :=
  ori (cmpf .ogt k k') (andi (cmpf .oeq k k') (cmpf .olt t t'))

/-- Where a position keeps its own element in the stage of bit `s`; `asc` marks the positions ordered the other way. -/
def keepMask (n s : ℕ) (asc : IVec (B3 1) 1) (k t : FVec F (B3 n) .f32) : IVec (B3 n) 1 :=
  xori (xori (better k t (partner n s k) (partner n s t)) (broadcastTo (B3 n) (bitMask (2 ^ s)) (bc_B3 n)))
    (broadcastTo (B3 n) asc (bc_B3 n))

/-- One compare-exchange stage: every position exchanges with the one whose position differs in bit `s`. -/
def stage (n s : ℕ) (asc : IVec (B3 1) 1) (b : Six F (B3 n)) : Six F (B3 n) where
  key := select (keepMask n s asc b.key b.tie) b.key (partner n s b.key)
  tie := select (keepMask n s asc b.key b.tie) b.tie (partner n s b.tie)
  p0 := select (keepMask n s asc b.key b.tie) b.p0 (partner n s b.p0)
  p1 := select (keepMask n s asc b.key b.tie) b.p1 (partner n s b.p1)
  p2 := select (keepMask n s asc b.key b.tie) b.p2 (partner n s b.p2)
  p3 := select (keepMask n s asc b.key b.tie) b.p3 (partner n s b.p3)

/-- The stages of bits `s - 1` down to 0. -/
def stages (n : ℕ) (asc : IVec (B3 1) 1) : ℕ → Six F (B3 n) → Six F (B3 n)
  | 0, b => b
  | s + 1, b => stages n asc s (stage n s asc b)

/-- The sorting network on blocks of `2 ^ k` elements, neighbouring blocks in opposite order. -/
def sortNet (n : ℕ) : ℕ → Six F (B3 n) → Six F (B3 n)
  | 0, b => b
  | k + 1, b => stages n (bitMask (2 ^ (k + 1))) (k + 1) (sortNet n k b)

/-! ## Merging two sorted blocks -/

/-- `lanePartner` for blocks listed by image. -/
def lanePartner4 (n j : ℕ) (x : FVec F (B4 n) .f32) : FVec F (B4 n) .f32 :=
  select (broadcastTo (B4 n) (shapeCast (sh4 1 1 16 128) (bitMask j) (by decide)) (bc_B4 n))
    (dynamicRotate 3 (BitVec.ofNat 32 j) none x (rot_B4 n))
    (dynamicRotate 3 (BitVec.ofNat 32 (128 - j)) none x (rot_B4 n))

/-- The rows of every block in reverse order. -/
def revRows (n : ℕ) (x : FVec F (B4 n) .f32) : FVec F (B4 n) .f32 :=
  concatenate (B4 n) 2
    [⟨sh4 4 n 1 128, extractStridedSlice (sh4 4 n 1 128) ![0, 0, 15, 0] x (sl_row n 15 (by decide))⟩,
     ⟨sh4 4 n 1 128, extractStridedSlice (sh4 4 n 1 128) ![0, 0, 14, 0] x (sl_row n 14 (by decide))⟩,
     ⟨sh4 4 n 1 128, extractStridedSlice (sh4 4 n 1 128) ![0, 0, 13, 0] x (sl_row n 13 (by decide))⟩,
     ⟨sh4 4 n 1 128, extractStridedSlice (sh4 4 n 1 128) ![0, 0, 12, 0] x (sl_row n 12 (by decide))⟩,
     ⟨sh4 4 n 1 128, extractStridedSlice (sh4 4 n 1 128) ![0, 0, 11, 0] x (sl_row n 11 (by decide))⟩,
     ⟨sh4 4 n 1 128, extractStridedSlice (sh4 4 n 1 128) ![0, 0, 10, 0] x (sl_row n 10 (by decide))⟩,
     ⟨sh4 4 n 1 128, extractStridedSlice (sh4 4 n 1 128) ![0, 0, 9, 0] x (sl_row n 9 (by decide))⟩,
     ⟨sh4 4 n 1 128, extractStridedSlice (sh4 4 n 1 128) ![0, 0, 8, 0] x (sl_row n 8 (by decide))⟩,
     ⟨sh4 4 n 1 128, extractStridedSlice (sh4 4 n 1 128) ![0, 0, 7, 0] x (sl_row n 7 (by decide))⟩,
     ⟨sh4 4 n 1 128, extractStridedSlice (sh4 4 n 1 128) ![0, 0, 6, 0] x (sl_row n 6 (by decide))⟩,
     ⟨sh4 4 n 1 128, extractStridedSlice (sh4 4 n 1 128) ![0, 0, 5, 0] x (sl_row n 5 (by decide))⟩,
     ⟨sh4 4 n 1 128, extractStridedSlice (sh4 4 n 1 128) ![0, 0, 4, 0] x (sl_row n 4 (by decide))⟩,
     ⟨sh4 4 n 1 128, extractStridedSlice (sh4 4 n 1 128) ![0, 0, 3, 0] x (sl_row n 3 (by decide))⟩,
     ⟨sh4 4 n 1 128, extractStridedSlice (sh4 4 n 1 128) ![0, 0, 2, 0] x (sl_row n 2 (by decide))⟩,
     ⟨sh4 4 n 1 128, extractStridedSlice (sh4 4 n 1 128) ![0, 0, 1, 0] x (sl_row n 1 (by decide))⟩,
     ⟨sh4 4 n 1 128, extractStridedSlice (sh4 4 n 1 128) ![0, 0, 0, 0] x (sl_row n 0 (by decide))⟩]
    (cc_revRows n)

/-- Every block back to front. -/
def revBlock (n : ℕ) (x : FVec F (B4 n) .f32) : FVec F (B4 n) .f32 :=
  lanePartner4 n 1 (lanePartner4 n 2 (lanePartner4 n 4 (lanePartner4 n 8 (lanePartner4 n 16 (lanePartner4 n 32
    (lanePartner4 n 64 (revRows n x)))))))

/-- Of each pair of blocks the first (`o = 0`) or the second (`o = 1`). -/
def half (n o : ℕ) (h : o < 2) (x : FVec F (B4 (n * 2)) .f32) : FVec F (B4 n) .f32 :=
  shapeCast (B4 n) (extractStridedSlice (sh5 4 n 1 16 128) ![0, 0, o, 0, 0] (shapeCast (sh5 4 n 2 16 128) x (sc_pair n)) (sl_pair n o h))
    (sc_unpair n)

/-- Where the first block of the pair wins over the second one reversed. -/
def winMask (n : ℕ) (k t : FVec F (B4 (n * 2)) .f32) : IVec (B4 n) 1 :=
  better (half n 0 (by decide) k) (half n 0 (by decide) t) (revBlock n (half n 1 (by decide) k)) (revBlock n (half n 1 (by decide) t))

/-- The winners of each pair of blocks, listed flat. -/
def winners (n : ℕ) (m : IVec (B4 n) 1) (x : FVec F (B4 (n * 2)) .f32) : FVec F (B3 (4 * n)) .f32 :=
  shapeCast (B3 (4 * n)) (select m (half n 0 (by decide) x) (revBlock n (half n 1 (by decide) x))) (sc_flat n)

/-- The better half of every pair of sorted blocks, not yet in order. -/
def pairWin (n : ℕ) (b : Six F (B4 (n * 2))) : Six F (B3 (4 * n)) where
  key := winners n (winMask n b.key b.tie) b.key
  tie := winners n (winMask n b.key b.tie) b.tie
  p0 := winners n (winMask n b.key b.tie) b.p0
  p1 := winners n (winMask n b.key b.tie) b.p1
  p2 := winners n (winMask n b.key b.tie) b.p2
  p3 := winners n (winMask n b.key b.tie) b.p3

/-- Six arrays through one function. -/
def Six.map {S T : Shape} (f : FVec F S .f32 → FVec F T .f32) (b : Six F S) : Six F T where
  key := f b.key
  tie := f b.tie
  p0 := f b.p0
  p1 := f b.p1
  p2 := f b.p2
  p3 := f b.p3

/-- The better half of every pair of sorted blocks, sorted. -/
def pairMerge (n : ℕ) (b : Six F (B4 (n * 2))) : Six F (B4 n) :=
  (stages (4 * n) (broadcast (B3 1) 0#1) 11 (pairWin n b)).map fun x => shapeCast (B4 n) x (sc_flat' n)

/-- An odd number of blocks: the pairs merged, the last block as it was. -/
def oddMerge (n : ℕ) (b : Six F (B4 (n * 2 + 1))) : Six F (B4 (n + 1)) :=
  let w := pairMerge n (b.map fun x => extractStridedSlice (B4 (n * 2)) ![0, 0, 0, 0] x (sl_take (n * 2 + 1) (n * 2) 0 (by omega)))
  let l := b.map fun x => extractStridedSlice (B4 1) ![0, n * 2, 0, 0] x (sl_take (n * 2 + 1) 1 (n * 2) (by omega))
  { key := concatenate (B4 (n + 1)) 1 [⟨B4 n, w.key⟩, ⟨B4 1, l.key⟩] (cc_odd n)
    tie := concatenate (B4 (n + 1)) 1 [⟨B4 n, w.tie⟩, ⟨B4 1, l.tie⟩] (cc_odd n)
    p0 := concatenate (B4 (n + 1)) 1 [⟨B4 n, w.p0⟩, ⟨B4 1, l.p0⟩] (cc_odd n)
    p1 := concatenate (B4 (n + 1)) 1 [⟨B4 n, w.p1⟩, ⟨B4 1, l.p1⟩] (cc_odd n)
    p2 := concatenate (B4 (n + 1)) 1 [⟨B4 n, w.p2⟩, ⟨B4 1, l.p2⟩] (cc_odd n)
    p3 := concatenate (B4 (n + 1)) 1 [⟨B4 n, w.p3⟩, ⟨B4 1, l.p3⟩] (cc_odd n) }

/-- The best 2048 of the ten blocks of every image, in order. -/
def topBlock (b : Six F (B3 40)) : Six F (B4 1) :=
  pairMerge 1 (oddMerge 1 (oddMerge 2 (pairMerge 5 ((sortNet 40 11 b).map fun x => shapeCast (B4 10) x (sc_flat' 10)))))

/-! ## Decoding the boxes -/

/-- The array holding one number, given by its word, everywhere. -/
def bc (S : Shape) (w : BitVec 32) : FVec F S .f32 := broadcast S (Scalar.ofBits .f32 w)

/-- A channel of the 160 by 128 layout as forty blocks. -/
def toBlocks (x : FVec F (sh3 4 160 128) .f32) : FVec F (B3 40) .f32 := shapeCast (B3 40) x (by decide)

/-- A coordinate limited to the unit interval. -/
def clip01 (x : FVec F (sh3 4 160 128) .f32) : FVec F (sh3 4 160 128) .f32 :=
  minimumf (bc _ 0x3F800000#32) (maximumf (bc _ 0x00000000#32) x)

/-- The lower corner of a decoded box along one axis, from the anchor's two corners and the two scaled deltas. -/
def lowCorner (a1 a2 d e : FVec F (sh3 4 160 128) .f32) : FVec F (sh3 4 160 128) .f32 :=
  subf (addf (addf a1 (mulf (bc _ 0x3F000000#32) (subf a2 a1))) (mulf d (subf a2 a1)))
    (mulf (bc _ 0x3F000000#32) (mulf (subf a2 a1) (exp e)))

/-- The upper corner. -/
def highCorner (a1 a2 d e : FVec F (sh3 4 160 128) .f32) : FVec F (sh3 4 160 128) .f32 :=
  addf (lowCorner a1 a2 d e) (mulf (subf a2 a1) (exp e))

/-- The index of an anchor among the 20480, as a number. -/
def anchorIdx : FVec F (sh3 4 160 128) .f32 :=
  broadcastTo (sh3 4 160 128)
    (shapeCast (sh3 1 160 128) (shapeCast (sh3 1 160 128)
      (sitofp .f32 (addi (muli (broadcast (sh2 160 128) 128#32) (iota .tc (sh2 160 128) 32 [0] (by decide)))
        (iota .tc (sh2 160 128) 32 [1] (by decide)))) (by decide)) (by decide)) (by decide)

/-- One channel as it is loaded. -/
def chan (x : FVec F (sh4 4 1 160 128) .f32) : FVec F (sh3 4 160 128) .f32 := shapeCast (sh3 4 160 128) x (by decide)

/-- A channel of deltas times its scale. -/
def scaled (w : BitVec 32) (x : FVec F (sh4 4 1 160 128) .f32) : FVec F (sh3 4 160 128) .f32 := mulf (chan x) (bc _ w)

/-- The scores, the anchors' indices and the decoded corners, as forty blocks. -/
def decoded (s : FVec F (sh3 4 160 128) .f32) (d0 d1 d2 d3 a0 a1 a2 a3 : FVec F (sh4 4 1 160 128) .f32) : Six F (B3 40) where
  key := toBlocks (shapeCast (sh3 4 160 128) s (by decide))
  tie := toBlocks anchorIdx
  p0 := toBlocks (clip01 (lowCorner (chan a0) (chan a2) (scaled 0x3DCCCCCD#32 d0) (scaled 0x3E4CCCCD#32 d2)))
  p1 := toBlocks (clip01 (lowCorner (chan a1) (chan a3) (scaled 0x3DCCCCCD#32 d1) (scaled 0x3E4CCCCD#32 d3)))
  p2 := toBlocks (clip01 (highCorner (chan a0) (chan a2) (scaled 0x3DCCCCCD#32 d0) (scaled 0x3E4CCCCD#32 d2)))
  p3 := toBlocks (clip01 (highCorner (chan a1) (chan a3) (scaled 0x3DCCCCCD#32 d1) (scaled 0x3E4CCCCD#32 d3)))

/-! ## Suppression -/

theorem sl_img (b : ℕ) (h : b < 4) : (B4 1).Slices ![b, 0, 0, 0] (sh4 1 1 16 128) :=
  ⟨rfl, fun a => by fin_cases a <;> simp [Shape.size] <;> omega⟩
theorem sl_line (r : ℕ) (h : r < 16) : (sh2 16 128).Slices ![r, 0] (sh2 1 128) :=
  ⟨rfl, fun a => by fin_cases a <;> simp [Shape.size] <;> omega⟩
theorem sl_col (o P : ℕ) (h : o + P ≤ 2048) : (sh2 2048 1).Slices ![o, 0] (sh2 P 1) :=
  ⟨rfl, fun a => by fin_cases a <;> simp [Shape.size] <;> omega⟩
theorem bc_col (P : ℕ) : (sh2 P 1).Broadcasts (sh2 P 128) :=
  ⟨le_rfl, fun a => by fin_cases a <;> simp [Shape.size]⟩
theorem bc_row (P : ℕ) : (sh2 1 128).Broadcasts (sh2 P 128) :=
  ⟨le_rfl, fun a => by fin_cases a <;> simp [Shape.size]⟩
theorem sl_eight (b : ℕ) (h : b < 4) (o : ℕ) (ho : o ≤ 8 * b + 7) : (sh2 32 128).Slices ![o, 0] (sh2 1 128) :=
  ⟨rfl, fun a => by fin_cases a <;> simp [Shape.size] <;> omega⟩
theorem sl_eight8 (o : ℕ) (ho : o ≤ 24) : (sh2 32 128).Slices ![o, 0] (sh2 8 128) :=
  ⟨rfl, fun a => by fin_cases a <;> simp [Shape.size] <;> omega⟩
theorem red_col (P : ℕ) : (sh2 P 128).Reduces [0] (sh1 128) :=
  ⟨rfl, by decide, fun b => by fin_cases b; rfl⟩
theorem cc_col16 : Shape.Concatenates (List.replicate 16 (sh2 128 1)) (sh2 2048 1) 0 := by decide
theorem cc_line16 : Shape.Concatenates (List.replicate 16 (sh2 1 128)) (sh2 16 128) 0 := by decide
theorem cc_eight4 : Shape.Concatenates (List.replicate 4 (sh2 8 128)) (sh2 32 128) 0 := by decide
theorem cc_img4 : Shape.Concatenates (List.replicate 4 (B3 1)) (B3 4) 0 := by decide
theorem cc_kept (j : ℕ) (c : ℕ → FVec F (sh2 128 1) .f32) : Shape.Concatenates
    ((List.ofFn fun i : Fin (j + 2) => (⟨sh2 128 1, c i⟩ : Σ S : Shape, FVec F S .f32)).map (·.1)) (sh2 ((j + 2) * 128) 1) 0 := by
  have e : (List.ofFn fun i : Fin (j + 2) => (⟨sh2 128 1, c i⟩ : Σ S : Shape, FVec F S .f32)).map (·.1)
      = List.replicate (j + 2) (sh2 128 1) := by
    rw [List.map_ofFn]; exact List.ofFn_const _ _
  rw [e]
  refine ⟨by simp, ?_, ?_⟩
  · intro s hs
    have : s = sh2 128 1 := List.eq_of_mem_replicate hs
    subst this
    exact ⟨rfl, fun b hb => by fin_cases b <;> first | rfl | exact absurd rfl hb⟩
  · rw [List.map_replicate, List.sum_replicate]
    simp [Shape.size]

/-- One at the diagonal, zero elsewhere. -/
def eye : FVec F (sh2 128 128) .f32 :=
  sitofp .f32 (extui 32 (cmpi .eq (iota .tc (sh2 128 128) 32 [0] (by decide)) (iota .tc (sh2 128 128) 32 [1] (by decide))) (by decide))

/-- One above the diagonal, zero elsewhere. -/
def tri : FVec F (sh2 128 128) .f32 :=
  sitofp .f32 (extui 32 (cmpi .slt (iota .tc (sh2 128 128) 32 [0] (by decide)) (iota .tc (sh2 128 128) 32 [1] (by decide))) (by decide))

/-- The contraction that turns a row into a column: over the lanes of both. -/
def dotT : DotDims (sh2 128 128) (sh2 1 128) (sh2 128 1) where
  lhsContracting := [1]
  rhsContracting := [1]
  lhsNonContracting := [0]
  rhsNonContracting := [0]
  lhsBatch := []
  rhsBatch := []
  wf := by decide

/-- The matrix product of eight rows with a square. -/
def dotM : DotDims (sh2 8 128) (sh2 128 128) (sh2 8 128) where
  lhsContracting := [1]
  rhsContracting := [0]
  lhsNonContracting := [0]
  rhsNonContracting := [1]
  lhsBatch := []
  rhsBatch := []
  wf := by decide

/-- A row as a column. -/
def rowToCol (v : FVec F (sh2 1 128) .f32) : FVec F (sh2 128 1) .f32 :=
  matmul dotT none eye v (constant (sh2 128 1) .f32 0x00000000#32)

/-- Row `r` of a block. -/
def line (r : ℕ) (h : r < 16) (x : FVec F (sh2 16 128) .f32) : FVec F (sh2 1 128) .f32 :=
  extractStridedSlice (sh2 1 128) ![r, 0] x (sl_line r h)

/-- A whole block as one column. -/
def blockCol (x : FVec F (sh2 16 128) .f32) : FVec F (sh2 2048 1) .f32 :=
  concatenate (sh2 2048 1) 0
    [⟨sh2 128 1, rowToCol (line 0 (by decide) x)⟩, ⟨sh2 128 1, rowToCol (line 1 (by decide) x)⟩,
     ⟨sh2 128 1, rowToCol (line 2 (by decide) x)⟩, ⟨sh2 128 1, rowToCol (line 3 (by decide) x)⟩,
     ⟨sh2 128 1, rowToCol (line 4 (by decide) x)⟩, ⟨sh2 128 1, rowToCol (line 5 (by decide) x)⟩,
     ⟨sh2 128 1, rowToCol (line 6 (by decide) x)⟩, ⟨sh2 128 1, rowToCol (line 7 (by decide) x)⟩,
     ⟨sh2 128 1, rowToCol (line 8 (by decide) x)⟩, ⟨sh2 128 1, rowToCol (line 9 (by decide) x)⟩,
     ⟨sh2 128 1, rowToCol (line 10 (by decide) x)⟩, ⟨sh2 128 1, rowToCol (line 11 (by decide) x)⟩,
     ⟨sh2 128 1, rowToCol (line 12 (by decide) x)⟩, ⟨sh2 128 1, rowToCol (line 13 (by decide) x)⟩,
     ⟨sh2 128 1, rowToCol (line 14 (by decide) x)⟩, ⟨sh2 128 1, rowToCol (line 15 (by decide) x)⟩] cc_col16

/-- The boxes of one image: the four corners and the areas, as blocks of rows. -/
structure Boxes (F : FTy → Type) where
  y1 : FVec F (sh2 16 128) .f32
  x1 : FVec F (sh2 16 128) .f32
  y2 : FVec F (sh2 16 128) .f32
  x2 : FVec F (sh2 16 128) .f32

/-- The areas. -/
def Boxes.area (B : Boxes F) : FVec F (sh2 16 128) .f32 := mulf (subf B.y2 B.y1) (subf B.x2 B.x1)

/-- The array of one image. -/
def img (b : ℕ) (h : b < 4) (x : FVec F (B4 1) .f32) : FVec F (sh2 16 128) .f32 :=
  shapeCast (sh2 16 128) (extractStridedSlice (sh4 1 1 16 128) ![b, 0, 0, 0] x (sl_img b h)) (by decide)

/-- The boxes of image `b`. -/
def boxes (t : Six F (B4 1)) (b : ℕ) (h : b < 4) : Boxes F where
  y1 := img b h t.p0
  x1 := img b h t.p1
  y2 := img b h t.p2
  x2 := img b h t.p3

/-- `P` rows of a column from row `o`, along every lane. -/
def cols (P o : ℕ) (h : o + P ≤ 2048) (x : FVec F (sh2 16 128) .f32) : FVec F (sh2 P 128) .f32 :=
  broadcastTo (sh2 P 128) (extractStridedSlice (sh2 P 1) ![o, 0] (blockCol x) (sl_col o P h)) (bc_col P)

/-- Row `j` along `P` rows. -/
def rows (P j : ℕ) (h : j < 16) (x : FVec F (sh2 16 128) .f32) : FVec F (sh2 P 128) .f32 :=
  broadcastTo (sh2 P 128) (line j h x) (bc_row P)

/-- The intersection of the boxes `o …  o + P - 1` (down) with those of row `j` (across). -/
def inter (P o j : ℕ) (h : o + P ≤ 2048) (hj : j < 16) (B : Boxes F) : FVec F (sh2 P 128) .f32 :=
  mulf (maximumf (subf (minimumf (cols P o h B.y2) (rows P j hj B.y2)) (maximumf (cols P o h B.y1) (rows P j hj B.y1))) (bc _ 0x00000000#32))
    (maximumf (subf (minimumf (cols P o h B.x2) (rows P j hj B.x2)) (maximumf (cols P o h B.x1) (rows P j hj B.x1))) (bc _ 0x00000000#32))

/-- Where the overlap of those boxes is above the threshold. -/
def overlaps (P o j : ℕ) (h : o + P ≤ 2048) (hj : j < 16) (B : Boxes F) : IVec (sh2 P 128) 1 :=
  cmpf .ogt
    (divf (inter P o j h hj B)
      (maximumf (subf (addf (cols P o h B.area) (rows P j hj B.area)) (inter P o j h hj B)) (bc _ 0x322BCC77#32)))
    (bc _ 0x3F333333#32)

/-- The marks of the rows before row `j`, as one column. -/
def keptCol (c : ℕ → FVec F (sh2 128 1) .f32) : (j : ℕ) → FVec F (sh2 (j * 128) 1) .f32
  | 0 => bc _ 0x00000000#32
  | 1 => c 0
  | j + 2 => concatenate (sh2 ((j + 2) * 128) 1) 0 (List.ofFn fun i : Fin (j + 2) => ⟨sh2 128 1, c i⟩) (cc_kept j c)

/-- The boxes of row `j` that a kept box of an earlier row overlaps. -/
def supBefore (B : Boxes F) (c : ℕ → FVec F (sh2 128 1) .f32) (j : ℕ) (hj : j < 16) : IVec (sh2 1 128) 1 :=
  match j, hj with
  | 0, _ => broadcast (sh2 1 128) 0#1
  | j + 1, hj =>
    cmpf .ogt
      (shapeCast (sh2 1 128)
        (multiReduction .maximumf [0] (sh1 128)
          (select (andi (overlaps ((j + 1) * 128) 0 (j + 1) (by omega) hj B)
              (broadcastTo (sh2 ((j + 1) * 128) 128) (cmpf .ogt (keptCol c (j + 1)) (bc _ 0x3F000000#32)) (bc_col _)))
            (bc (F := F) _ 0x3F800000#32) (bc _ 0x00000000#32))
          0xFF800000#32 (red_col _) (.inl rfl) rfl) (by decide))
      (bc _ 0x3F000000#32)

/-- The boxes of row `j` that count at all: the first two thousand of the block. -/
def validRow (j : ℕ) : IVec (sh2 1 128) 1 :=
  match j with
  | 15 => cmpi .slt (iota .tc (sh2 1 128) 32 [1] (by decide)) (broadcast (sh2 1 128) 80#32)
  | _ => broadcast (sh2 1 128) 1#1

/-- One for the boxes of row `j` that may still be kept, zero for the others. -/
def candRow (B : Boxes F) (c : ℕ → FVec F (sh2 128 1) .f32) (j : ℕ) (hj : j < 16) : FVec F (sh2 1 128) .f32 :=
  sitofp .f32 (extui 32 (andi (validRow j) (xori (supBefore B c j hj) (constantI (sh2 1 128) 1 1#1))) (by decide))

/-- Within row `j`: one where an earlier box overlaps a later one. -/
def overMat (B : Boxes F) (j : ℕ) (hj : j < 16) : FVec F (sh2 128 128) .f32 :=
  mulf (select (overlaps 128 (128 * j) j (by omega) hj B) (bc _ 0x3F800000#32) (bc _ 0x00000000#32)) tri

/-- The candidates of a row, eight times over. -/
def cand8 (B : Boxes F) (c : ℕ → FVec F (sh2 128 1) .f32) (j : ℕ) (hj : j < 16) : FVec F (sh2 8 128) .f32 :=
  addf (broadcastTo (sh2 8 128) (shapeCast (sh2 1 128) (candRow B c j hj) (by decide)) (by decide))
    (mulf (extractStridedSlice (sh2 8 128) ![0, 0] (overMat B j hj) (by decide)) (bc _ 0x00000000#32))

/-- Four arrays of eight rows, stacked. -/
def stack8 (a b c d : FVec F (sh2 8 128) .f32) : FVec F (sh2 32 128) .f32 :=
  concatenate (sh2 32 128) 0 [⟨sh2 8 128, a⟩, ⟨sh2 8 128, b⟩, ⟨sh2 8 128, c⟩, ⟨sh2 8 128, d⟩] cc_eight4

/-- What a loop reads: the four overlap matrices and the stacked candidates. -/
structure LoopIn (F : FTy → Type) where
  m0 : FVec F (sh2 128 128) .f32
  m1 : FVec F (sh2 128 128) .f32
  m2 : FVec F (sh2 128 128) .f32
  m3 : FVec F (sh2 128 128) .f32
  cand : FVec F (sh2 32 128) .f32

/-- One iteration: the candidates no box of the last round overlaps. -/
def LoopIn.next (L : LoopIn F) (x : FVec F (sh2 32 128) .f32) : FVec F (sh2 32 128) .f32 :=
  mulf L.cand
    (select
      (cmpf .olt
        (stack8
          (matmul dotM none (extractStridedSlice (sh2 8 128) ![0, 0] x (sl_eight8 0 (by decide))) L.m0 (constant (sh2 8 128) .f32 0x00000000#32))
          (matmul dotM none (extractStridedSlice (sh2 8 128) ![8, 0] x (sl_eight8 8 (by decide))) L.m1 (constant (sh2 8 128) .f32 0x00000000#32))
          (matmul dotM none (extractStridedSlice (sh2 8 128) ![16, 0] x (sl_eight8 16 (by decide))) L.m2 (constant (sh2 8 128) .f32 0x00000000#32))
          (matmul dotM none (extractStridedSlice (sh2 8 128) ![24, 0] x (sl_eight8 24 (by decide))) L.m3 (constant (sh2 8 128) .f32 0x00000000#32)))
        (bc _ 0x3F000000#32))
      (bc _ 0x3F800000#32) (bc _ 0x00000000#32))

/-- Whether the loop goes on: the last two rounds differ and fewer than 129 have been made. -/
def goOn (prev cur : FVec F (sh2 32 128) .f32) (it : BitVec 32) : BitVec 1 :=
  Scalar.andi
    (Scalar.cmpf .ogt
      (extractAt ![0, 0, 0]
        (shapeCast (sh3 1 1 1)
          (multiReduction .add [1, 2] (sh1 1) (shapeCast (sh3 1 32 128) (absf (subf cur prev)) (by decide)) 0x00000000#32 (by decide) (.inl rfl) rfl)
          (by decide)) (by decide))
      (Scalar.ofBits .f32 0x00000000#32))
    (Scalar.cmpi .slt it 129#32)

/-- The three things a loop carries. -/
abbrev Carry (F : FTy → Type) := FVec F (sh2 32 128) .f32 × FVec F (sh2 32 128) .f32 × BitVec 32

/-- The loop, for at most `n` iterations. -/
def LoopIn.run (L : LoopIn F) : ℕ → FVec F (sh2 32 128) .f32 → FVec F (sh2 32 128) .f32 → BitVec 32 → Carry F
  | 0, prev, cur, it => (prev, cur, it)
  | n + 1, prev, cur, it =>
    if goOn prev cur it = 1#1 then L.run n cur (L.next cur) (Scalar.addi it 1#32) else (prev, cur, it)

/-- What the loop leaves: the candidates that are kept, stacked. -/
def LoopIn.result (L : LoopIn F) : FVec F (sh2 32 128) .f32 :=
  (L.run 129 (subf L.cand (bc _ 0x40000000#32)) L.cand 0#32).2.1

/-- The four images' marks so far: of image `b`, of row `j`, as a row and as a column. -/
structure Marks (F : FTy → Type) where
  row : ℕ → ℕ → FVec F (sh2 1 128) .f32
  col : ℕ → ℕ → FVec F (sh2 128 1) .f32

/-- What row `j` hands its loop. -/
def loopIn (t : Six F (B4 1)) (M : Marks F) (j : ℕ) (hj : j < 16) : LoopIn F where
  m0 := overMat (boxes t 0 (by decide)) j hj
  m1 := overMat (boxes t 1 (by decide)) j hj
  m2 := overMat (boxes t 2 (by decide)) j hj
  m3 := overMat (boxes t 3 (by decide)) j hj
  cand := stack8 (cand8 (boxes t 0 (by decide)) (M.col 0) j hj) (cand8 (boxes t 1 (by decide)) (M.col 1) j hj)
    (cand8 (boxes t 2 (by decide)) (M.col 2) j hj) (cand8 (boxes t 3 (by decide)) (M.col 3) j hj)

/-- The marks of image `b` in what the loop left. -/
def keptRow (b : ℕ) (h : b < 4) (x : FVec F (sh2 32 128) .f32) : FVec F (sh2 1 128) .f32 :=
  extractStridedSlice (sh2 1 128) ![8 * b, 0] x (sl_eight b h (8 * b) (by omega))

/-- The marks of image `b` in what the loop left, `b` any number. -/
def keptRow' (x : FVec F (sh2 32 128) .f32) : ℕ → FVec F (sh2 1 128) .f32
  | 0 => keptRow 0 (by decide) x
  | 1 => keptRow 1 (by decide) x
  | 2 => keptRow 2 (by decide) x
  | _ => keptRow 3 (by decide) x

/-- The marks with row `j` added. -/
def Marks.add (M : Marks F) (j : ℕ) (x : FVec F (sh2 32 128) .f32) : Marks F where
  row b i := bif Nat.beq i j then keptRow' x b else M.row b i
  col b i := bif Nat.beq i j then rowToCol (keptRow' x b) else M.col b i

/-- No marks yet. -/
def Marks.none : Marks F where
  row _ _ := bc _ 0x00000000#32
  col _ _ := bc _ 0x00000000#32

/-- The marks after the first `j` rows. -/
def marksTo (t : Six F (B4 1)) : ℕ → Marks F
  | 0 => Marks.none
  | j + 1 => if h : j < 16 then (marksTo t j).add j (loopIn t (marksTo t j) j h).result else marksTo t j

theorem marksTo_succ (t : Six F (B4 1)) (j : ℕ) (h : j < 16) :
    marksTo t (j + 1) = (marksTo t j).add j (loopIn t (marksTo t j) j h).result := by
  show (if h : j < 16 then _ else _) = _
  rw [dif_pos h]

/-! ## The kept boxes brought to the front -/

/-- Where a position keeps its own element in the stage of bit `s`, by the key alone. -/
def keepKey (n s : ℕ) (asc : IVec (B3 1) 1) (k : FVec F (B3 n) .f32) : IVec (B3 n) 1 :=
  xori (xori (cmpf .ogt k (partner n s k)) (broadcastTo (B3 n) (bitMask (2 ^ s)) (bc_B3 n)))
    (broadcastTo (B3 n) asc (bc_B3 n))

/-- Five arrays that travel together: the key and the four corners. -/
structure Five (F : FTy → Type) (S : Shape) where
  key : FVec F S .f32
  p0 : FVec F S .f32
  p1 : FVec F S .f32
  p2 : FVec F S .f32
  p3 : FVec F S .f32

/-- One compare-exchange stage by the key alone. -/
def stageKey (n s : ℕ) (asc : IVec (B3 1) 1) (b : Five F (B3 n)) : Five F (B3 n) where
  key := select (keepKey n s asc b.key) b.key (partner n s b.key)
  p0 := select (keepKey n s asc b.key) b.p0 (partner n s b.p0)
  p1 := select (keepKey n s asc b.key) b.p1 (partner n s b.p1)
  p2 := select (keepKey n s asc b.key) b.p2 (partner n s b.p2)
  p3 := select (keepKey n s asc b.key) b.p3 (partner n s b.p3)

/-- The stages of bits `s - 1` down to 0, by the key alone. -/
def stagesKey (n : ℕ) (asc : IVec (B3 1) 1) : ℕ → Five F (B3 n) → Five F (B3 n)
  | 0, b => b
  | s + 1, b => stagesKey n asc s (stageKey n s asc b)

/-- The network that sorts upward, by the key alone. -/
def sortUp (n : ℕ) : ℕ → Five F (B3 n) → Five F (B3 n)
  | 0, b => b
  | k + 1, b => stagesKey n (xori (bitMask (2 ^ (k + 1))) (constantI (B3 1) 1 1#1)) (k + 1) (sortUp n k b)

/-- The sixteen rows of marks of one image. -/
def markBlock (r : ℕ → FVec F (sh2 1 128) .f32) : FVec F (sh2 16 128) .f32 :=
  concatenate (sh2 16 128) 0
    [⟨sh2 1 128, r 0⟩, ⟨sh2 1 128, r 1⟩, ⟨sh2 1 128, r 2⟩, ⟨sh2 1 128, r 3⟩, ⟨sh2 1 128, r 4⟩, ⟨sh2 1 128, r 5⟩,
     ⟨sh2 1 128, r 6⟩, ⟨sh2 1 128, r 7⟩, ⟨sh2 1 128, r 8⟩, ⟨sh2 1 128, r 9⟩, ⟨sh2 1 128, r 10⟩, ⟨sh2 1 128, r 11⟩,
     ⟨sh2 1 128, r 12⟩, ⟨sh2 1 128, r 13⟩, ⟨sh2 1 128, r 14⟩, ⟨sh2 1 128, r 15⟩] cc_line16

/-- The marks of the four images. -/
def allMarks (M : Marks F) : FVec F (B3 4) .f32 :=
  concatenate (B3 4) 0
    [⟨B3 1, shapeCast (B3 1) (markBlock (M.row 0)) (by decide)⟩, ⟨B3 1, shapeCast (B3 1) (markBlock (M.row 1)) (by decide)⟩,
     ⟨B3 1, shapeCast (B3 1) (markBlock (M.row 2)) (by decide)⟩, ⟨B3 1, shapeCast (B3 1) (markBlock (M.row 3)) (by decide)⟩] cc_img4

/-- How many boxes of each image are kept. -/
def keptTotal (M : Marks F) : FVec F (sh3 4 1 1) .f32 :=
  shapeCast (sh3 4 1 1) (multiReduction .add [1, 2] (sh1 4) (allMarks M) 0x00000000#32 (by decide) (.inl rfl) rfl) (by decide)

/-- The positions as numbers. -/
def posF : FVec F (B3 1) .f32 := sitofp .f32 ploc

/-- The key of the last sort: the position of a kept box, the position plus 2048 of any other. -/
def lastKey (M : Marks F) : FVec F (B3 4) .f32 :=
  select (cmpf .ogt (allMarks M) (bc _ 0x3F000000#32))
    (broadcastTo (B3 4) (shapeCast (B3 1) posF (by decide)) (bc_B3 4))
    (broadcastTo (B3 4) (shapeCast (B3 1) (addf posF (bc _ 0x45000000#32)) (by decide)) (bc_B3 4))

/-- The kept boxes first, in order. -/
def compacted (t : Six F (B4 1)) (M : Marks F) : Five F (B3 4) :=
  sortUp 4 11
    { key := lastKey M
      p0 := shapeCast (B3 4) t.p0 (by decide)
      p1 := shapeCast (B3 4) t.p1 (by decide)
      p2 := shapeCast (B3 4) t.p2 (by decide)
      p3 := shapeCast (B3 4) t.p3 (by decide) }

/-- One for the slots that hold a kept box, at most a thousand. -/
def okSlots (M : Marks F) : FVec F (sh3 4 8 128) .f32 :=
  sitofp .f32 (extui 32
    (cmpf .olt (broadcastTo (sh3 4 8 128) (extractStridedSlice (sh3 1 8 128) ![0, 0, 0] posF (by decide)) (by decide))
      (broadcastTo (sh3 4 8 128) (minimumf (keptTotal M) (bc _ 0x447A0000#32)) (by decide))) (by decide))

/-- One corner of the boxes in the slots, zero in the empty ones. -/
def slotOut (M : Marks F) (p : FVec F (B3 4) .f32) : FVec F (sh4 4 1 8 128) .f32 :=
  shapeCast (sh4 4 1 8 128) (mulf (extractStridedSlice (sh3 4 8 128) ![0, 0, 0] p (by decide)) (okSlots M)) (by decide)

end Rpn

end
-- ==== Proof.Loop.lean ====
/-
  The suppression loop as a program: a label that calls itself while `goOn` holds leaves what `LoopIn.run` computes.
  The count of rounds made so far stands in the argument, so the rounds left are the variant.
-/
module

public import proofs.«01_k».proof.Proof.Model
public import Idealize.ShloMosaic.Lib.Tactic
public import Idealize.ShloMosaic.Lib.Pipeline.Kit

@[expose] public section

noncomputable section

namespace Rpn

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rounds left, as the variant of a loop. -/
def rounds : Variants := ⟨ℕ, (· < ·), Nat.lt_wfRel.wf⟩

/-- At the last count the loop stops. -/
theorem goOn_last (prev cur : FVec F (sh2 32 128) .f32) : goOn prev cur 129#32 ≠ 1#1 := by
  unfold goOn
  have h : Scalar.cmpi CmpIPredicate.slt 129#32 129#32 = 0#1 := by decide
  rw [h]
  generalize Scalar.cmpf (F := F) (φ := .f32) _ _ _ = x
  revert x; decide

/-- The next count. -/
theorem count_next (n : ℕ) (h : n + 1 ≤ 129) : Scalar.addi (BitVec.ofNat 32 (129 - (n + 1))) 1#32 = BitVec.ofNat 32 (129 - n) := by
  have e : 129 - n = 129 - (n + 1) + 1 := by omega
  rw [e, BitVec.ofNat_add]; rfl

section
variable {nD : ℕ} {τ : Topo} {sig : RefSig} {Λ : Labels} {U : Type} [URA U]
local notation "𝕄" => MT nD τ sig Unit (Elt F) ℕ U ℕ

/-- A call of the loop with `n` rounds left runs to what `LoopIn.run` computes in them. -/
theorem wp_loop (defs : Defs nD τ sig (Elt F) Λ) (c : Thread nD τ) (ℓ : Λ.Label)
    (arg : FVec F (sh2 32 128) .f32 → FVec F (sh2 32 128) .f32 → BitVec 32 → Λ.Args ℓ) (out : Carry F → Λ.Result ℓ) (L : LoopIn F)
    (hdef : ∀ p q i, defs c.2 ℓ (arg p q i)
      = if goOn p q i = 1#1 then .op (.call ℓ (arg q (L.next q) (Scalar.addi i 1#32))) .ret else .ret (out (p, q, i))) :
    ∀ (n : ℕ) (_ : n ≤ 129) (p q : FVec F (sh2 32 128) .f32) (bd : Option rounds.V) (_ : ∀ u ∈ bd, n < u) (K : Λ.Result ℓ → sProp 𝕄),
      K (out (L.run n p q (BitVec.ofNat 32 (129 - n))))
        ⊢ wp frame (wpE defs rounds c bd) Set.univ (.op (.call ℓ (arg p q (BitVec.ofNat 32 (129 - n)))) .ret) K := by
  intro n
  induction n with
  | zero =>
    intro _ p q bd hbd K
    refine BIBase.Entails.trans ?_ (wp_call rounds c bd Set.univ (0 : ℕ) hbd)
    rw [hdef]
    rw [if_neg (goOn_last p q)]
    exact BIBase.Entails.trans BI.fupd_intro (BI.fupd_mono BI.fupd_intro)
  | succ n ih =>
    intro hn p q bd hbd K
    refine BIBase.Entails.trans ?_ (wp_call rounds c bd Set.univ (n + 1 : ℕ) hbd)
    rw [hdef]
    simp only [LoopIn.run]
    split
    · rw [count_next n hn]
      refine BIBase.Entails.trans ?_ (ih (by omega) _ _ _ (by intro u hu; cases hu; exact Nat.lt_succ_self n) _)
      exact BI.fupd_intro
    · exact BIBase.Entails.trans BI.fupd_intro (BI.fupd_mono BI.fupd_intro)

/-- What the loop hands back. -/
@[irreducible] def loopEnd (L : LoopIn F) : Carry F := L.run 129 (subf L.cand (bc _ 0x40000000#32)) L.cand 0#32

theorem loopEnd_eq (L : LoopIn F) : loopEnd L = L.run 129 (subf L.cand (bc _ 0x40000000#32)) L.cand 0#32 := by unfold loopEnd; rfl

theorem result_eq (L : LoopIn F) : L.result = (loopEnd L).2.1 := by rw [loopEnd_eq]; rfl

/-- The call as the kernel makes it: all the rounds left, the first arrays in place. -/
theorem wp_loop_start (defs : Defs nD τ sig (Elt F) Λ) (c : Thread nD τ) (ℓ : Λ.Label)
    (arg : FVec F (sh2 32 128) .f32 → FVec F (sh2 32 128) .f32 → BitVec 32 → Λ.Args ℓ) (out : Carry F → Λ.Result ℓ) (L : LoopIn F)
    (hdef : ∀ p q i, defs c.2 ℓ (arg p q i)
      = if goOn p q i = 1#1 then .op (.call ℓ (arg q (L.next q) (Scalar.addi i 1#32))) .ret else .ret (out (p, q, i)))
    (K : Λ.Result ℓ → sProp 𝕄) :
    K (out (loopEnd L))
      ⊢ wp frame (wpE defs rounds c none) Set.univ (.op (.call ℓ (arg (subf L.cand (bc _ 0x40000000#32)) L.cand 0#32)) .ret) K := by
  have h := wp_loop defs c ℓ arg out L hdef 129 le_rfl (subf L.cand (bc _ 0x40000000#32)) L.cand none (by intro u hu; cases hu) K
  rw [show BitVec.ofNat 32 (129 - 129) = 0#32 from rfl, ← loopEnd_eq] at h
  exact h

end

end Rpn
-- ==== Proof.BodyKernelIdeal.lean ====
/-
  The kernel's body, its arithmetic read through the functions of `Proof.Model`: nine loads of channels and scores,
  the best block, sixteen loops, four stores.
-/
module

public import proofs.«01_k».proof.KernelIdeal
public import proofs.«01_k».proof.Proof.Model
public import Idealize.ShloMosaic.Lib.Pipeline.Regions

@[expose] public section

noncomputable section

namespace Cert.KernelIdeal

open Idealize.ShloMosaic Idealize.SL.Sem Rpn
open Facts₀ Facts

variable {F : FTy → Type} [FloatOps F] [Facts]

/-- What a loop hands back. -/
abbrev LoopOut (F : FTy → Type) := FVec F S32x128 .f32 × FVec F S32x128 .f32 × BitVec 32

/-- The call of loop 1. -/
def loop1 (L : LoopIn F) : Prog (TpuEff nD τ sig (Elt F) (Λ₀ F) .tc) (LoopOut F) :=
  Prog.lift (.call (1 : (Λ₀ F).Label) ⟨L.m0, L.m1, L.m2, L.m3, L.cand, subf L.cand (bc _ 0x40000000#32), L.cand, 0#32⟩)

/-- The call of loop 2. -/
def loop2 (L : LoopIn F) : Prog (TpuEff nD τ sig (Elt F) (Λ₀ F) .tc) (LoopOut F) :=
  Prog.lift (.call (2 : (Λ₀ F).Label) ⟨L.m0, L.m1, L.m2, L.m3, L.cand, subf L.cand (bc _ 0x40000000#32), L.cand, 0#32⟩)

/-- The call of loop 3. -/
def loop3 (L : LoopIn F) : Prog (TpuEff nD τ sig (Elt F) (Λ₀ F) .tc) (LoopOut F) :=
  Prog.lift (.call (3 : (Λ₀ F).Label) ⟨L.m0, L.m1, L.m2, L.m3, L.cand, subf L.cand (bc _ 0x40000000#32), L.cand, 0#32⟩)

/-- The call of loop 4. -/
def loop4 (L : LoopIn F) : Prog (TpuEff nD τ sig (Elt F) (Λ₀ F) .tc) (LoopOut F) :=
  Prog.lift (.call (4 : (Λ₀ F).Label) ⟨L.m0, L.m1, L.m2, L.m3, L.cand, subf L.cand (bc _ 0x40000000#32), L.cand, 0#32⟩)

/-- The call of loop 5. -/
def loop5 (L : LoopIn F) : Prog (TpuEff nD τ sig (Elt F) (Λ₀ F) .tc) (LoopOut F) :=
  Prog.lift (.call (5 : (Λ₀ F).Label) ⟨L.m0, L.m1, L.m2, L.m3, L.cand, subf L.cand (bc _ 0x40000000#32), L.cand, 0#32⟩)

/-- The call of loop 6. -/
def loop6 (L : LoopIn F) : Prog (TpuEff nD τ sig (Elt F) (Λ₀ F) .tc) (LoopOut F) :=
  Prog.lift (.call (6 : (Λ₀ F).Label) ⟨L.m0, L.m1, L.m2, L.m3, L.cand, subf L.cand (bc _ 0x40000000#32), L.cand, 0#32⟩)

/-- The call of loop 7. -/
def loop7 (L : LoopIn F) : Prog (TpuEff nD τ sig (Elt F) (Λ₀ F) .tc) (LoopOut F) :=
  Prog.lift (.call (7 : (Λ₀ F).Label) ⟨L.m0, L.m1, L.m2, L.m3, L.cand, subf L.cand (bc _ 0x40000000#32), L.cand, 0#32⟩)

/-- The call of loop 8. -/
def loop8 (L : LoopIn F) : Prog (TpuEff nD τ sig (Elt F) (Λ₀ F) .tc) (LoopOut F) :=
  Prog.lift (.call (8 : (Λ₀ F).Label) ⟨L.m0, L.m1, L.m2, L.m3, L.cand, subf L.cand (bc _ 0x40000000#32), L.cand, 0#32⟩)

/-- The call of loop 9. -/
def loop9 (L : LoopIn F) : Prog (TpuEff nD τ sig (Elt F) (Λ₀ F) .tc) (LoopOut F) :=
  Prog.lift (.call (9 : (Λ₀ F).Label) ⟨L.m0, L.m1, L.m2, L.m3, L.cand, subf L.cand (bc _ 0x40000000#32), L.cand, 0#32⟩)

/-- The call of loop 10. -/
def loop10 (L : LoopIn F) : Prog (TpuEff nD τ sig (Elt F) (Λ₀ F) .tc) (LoopOut F) :=
  Prog.lift (.call (10 : (Λ₀ F).Label) ⟨L.m0, L.m1, L.m2, L.m3, L.cand, subf L.cand (bc _ 0x40000000#32), L.cand, 0#32⟩)

/-- The call of loop 11. -/
def loop11 (L : LoopIn F) : Prog (TpuEff nD τ sig (Elt F) (Λ₀ F) .tc) (LoopOut F) :=
  Prog.lift (.call (11 : (Λ₀ F).Label) ⟨L.m0, L.m1, L.m2, L.m3, L.cand, subf L.cand (bc _ 0x40000000#32), L.cand, 0#32⟩)

/-- The call of loop 12. -/
def loop12 (L : LoopIn F) : Prog (TpuEff nD τ sig (Elt F) (Λ₀ F) .tc) (LoopOut F) :=
  Prog.lift (.call (12 : (Λ₀ F).Label) ⟨L.m0, L.m1, L.m2, L.m3, L.cand, subf L.cand (bc _ 0x40000000#32), L.cand, 0#32⟩)

/-- The call of loop 13. -/
def loop13 (L : LoopIn F) : Prog (TpuEff nD τ sig (Elt F) (Λ₀ F) .tc) (LoopOut F) :=
  Prog.lift (.call (13 : (Λ₀ F).Label) ⟨L.m0, L.m1, L.m2, L.m3, L.cand, subf L.cand (bc _ 0x40000000#32), L.cand, 0#32⟩)

/-- The call of loop 14. -/
def loop14 (L : LoopIn F) : Prog (TpuEff nD τ sig (Elt F) (Λ₀ F) .tc) (LoopOut F) :=
  Prog.lift (.call (14 : (Λ₀ F).Label) ⟨L.m0, L.m1, L.m2, L.m3, L.cand, subf L.cand (bc _ 0x40000000#32), L.cand, 0#32⟩)

/-- The call of loop 15. -/
def loop15 (L : LoopIn F) : Prog (TpuEff nD τ sig (Elt F) (Λ₀ F) .tc) (LoopOut F) :=
  Prog.lift (.call (15 : (Λ₀ F).Label) ⟨L.m0, L.m1, L.m2, L.m3, L.cand, subf L.cand (bc _ 0x40000000#32), L.cand, 0#32⟩)

/-- The call of loop 16. -/
def loop16 (L : LoopIn F) : Prog (TpuEff nD τ sig (Elt F) (Λ₀ F) .tc) (LoopOut F) :=
  Prog.lift (.call (16 : (Λ₀ F).Label) ⟨L.m0, L.m1, L.m2, L.m3, L.cand, subf L.cand (bc _ 0x40000000#32), L.cand, 0#32⟩)

/-- Row `j` by its loop: the marks of the rows before it, and its own added. -/
def rowStep (j : ℕ) (hj : j < 16) (loop : LoopIn F → Prog (TpuEff nD τ sig (Elt F) (Λ₀ F) .tc) (LoopOut F)) (t : Six F (B4 1)) (M : Marks F) :
    Prog (TpuEff nD τ sig (Elt F) (Λ₀ F) .tc) (Marks F) := do
  let r ← loop (loopIn t M j hj)
  pure (M.add j r.2.1)

/-- The sixteen loops in turn, each with the marks of the rows before it. -/
def loops (t : Six F (B4 1)) : Prog (TpuEff nD τ sig (Elt F) (Λ₀ F) .tc) (Marks F) := do
  let M ← rowStep 0 (by decide) loop1 t (marksTo t 0)
  let M ← rowStep 1 (by decide) loop2 t M
  let M ← rowStep 2 (by decide) loop3 t M
  let M ← rowStep 3 (by decide) loop4 t M
  let M ← rowStep 4 (by decide) loop5 t M
  let M ← rowStep 5 (by decide) loop6 t M
  let M ← rowStep 6 (by decide) loop7 t M
  let M ← rowStep 7 (by decide) loop8 t M
  let M ← rowStep 8 (by decide) loop9 t M
  let M ← rowStep 9 (by decide) loop10 t M
  let M ← rowStep 10 (by decide) loop11 t M
  let M ← rowStep 11 (by decide) loop12 t M
  let M ← rowStep 12 (by decide) loop13 t M
  let M ← rowStep 13 (by decide) loop14 t M
  let M ← rowStep 14 (by decide) loop15 t M
  rowStep 15 (by decide) loop16 t M

/-- One channel of the deltas or of the anchors. -/
def loadChan (arg : Memref sig .tc .vmem S4x4x160x128 .f32) (c : Fin 4) :
    Prog (TpuEff nD τ sig (Elt F) (Λ₀ F) .tc) (Vec F S4x1x160x128 .f32) :=
  match c with
  | 0 => Prog.lift (.load arg (Rect.unit (s := S4x4x160x128) ![0, 0, 0, 0] S4x1x160x128.size inb_S4x4x160x128_S4x1x160x128_0_0_0_0).toLoadRect (View.loadsAt_vmem h_S4x1x160x128))
  | 1 => Prog.lift (.load arg (Rect.unit (s := S4x4x160x128) ![0, 1, 0, 0] S4x1x160x128.size inb_S4x4x160x128_S4x1x160x128_0_1_0_0).toLoadRect (View.loadsAt_vmem h_S4x1x160x128))
  | 2 => Prog.lift (.load arg (Rect.unit (s := S4x4x160x128) ![0, 2, 0, 0] S4x1x160x128.size inb_S4x4x160x128_S4x1x160x128_0_2_0_0).toLoadRect (View.loadsAt_vmem h_S4x1x160x128))
  | 3 => Prog.lift (.load arg (Rect.unit (s := S4x4x160x128) ![0, 3, 0, 0] S4x1x160x128.size inb_S4x4x160x128_S4x1x160x128_0_3_0_0).toLoadRect (View.loadsAt_vmem h_S4x1x160x128))

/-- The write of one channel of the result, after a read that is not used. -/
def storeChan (arg3 : Memref sig .tc .vmem S4x4x8x128 .f32) (v : FVec F S4x1x8x128 .f32) (c : Fin 4) :
    Prog (TpuEff nD τ sig (Elt F) (Λ₀ F) .tc) PUnit :=
  match c with
  | 0 => do
    let _ : Vec F S4x1x8x128 .f32 ← Prog.lift (.load arg3 (Rect.unit (s := S4x4x8x128) ![0, 0, 0, 0] S4x1x8x128.size inb_S4x4x8x128_S4x1x8x128_0_0_0_0).toLoadRect (View.loadsAt_vmem h_S4x1x8x128))
    Prog.lift (.store arg3 (Rect.unit (s := S4x4x8x128) ![0, 0, 0, 0] S4x1x8x128.size inb_S4x4x8x128_S4x1x8x128_0_0_0_0) v Finset.univ (View.stores_vmem_bits_univ h_S4x1x8x128 rfl) (.inl rfl))
  | 1 => do
    let _ : Vec F S4x1x8x128 .f32 ← Prog.lift (.load arg3 (Rect.unit (s := S4x4x8x128) ![0, 1, 0, 0] S4x1x8x128.size inb_S4x4x8x128_S4x1x8x128_0_1_0_0).toLoadRect (View.loadsAt_vmem h_S4x1x8x128))
    Prog.lift (.store arg3 (Rect.unit (s := S4x4x8x128) ![0, 1, 0, 0] S4x1x8x128.size inb_S4x4x8x128_S4x1x8x128_0_1_0_0) v Finset.univ (View.stores_vmem_bits_univ h_S4x1x8x128 rfl) (.inl rfl))
  | 2 => do
    let _ : Vec F S4x1x8x128 .f32 ← Prog.lift (.load arg3 (Rect.unit (s := S4x4x8x128) ![0, 2, 0, 0] S4x1x8x128.size inb_S4x4x8x128_S4x1x8x128_0_2_0_0).toLoadRect (View.loadsAt_vmem h_S4x1x8x128))
    Prog.lift (.store arg3 (Rect.unit (s := S4x4x8x128) ![0, 2, 0, 0] S4x1x8x128.size inb_S4x4x8x128_S4x1x8x128_0_2_0_0) v Finset.univ (View.stores_vmem_bits_univ h_S4x1x8x128 rfl) (.inl rfl))
  | 3 => do
    let _ : Vec F S4x1x8x128 .f32 ← Prog.lift (.load arg3 (Rect.unit (s := S4x4x8x128) ![0, 3, 0, 0] S4x1x8x128.size inb_S4x4x8x128_S4x1x8x128_0_3_0_0).toLoadRect (View.loadsAt_vmem h_S4x1x8x128))
    Prog.lift (.store arg3 (Rect.unit (s := S4x4x8x128) ![0, 3, 0, 0] S4x1x8x128.size inb_S4x4x8x128_S4x1x8x128_0_3_0_0) v Finset.univ (View.stores_vmem_bits_univ h_S4x1x8x128 rfl) (.inl rfl))

/-- The body. -/
def bodyM (arg0 : Memref sig .tc .vmem S4x160x128 .f32) (harg0 : arg0.IsWhole) (arg1 : Memref sig .tc .vmem S4x4x160x128 .f32) (harg1 : arg1.IsWhole)
    (arg2 : Memref sig .tc .vmem S4x4x160x128 .f32) (harg2 : arg2.IsWhole) (arg3 : Memref sig .tc .vmem S4x4x8x128 .f32) (harg3 : arg3.IsWhole) : Prog (TpuEff nD τ sig (Elt F) (Λ₀ F) .tc) PUnit := do
  let d0 ← loadChan arg1 0
  let d1 ← loadChan arg1 1
  let d2 ← loadChan arg1 2
  let d3 ← loadChan arg1 3
  let a0 ← loadChan arg2 0
  let a1 ← loadChan arg2 1
  let a2 ← loadChan arg2 2
  let a3 ← loadChan arg2 3
  let s : Vec F S4x160x128 .f32 ← Prog.lift (.load arg0 (Rect.unit (s := S4x160x128) ![0, 0, 0] S4x160x128.size inb_S4x160x128_S4x160x128_0_0_0).toLoadRect (View.loadsAt_vmem h_S4x160x128))
  let t := topBlock (decoded s d0 d1 d2 d3 a0 a1 a2 a3)
  let M ← loops t
  storeChan arg3 (slotOut M (compacted t M).p0) 0
  storeChan arg3 (slotOut M (compacted t M).p1) 1
  storeChan arg3 (slotOut M (compacted t M).p2) 2
  storeChan arg3 (slotOut M (compacted t M).p3) 3

/-- The printed body is this one. -/
theorem body_eq (arg0 : Memref sig .tc .vmem S4x160x128 .f32) (harg0 : arg0.IsWhole) (arg1 : Memref sig .tc .vmem S4x4x160x128 .f32) (harg1 : arg1.IsWhole)
    (arg2 : Memref sig .tc .vmem S4x4x160x128 .f32) (harg2 : arg2.IsWhole) (arg3 : Memref sig .tc .vmem S4x4x8x128 .f32) (harg3 : arg3.IsWhole) :
    cc0__body (F := F) arg0 harg0 arg1 harg1 arg2 harg2 arg3 harg3 = bodyM arg0 harg0 arg1 harg1 arg2 harg2 arg3 harg3 := by
  chain_rfl

end Cert.KernelIdeal

end
-- ==== Proof.LoopsKernelIdeal.lean ====
/-
  The kernel's body run once: the three inputs are read, the best boxes chosen and thinned out, and the result's four
  channels written. What each loop leaves is `LoopIn.result` (`Proof.Loop`).
-/
module

public import proofs.«01_k».proof.Proof.Gen.KernelIdeal
public import proofs.«01_k».proof.Proof.BodyKernelIdeal
public import proofs.«01_k».proof.Proof.Loop

@[expose] public section

noncomputable section

namespace Cert.KernelIdeal

open Rpn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loops -/

theorem loop1_def (L : LoopIn F) (p q : FVec F S32x128 .f32) (i : BitVec 32) :
    defs₀ (F := F) .tc 1 (⟨L.m0, L.m1, L.m2, L.m3, L.cand, p, q, i⟩ : Cc0While1 F)
      = (if goOn p q i = 1#1 then
          .op (.call (1 : (Λ₀ F).Label) (⟨L.m0, L.m1, L.m2, L.m3, L.cand, q, L.next q, Scalar.addi i 1#32⟩ : Cc0While1 F)) .ret
        else .ret (p, q, i) : Prog (TpuEff nD τ sig (Elt F) (Λ₀ F) .tc) (LoopOut F)) := by
  chain_rfl

theorem wp_loop1 (c : Dev nD) (L : LoopIn F) (K : LoopOut F → sProp 𝕄) :
    K (loopEnd L)
      ⊢ wp frame (wpE (defs₀ (F := F)) rounds (c : Thread nD τ) none) Set.univ (loop1 L) K :=
  wp_loop_start (Λ := Λ₀ F) defs₀ (c : Thread nD τ) 1 (fun p q i => (⟨L.m0, L.m1, L.m2, L.m3, L.cand, p, q, i⟩ : Cc0While1 F))
    (fun x => x) L (loop1_def L) K

theorem loop2_def (L : LoopIn F) (p q : FVec F S32x128 .f32) (i : BitVec 32) :
    defs₀ (F := F) .tc 2 (⟨L.m0, L.m1, L.m2, L.m3, L.cand, p, q, i⟩ : Cc0While2 F)
      = (if goOn p q i = 1#1 then
          .op (.call (2 : (Λ₀ F).Label) (⟨L.m0, L.m1, L.m2, L.m3, L.cand, q, L.next q, Scalar.addi i 1#32⟩ : Cc0While2 F)) .ret
        else .ret (p, q, i) : Prog (TpuEff nD τ sig (Elt F) (Λ₀ F) .tc) (LoopOut F)) := by
  chain_rfl

theorem wp_loop2 (c : Dev nD) (L : LoopIn F) (K : LoopOut F → sProp 𝕄) :
    K (loopEnd L)
      ⊢ wp frame (wpE (defs₀ (F := F)) rounds (c : Thread nD τ) none) Set.univ (loop2 L) K :=
  wp_loop_start (Λ := Λ₀ F) defs₀ (c : Thread nD τ) 2 (fun p q i => (⟨L.m0, L.m1, L.m2, L.m3, L.cand, p, q, i⟩ : Cc0While2 F))
    (fun x => x) L (loop2_def L) K

theorem loop3_def (L : LoopIn F) (p q : FVec F S32x128 .f32) (i : BitVec 32) :
    defs₀ (F := F) .tc 3 (⟨L.m0, L.m1, L.m2, L.m3, L.cand, p, q, i⟩ : Cc0While3 F)
      = (if goOn p q i = 1#1 then
          .op (.call (3 : (Λ₀ F).Label) (⟨L.m0, L.m1, L.m2, L.m3, L.cand, q, L.next q, Scalar.addi i 1#32⟩ : Cc0While3 F)) .ret
        else .ret (p, q, i) : Prog (TpuEff nD τ sig (Elt F) (Λ₀ F) .tc) (LoopOut F)) := by
  chain_rfl

theorem wp_loop3 (c : Dev nD) (L : LoopIn F) (K : LoopOut F → sProp 𝕄) :
    K (loopEnd L)
      ⊢ wp frame (wpE (defs₀ (F := F)) rounds (c : Thread nD τ) none) Set.univ (loop3 L) K :=
  wp_loop_start (Λ := Λ₀ F) defs₀ (c : Thread nD τ) 3 (fun p q i => (⟨L.m0, L.m1, L.m2, L.m3, L.cand, p, q, i⟩ : Cc0While3 F))
    (fun x => x) L (loop3_def L) K

theorem loop4_def (L : LoopIn F) (p q : FVec F S32x128 .f32) (i : BitVec 32) :
    defs₀ (F := F) .tc 4 (⟨L.m0, L.m1, L.m2, L.m3, L.cand, p, q, i⟩ : Cc0While4 F)
      = (if goOn p q i = 1#1 then
          .op (.call (4 : (Λ₀ F).Label) (⟨L.m0, L.m1, L.m2, L.m3, L.cand, q, L.next q, Scalar.addi i 1#32⟩ : Cc0While4 F)) .ret
        else .ret (p, q, i) : Prog (TpuEff nD τ sig (Elt F) (Λ₀ F) .tc) (LoopOut F)) := by
  chain_rfl

theorem wp_loop4 (c : Dev nD) (L : LoopIn F) (K : LoopOut F → sProp 𝕄) :
    K (loopEnd L)
      ⊢ wp frame (wpE (defs₀ (F := F)) rounds (c : Thread nD τ) none) Set.univ (loop4 L) K :=
  wp_loop_start (Λ := Λ₀ F) defs₀ (c : Thread nD τ) 4 (fun p q i => (⟨L.m0, L.m1, L.m2, L.m3, L.cand, p, q, i⟩ : Cc0While4 F))
    (fun x => x) L (loop4_def L) K

theorem loop5_def (L : LoopIn F) (p q : FVec F S32x128 .f32) (i : BitVec 32) :
    defs₀ (F := F) .tc 5 (⟨L.m0, L.m1, L.m2, L.m3, L.cand, p, q, i⟩ : Cc0While5 F)
      = (if goOn p q i = 1#1 then
          .op (.call (5 : (Λ₀ F).Label) (⟨L.m0, L.m1, L.m2, L.m3, L.cand, q, L.next q, Scalar.addi i 1#32⟩ : Cc0While5 F)) .ret
        else .ret (p, q, i) : Prog (TpuEff nD τ sig (Elt F) (Λ₀ F) .tc) (LoopOut F)) := by
  chain_rfl

theorem wp_loop5 (c : Dev nD) (L : LoopIn F) (K : LoopOut F → sProp 𝕄) :
    K (loopEnd L)
      ⊢ wp frame (wpE (defs₀ (F := F)) rounds (c : Thread nD τ) none) Set.univ (loop5 L) K :=
  wp_loop_start (Λ := Λ₀ F) defs₀ (c : Thread nD τ) 5 (fun p q i => (⟨L.m0, L.m1, L.m2, L.m3, L.cand, p, q, i⟩ : Cc0While5 F))
    (fun x => x) L (loop5_def L) K

theorem loop6_def (L : LoopIn F) (p q : FVec F S32x128 .f32) (i : BitVec 32) :
    defs₀ (F := F) .tc 6 (⟨L.m0, L.m1, L.m2, L.m3, L.cand, p, q, i⟩ : Cc0While6 F)
      = (if goOn p q i = 1#1 then
          .op (.call (6 : (Λ₀ F).Label) (⟨L.m0, L.m1, L.m2, L.m3, L.cand, q, L.next q, Scalar.addi i 1#32⟩ : Cc0While6 F)) .ret
        else .ret (p, q, i) : Prog (TpuEff nD τ sig (Elt F) (Λ₀ F) .tc) (LoopOut F)) := by
  chain_rfl

theorem wp_loop6 (c : Dev nD) (L : LoopIn F) (K : LoopOut F → sProp 𝕄) :
    K (loopEnd L)
      ⊢ wp frame (wpE (defs₀ (F := F)) rounds (c : Thread nD τ) none) Set.univ (loop6 L) K :=
  wp_loop_start (Λ := Λ₀ F) defs₀ (c : Thread nD τ) 6 (fun p q i => (⟨L.m0, L.m1, L.m2, L.m3, L.cand, p, q, i⟩ : Cc0While6 F))
    (fun x => x) L (loop6_def L) K

theorem loop7_def (L : LoopIn F) (p q : FVec F S32x128 .f32) (i : BitVec 32) :
    defs₀ (F := F) .tc 7 (⟨L.m0, L.m1, L.m2, L.m3, L.cand, p, q, i⟩ : Cc0While7 F)
      = (if goOn p q i = 1#1 then
          .op (.call (7 : (Λ₀ F).Label) (⟨L.m0, L.m1, L.m2, L.m3, L.cand, q, L.next q, Scalar.addi i 1#32⟩ : Cc0While7 F)) .ret
        else .ret (p, q, i) : Prog (TpuEff nD τ sig (Elt F) (Λ₀ F) .tc) (LoopOut F)) := by
  chain_rfl

theorem wp_loop7 (c : Dev nD) (L : LoopIn F) (K : LoopOut F → sProp 𝕄) :
    K (loopEnd L)
      ⊢ wp frame (wpE (defs₀ (F := F)) rounds (c : Thread nD τ) none) Set.univ (loop7 L) K :=
  wp_loop_start (Λ := Λ₀ F) defs₀ (c : Thread nD τ) 7 (fun p q i => (⟨L.m0, L.m1, L.m2, L.m3, L.cand, p, q, i⟩ : Cc0While7 F))
    (fun x => x) L (loop7_def L) K

theorem loop8_def (L : LoopIn F) (p q : FVec F S32x128 .f32) (i : BitVec 32) :
    defs₀ (F := F) .tc 8 (⟨L.m0, L.m1, L.m2, L.m3, L.cand, p, q, i⟩ : Cc0While8 F)
      = (if goOn p q i = 1#1 then
          .op (.call (8 : (Λ₀ F).Label) (⟨L.m0, L.m1, L.m2, L.m3, L.cand, q, L.next q, Scalar.addi i 1#32⟩ : Cc0While8 F)) .ret
        else .ret (p, q, i) : Prog (TpuEff nD τ sig (Elt F) (Λ₀ F) .tc) (LoopOut F)) := by
  chain_rfl

theorem wp_loop8 (c : Dev nD) (L : LoopIn F) (K : LoopOut F → sProp 𝕄) :
    K (loopEnd L)
      ⊢ wp frame (wpE (defs₀ (F := F)) rounds (c : Thread nD τ) none) Set.univ (loop8 L) K :=
  wp_loop_start (Λ := Λ₀ F) defs₀ (c : Thread nD τ) 8 (fun p q i => (⟨L.m0, L.m1, L.m2, L.m3, L.cand, p, q, i⟩ : Cc0While8 F))
    (fun x => x) L (loop8_def L) K

theorem loop9_def (L : LoopIn F) (p q : FVec F S32x128 .f32) (i : BitVec 32) :
    defs₀ (F := F) .tc 9 (⟨L.m0, L.m1, L.m2, L.m3, L.cand, p, q, i⟩ : Cc0While9 F)
      = (if goOn p q i = 1#1 then
          .op (.call (9 : (Λ₀ F).Label) (⟨L.m0, L.m1, L.m2, L.m3, L.cand, q, L.next q, Scalar.addi i 1#32⟩ : Cc0While9 F)) .ret
        else .ret (p, q, i) : Prog (TpuEff nD τ sig (Elt F) (Λ₀ F) .tc) (LoopOut F)) := by
  chain_rfl

theorem wp_loop9 (c : Dev nD) (L : LoopIn F) (K : LoopOut F → sProp 𝕄) :
    K (loopEnd L)
      ⊢ wp frame (wpE (defs₀ (F := F)) rounds (c : Thread nD τ) none) Set.univ (loop9 L) K :=
  wp_loop_start (Λ := Λ₀ F) defs₀ (c : Thread nD τ) 9 (fun p q i => (⟨L.m0, L.m1, L.m2, L.m3, L.cand, p, q, i⟩ : Cc0While9 F))
    (fun x => x) L (loop9_def L) K

theorem loop10_def (L : LoopIn F) (p q : FVec F S32x128 .f32) (i : BitVec 32) :
    defs₀ (F := F) .tc 10 (⟨L.m0, L.m1, L.m2, L.m3, L.cand, p, q, i⟩ : Cc0While10 F)
      = (if goOn p q i = 1#1 then
          .op (.call (10 : (Λ₀ F).Label) (⟨L.m0, L.m1, L.m2, L.m3, L.cand, q, L.next q, Scalar.addi i 1#32⟩ : Cc0While10 F)) .ret
        else .ret (p, q, i) : Prog (TpuEff nD τ sig (Elt F) (Λ₀ F) .tc) (LoopOut F)) := by
  chain_rfl

theorem wp_loop10 (c : Dev nD) (L : LoopIn F) (K : LoopOut F → sProp 𝕄) :
    K (loopEnd L)
      ⊢ wp frame (wpE (defs₀ (F := F)) rounds (c : Thread nD τ) none) Set.univ (loop10 L) K :=
  wp_loop_start (Λ := Λ₀ F) defs₀ (c : Thread nD τ) 10 (fun p q i => (⟨L.m0, L.m1, L.m2, L.m3, L.cand, p, q, i⟩ : Cc0While10 F))
    (fun x => x) L (loop10_def L) K

theorem loop11_def (L : LoopIn F) (p q : FVec F S32x128 .f32) (i : BitVec 32) :
    defs₀ (F := F) .tc 11 (⟨L.m0, L.m1, L.m2, L.m3, L.cand, p, q, i⟩ : Cc0While11 F)
      = (if goOn p q i = 1#1 then
          .op (.call (11 : (Λ₀ F).Label) (⟨L.m0, L.m1, L.m2, L.m3, L.cand, q, L.next q, Scalar.addi i 1#32⟩ : Cc0While11 F)) .ret
        else .ret (p, q, i) : Prog (TpuEff nD τ sig (Elt F) (Λ₀ F) .tc) (LoopOut F)) := by
  chain_rfl

theorem wp_loop11 (c : Dev nD) (L : LoopIn F) (K : LoopOut F → sProp 𝕄) :
    K (loopEnd L)
      ⊢ wp frame (wpE (defs₀ (F := F)) rounds (c : Thread nD τ) none) Set.univ (loop11 L) K :=
  wp_loop_start (Λ := Λ₀ F) defs₀ (c : Thread nD τ) 11 (fun p q i => (⟨L.m0, L.m1, L.m2, L.m3, L.cand, p, q, i⟩ : Cc0While11 F))
    (fun x => x) L (loop11_def L) K

theorem loop12_def (L : LoopIn F) (p q : FVec F S32x128 .f32) (i : BitVec 32) :
    defs₀ (F := F) .tc 12 (⟨L.m0, L.m1, L.m2, L.m3, L.cand, p, q, i⟩ : Cc0While12 F)
      = (if goOn p q i = 1#1 then
          .op (.call (12 : (Λ₀ F).Label) (⟨L.m0, L.m1, L.m2, L.m3, L.cand, q, L.next q, Scalar.addi i 1#32⟩ : Cc0While12 F)) .ret
        else .ret (p, q, i) : Prog (TpuEff nD τ sig (Elt F) (Λ₀ F) .tc) (LoopOut F)) := by
  chain_rfl

theorem wp_loop12 (c : Dev nD) (L : LoopIn F) (K : LoopOut F → sProp 𝕄) :
    K (loopEnd L)
      ⊢ wp frame (wpE (defs₀ (F := F)) rounds (c : Thread nD τ) none) Set.univ (loop12 L) K :=
  wp_loop_start (Λ := Λ₀ F) defs₀ (c : Thread nD τ) 12 (fun p q i => (⟨L.m0, L.m1, L.m2, L.m3, L.cand, p, q, i⟩ : Cc0While12 F))
    (fun x => x) L (loop12_def L) K

theorem loop13_def (L : LoopIn F) (p q : FVec F S32x128 .f32) (i : BitVec 32) :
    defs₀ (F := F) .tc 13 (⟨L.m0, L.m1, L.m2, L.m3, L.cand, p, q, i⟩ : Cc0While13 F)
      = (if goOn p q i = 1#1 then
          .op (.call (13 : (Λ₀ F).Label) (⟨L.m0, L.m1, L.m2, L.m3, L.cand, q, L.next q, Scalar.addi i 1#32⟩ : Cc0While13 F)) .ret
        else .ret (p, q, i) : Prog (TpuEff nD τ sig (Elt F) (Λ₀ F) .tc) (LoopOut F)) := by
  chain_rfl

theorem wp_loop13 (c : Dev nD) (L : LoopIn F) (K : LoopOut F → sProp 𝕄) :
    K (loopEnd L)
      ⊢ wp frame (wpE (defs₀ (F := F)) rounds (c : Thread nD τ) none) Set.univ (loop13 L) K :=
  wp_loop_start (Λ := Λ₀ F) defs₀ (c : Thread nD τ) 13 (fun p q i => (⟨L.m0, L.m1, L.m2, L.m3, L.cand, p, q, i⟩ : Cc0While13 F))
    (fun x => x) L (loop13_def L) K

theorem loop14_def (L : LoopIn F) (p q : FVec F S32x128 .f32) (i : BitVec 32) :
    defs₀ (F := F) .tc 14 (⟨L.m0, L.m1, L.m2, L.m3, L.cand, p, q, i⟩ : Cc0While14 F)
      = (if goOn p q i = 1#1 then
          .op (.call (14 : (Λ₀ F).Label) (⟨L.m0, L.m1, L.m2, L.m3, L.cand, q, L.next q, Scalar.addi i 1#32⟩ : Cc0While14 F)) .ret
        else .ret (p, q, i) : Prog (TpuEff nD τ sig (Elt F) (Λ₀ F) .tc) (LoopOut F)) := by
  chain_rfl

theorem wp_loop14 (c : Dev nD) (L : LoopIn F) (K : LoopOut F → sProp 𝕄) :
    K (loopEnd L)
      ⊢ wp frame (wpE (defs₀ (F := F)) rounds (c : Thread nD τ) none) Set.univ (loop14 L) K :=
  wp_loop_start (Λ := Λ₀ F) defs₀ (c : Thread nD τ) 14 (fun p q i => (⟨L.m0, L.m1, L.m2, L.m3, L.cand, p, q, i⟩ : Cc0While14 F))
    (fun x => x) L (loop14_def L) K

theorem loop15_def (L : LoopIn F) (p q : FVec F S32x128 .f32) (i : BitVec 32) :
    defs₀ (F := F) .tc 15 (⟨L.m0, L.m1, L.m2, L.m3, L.cand, p, q, i⟩ : Cc0While15 F)
      = (if goOn p q i = 1#1 then
          .op (.call (15 : (Λ₀ F).Label) (⟨L.m0, L.m1, L.m2, L.m3, L.cand, q, L.next q, Scalar.addi i 1#32⟩ : Cc0While15 F)) .ret
        else .ret (p, q, i) : Prog (TpuEff nD τ sig (Elt F) (Λ₀ F) .tc) (LoopOut F)) := by
  chain_rfl

theorem wp_loop15 (c : Dev nD) (L : LoopIn F) (K : LoopOut F → sProp 𝕄) :
    K (loopEnd L)
      ⊢ wp frame (wpE (defs₀ (F := F)) rounds (c : Thread nD τ) none) Set.univ (loop15 L) K :=
  wp_loop_start (Λ := Λ₀ F) defs₀ (c : Thread nD τ) 15 (fun p q i => (⟨L.m0, L.m1, L.m2, L.m3, L.cand, p, q, i⟩ : Cc0While15 F))
    (fun x => x) L (loop15_def L) K

theorem loop16_def (L : LoopIn F) (p q : FVec F S32x128 .f32) (i : BitVec 32) :
    defs₀ (F := F) .tc 16 (⟨L.m0, L.m1, L.m2, L.m3, L.cand, p, q, i⟩ : Cc0While16 F)
      = (if goOn p q i = 1#1 then
          .op (.call (16 : (Λ₀ F).Label) (⟨L.m0, L.m1, L.m2, L.m3, L.cand, q, L.next q, Scalar.addi i 1#32⟩ : Cc0While16 F)) .ret
        else .ret (p, q, i) : Prog (TpuEff nD τ sig (Elt F) (Λ₀ F) .tc) (LoopOut F)) := by
  chain_rfl

theorem wp_loop16 (c : Dev nD) (L : LoopIn F) (K : LoopOut F → sProp 𝕄) :
    K (loopEnd L)
      ⊢ wp frame (wpE (defs₀ (F := F)) rounds (c : Thread nD τ) none) Set.univ (loop16 L) K :=
  wp_loop_start (Λ := Λ₀ F) defs₀ (c : Thread nD τ) 16 (fun p q i => (⟨L.m0, L.m1, L.m2, L.m3, L.cand, p, q, i⟩ : Cc0While16 F))
    (fun x => x) L (loop16_def L) K

/-- A row's step adds what its loop leaves. -/
theorem wp_rowStep (c : Dev nD) (t : Six F (B4 1)) (j : ℕ) (hj : j < 16)
    (loop : LoopIn F → Prog (TpuEff nD τ sig (Elt F) (Λ₀ F) .tc) (LoopOut F))
    (hl : ∀ (L : LoopIn F) (K : LoopOut F → sProp 𝕄),
      K (loopEnd L) ⊢ wp frame (wpE (defs₀ (F := F)) rounds (c : Thread nD τ) none) Set.univ (loop L) K)
    (K : Marks F → sProp 𝕄) :
    K (marksTo t (j + 1)) ⊢ wp frame (wpE (defs₀ (F := F)) rounds (c : Thread nD τ) none) Set.univ (rowStep j hj loop t (marksTo t j)) K := by
  unfold rowStep
  rw [wp_bind, marksTo_succ t j hj, result_eq]
  refine BIBase.Entails.trans ?_ (hl (loopIn t (marksTo t j) j hj) _)
  exact BI.fupd_intro

/-- The sixteen loops leave the marks of the sixteen rows. -/
theorem wp_loops (c : Dev nD) (t : Six F (B4 1)) (K : Marks F → sProp 𝕄) :
    K (marksTo t 16) ⊢ wp frame (wpE (defs₀ (F := F)) rounds (c : Thread nD τ) none) Set.univ (loops t) K := by
  unfold loops

  rw [wp_bind]
  refine BIBase.Entails.trans ?_ (wp_rowStep c t 0 (by decide) _ (wp_loop1 c) _)
  rw [wp_bind]
  refine BIBase.Entails.trans ?_ (wp_rowStep c t 1 (by decide) _ (wp_loop2 c) _)
  rw [wp_bind]
  refine BIBase.Entails.trans ?_ (wp_rowStep c t 2 (by decide) _ (wp_loop3 c) _)
  rw [wp_bind]
  refine BIBase.Entails.trans ?_ (wp_rowStep c t 3 (by decide) _ (wp_loop4 c) _)
  rw [wp_bind]
  refine BIBase.Entails.trans ?_ (wp_rowStep c t 4 (by decide) _ (wp_loop5 c) _)
  rw [wp_bind]
  refine BIBase.Entails.trans ?_ (wp_rowStep c t 5 (by decide) _ (wp_loop6 c) _)
  rw [wp_bind]
  refine BIBase.Entails.trans ?_ (wp_rowStep c t 6 (by decide) _ (wp_loop7 c) _)
  rw [wp_bind]
  refine BIBase.Entails.trans ?_ (wp_rowStep c t 7 (by decide) _ (wp_loop8 c) _)
  rw [wp_bind]
  refine BIBase.Entails.trans ?_ (wp_rowStep c t 8 (by decide) _ (wp_loop9 c) _)
  rw [wp_bind]
  refine BIBase.Entails.trans ?_ (wp_rowStep c t 9 (by decide) _ (wp_loop10 c) _)
  rw [wp_bind]
  refine BIBase.Entails.trans ?_ (wp_rowStep c t 10 (by decide) _ (wp_loop11 c) _)
  rw [wp_bind]
  refine BIBase.Entails.trans ?_ (wp_rowStep c t 11 (by decide) _ (wp_loop12 c) _)
  rw [wp_bind]
  refine BIBase.Entails.trans ?_ (wp_rowStep c t 12 (by decide) _ (wp_loop13 c) _)
  rw [wp_bind]
  refine BIBase.Entails.trans ?_ (wp_rowStep c t 13 (by decide) _ (wp_loop14 c) _)
  rw [wp_bind]
  refine BIBase.Entails.trans ?_ (wp_rowStep c t 14 (by decide) _ (wp_loop15 c) _)
  exact wp_rowStep c t 15 (by decide) _ (wp_loop16 c) _

end Cert.KernelIdeal

end
-- ==== Proof.RunKernelIdeal.lean ====
/-
  The kernel's body run once on its staged inputs: it hands them back as they were and leaves, in the result's buffer,
  `blockOut` of them.
-/
module

public import proofs.«01_k».proof.Proof.LoopsKernelIdeal

@[expose] public section

noncomputable section

namespace Cert.KernelIdeal

open Rpn Facts₀ Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The rectangle of channel `k` of a staged input. -/
abbrev chanRect (k : Fin 4) : Rect S4x4x160x128 :=
  match k with
  | 0 => Rect.unit (s := S4x4x160x128) ![0, 0, 0, 0] S4x1x160x128.size inb_S4x4x160x128_S4x1x160x128_0_0_0_0
  | 1 => Rect.unit (s := S4x4x160x128) ![0, 1, 0, 0] S4x1x160x128.size inb_S4x4x160x128_S4x1x160x128_0_1_0_0
  | 2 => Rect.unit (s := S4x4x160x128) ![0, 2, 0, 0] S4x1x160x128.size inb_S4x4x160x128_S4x1x160x128_0_2_0_0
  | 3 => Rect.unit (s := S4x4x160x128) ![0, 3, 0, 0] S4x1x160x128.size inb_S4x4x160x128_S4x1x160x128_0_3_0_0

/-- The four channels of the result as they are written, last first. -/
def piecesOut (q0 q1 q2 q3 : FVec F S4x1x8x128 .f32) : List (View.Piece (Elt F) S4x4x8x128 .f32) :=
  [⟨Rect.unit (s := S4x4x8x128) ![0, 3, 0, 0] S4x1x8x128.size inb_S4x4x8x128_S4x1x8x128_0_3_0_0, q3⟩,
   ⟨Rect.unit (s := S4x4x8x128) ![0, 2, 0, 0] S4x1x8x128.size inb_S4x4x8x128_S4x1x8x128_0_2_0_0, q2⟩,
   ⟨Rect.unit (s := S4x4x8x128) ![0, 1, 0, 0] S4x1x8x128.size inb_S4x4x8x128_S4x1x8x128_0_1_0_0, q1⟩,
   ⟨Rect.unit (s := S4x4x8x128) ![0, 0, 0, 0] S4x1x8x128.size inb_S4x4x8x128_S4x1x8x128_0_0_0_0, q0⟩]

/-- The four writes. -/
theorem storesRun (c : Dev nD) (M3 : Memref sig .tc .vmem S4x4x8x128 .f32) (h3 : M3.IsWhole)
    (f3 : Bf (F := F) c M3) (q0 q1 q2 q3 : FVec F S4x1x8x128 .f32) (Q : PUnit → sProp 𝕄) :
    iprop(pt c M3 f3 ∗ (pt c M3 (M3.view.writes (Elt F) M3.view.junk (piecesOut q0 q1 q2 q3)) -∗ Q ⟨⟩))
    ⊢ wp frame (wpE (defs₀ (F := F)) rounds (c : Thread nD τ) none) Set.univ
        (do storeChan M3 q0 0; storeChan M3 q1 1; storeChan M3 q2 2; storeChan M3 q3 3) Q := by
  unfold storeChan
  dsimp only
  iintro ⟨H0, Hk⟩
  sl_exec!
  sl_step
  iapply Hk
  iexact H0

/-- The best boxes of what the three inputs' buffers hold. -/
def bestOf (c : Dev nD) (M0 : Memref sig .tc .vmem S4x160x128 .f32) (M1 M2 : Memref sig .tc .vmem S4x4x160x128 .f32)
    (f0 : Bf (F := F) c M0) (f1 : Bf (F := F) c M1) (f2 : Bf (F := F) c M2) : Six F (B4 1) :=
  topBlock (decoded (M0.view.readAt (Elt F) (Rect.unit (s := S4x160x128) ![0, 0, 0] S4x160x128.size inb_S4x160x128_S4x160x128_0_0_0).toLoadRect f0)
    (M1.view.readAt (Elt F) (chanRect 0).toLoadRect f1) (M1.view.readAt (Elt F) (chanRect 1).toLoadRect f1)
    (M1.view.readAt (Elt F) (chanRect 2).toLoadRect f1) (M1.view.readAt (Elt F) (chanRect 3).toLoadRect f1)
    (M2.view.readAt (Elt F) (chanRect 0).toLoadRect f2) (M2.view.readAt (Elt F) (chanRect 1).toLoadRect f2)
    (M2.view.readAt (Elt F) (chanRect 2).toLoadRect f2) (M2.view.readAt (Elt F) (chanRect 3).toLoadRect f2))

/-- What the best boxes `t` leave to be written. -/
def writtenOf (t : Six F (B4 1)) : List (View.Piece (Elt F) S4x4x8x128 .f32) :=
  piecesOut (slotOut (marksTo t 16) (compacted t (marksTo t 16)).p0) (slotOut (marksTo t 16) (compacted t (marksTo t 16)).p1)
    (slotOut (marksTo t 16) (compacted t (marksTo t 16)).p2) (slotOut (marksTo t 16) (compacted t (marksTo t 16)).p3)

/-- The body after its reads. -/
theorem tailRun (c : Dev nD) (M3 : Memref sig .tc .vmem S4x4x8x128 .f32) (h3 : M3.IsWhole)
    (f3 : Bf (F := F) c M3) (t : Six F (B4 1)) (Q : PUnit → sProp 𝕄) :
    iprop(pt c M3 f3 ∗ (pt c M3 (M3.view.writes (Elt F) M3.view.junk (writtenOf t)) -∗ Q ⟨⟩))
    ⊢ wp frame (wpE (defs₀ (F := F)) rounds (c : Thread nD τ) none) Set.univ
        (do let M ← loops t
            storeChan M3 (slotOut M (compacted t M).p0) 0
            storeChan M3 (slotOut M (compacted t M).p1) 1
            storeChan M3 (slotOut M (compacted t M).p2) 2
            storeChan M3 (slotOut M (compacted t M).p3) 3) Q := by
  rw [wp_bind]
  refine BIBase.Entails.trans ?_ (wp_loops c t _)
  exact storesRun c M3 h3 f3 _ _ _ _ Q

/-- The nine reads, whatever follows them. -/
theorem readsRun (c : Dev nD) (M0 : Memref sig .tc .vmem S4x160x128 .f32) (M1 M2 : Memref sig .tc .vmem S4x4x160x128 .f32)
    (f0 : Bf (F := F) c M0) (f1 : Bf (F := F) c M1) (f2 : Bf (F := F) c M2)
    (k : Six F (B4 1) → Prog (TpuEff nD τ sig (Elt F) (Λ₀ F) .tc) PUnit) (Q : PUnit → sProp 𝕄) :
    iprop(pt c M0 f0 ∗ pt c M1 f1 ∗ pt c M2 f2
      ∗ (iprop(pt c M0 f0 ∗ pt c M1 f1 ∗ pt c M2 f2)
        -∗ wp frame (wpE (defs₀ (F := F)) rounds (c : Thread nD τ) none) Set.univ (k (bestOf c M0 M1 M2 f0 f1 f2)) Q))
    ⊢ wp frame (wpE (defs₀ (F := F)) rounds (c : Thread nD τ) none) Set.univ (do
        let d0 ← loadChan M1 0
        let d1 ← loadChan M1 1
        let d2 ← loadChan M1 2
        let d3 ← loadChan M1 3
        let a0 ← loadChan M2 0
        let a1 ← loadChan M2 1
        let a2 ← loadChan M2 2
        let a3 ← loadChan M2 3
        let s : Vec F S4x160x128 .f32 ← Prog.lift (.load M0 (Rect.unit (s := S4x160x128) ![0, 0, 0] S4x160x128.size inb_S4x160x128_S4x160x128_0_0_0).toLoadRect (View.loadsAt_vmem h_S4x160x128))
        k (topBlock (decoded s d0 d1 d2 d3 a0 a1 a2 a3))) Q := by
  unfold loadChan
  dsimp only
  iintro ⟨H0, H1, H2, Hk⟩
  sl_exec!
  iapply Hk
  isplitl [H0]; · iexact H0
  isplitl [H1]; · iexact H1
  iexact H2

/-- The whole body. -/
theorem kernelRun (c : Dev nD) (M0 : Memref sig .tc .vmem S4x160x128 .f32) (h0 : M0.IsWhole) (M1 : Memref sig .tc .vmem S4x4x160x128 .f32) (h1 : M1.IsWhole)
    (M2 : Memref sig .tc .vmem S4x4x160x128 .f32) (h2 : M2.IsWhole) (M3 : Memref sig .tc .vmem S4x4x8x128 .f32) (h3 : M3.IsWhole)
    (f0 : Bf (F := F) c M0) (f1 : Bf (F := F) c M1) (f2 : Bf (F := F) c M2) (f3 : Bf (F := F) c M3) (Q : PUnit → sProp 𝕄) :
    iprop(pt c M0 f0 ∗ pt c M1 f1 ∗ pt c M2 f2 ∗ pt c M3 f3
      ∗ (iprop(pt c M0 f0 ∗ pt c M1 f1 ∗ pt c M2 f2 ∗ pt c M3 (M3.view.writes (Elt F) M3.view.junk (writtenOf (bestOf c M0 M1 M2 f0 f1 f2)))) -∗ Q ⟨⟩))
    ⊢ wp frame (wpE (defs₀ (F := F)) rounds (c : Thread nD τ) none) Set.univ (cc0__body (F := F) M0 h0 M1 h1 M2 h2 M3 h3) Q := by
  rw [body_eq]
  refine BIBase.Entails.trans ?_ (readsRun c M0 M1 M2 f0 f1 f2 (fun t => do
    let M ← loops t
    storeChan M3 (slotOut M (compacted t M).p0) 0
    storeChan M3 (slotOut M (compacted t M).p1) 1
    storeChan M3 (slotOut M (compacted t M).p2) 2
    storeChan M3 (slotOut M (compacted t M).p3) 3) Q)
  iintro ⟨H0, H1, H2, H3, Hk⟩
  isplitl [H0]; · iexact H0
  isplitl [H1]; · iexact H1
  isplitl [H2]; · iexact H2
  iintro ⟨H0, H1, H2⟩
  iapply (tailRun c M3 h3 f3 (bestOf c M0 M1 M2 f0 f1 f2) Q)
  isplitl [H3]; · iexact H3
  iintro H3
  iapply Hk
  isplitl [H0]; · iexact H0
  isplitl [H1]; · iexact H1
  isplitl [H2]; · iexact H2
  iexact H3

end Cert.KernelIdeal

end
-- ==== Proof.LaunchKernelIdeal.lean ====
/-
  The launch: the host's lines before the kernel, the kernel's one grid point, the host's lines after it. Every final
  state holds the host lines' results over the array the kernel's body wrote, the arguments unchanged, every semaphore
  at zero.
-/
module

public import proofs.«01_k».proof.Proof.RunKernelIdeal
public import proofs.«01_k».proof.Proof.Gen.KernelIdeal.Launch
public import proofs.«01_k».proof.Proof.Gen.KernelIdeal.Points
public import Idealize.ShloMosaic.Lib.Pipeline.FrameSuffix
public import Idealize.ShloMosaic.Lib.StableHlo.RunHlo

@[expose] public section

noncomputable section

namespace Cert.KernelIdeal

open Rpn Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's lines before the kernel; -/
abbrev linesBefore : List (List (HloOp τ sig (Elt F))) := [hostOps0, hostOps0_1, hostOps0_2, hostOps0_3, hostOps0_4, hostOps0_5, hostOps0_6]
/-- and after it. -/
abbrev linesAfter : List (List (HloOp τ sig (Elt F))) := [hostOps1]

/-- Core `c`'s buffers when the kernel is entered. -/
abbrev V0 (c : Dev nD) : Valuation τ sig (Elt F) := StableHlo.after (List.flatten linesBefore) (fun b => m (c, b))
/-- The same at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain : Pipeline.HMainK (Ix := Unit) (Name := ℕ) (U := UR sig nD τ) (Lvl := ℕ) cfgs 0 defs₀ rounds m (main (F := F)) (V m)
      (fun _ => Pipeline.chain (linesAfter.map StableHlo.seq)) :=
  Pipeline.hmain_around cfgs 0 defs₀ rounds m main linesBefore linesAfter
    (by simp only [List.Forall]; exact ⟨hostOps0_sub, hostOps0_1_sub, hostOps0_2_sub, hostOps0_3_sub, hostOps0_4_sub, hostOps0_5_sub, hostOps0_6_sub⟩) (by simp only [List.Forall]; exact ⟨hostOps0_fresh, hostOps0_1_fresh, hostOps0_2_fresh, hostOps0_3_fresh, hostOps0_4_fresh, hostOps0_5_fresh, hostOps0_6_fresh⟩) main_chain

theorem after_sub : ∀ ops ∈ (linesAfter : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, _root_.or_false] at hops
  subst hops
  exact Pipeline.sub_ucRefs op ((List.forall_iff_forall_mem.mp hostOps1_sub) op hop)

theorem after_fresh : ∀ ops ∈ (linesAfter : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

theorem after_keeps : ∀ ops ∈ (linesAfter : List (List (HloOp τ sig (Elt F)))), ∀ op ∈ ops,
    ∀ w, Proc.devRef .tc (Pipeline.arrRef spec0 w) ∉ op.writes := by
  intro ops hops op hop
  simp only [List.mem_cons, List.mem_nil_iff, _root_.or_false] at hops
  subst hops
  simp only [hostOps1, List.mem_cons, List.mem_nil_iff, _root_.or_false] at hop
  rcases hop with rfl | rfl | rfl
  all_goals intro w; fin_cases w <;> simp only [StableHlo.unary_writes, StableHlo.reshape_writes, Finset.mem_singleton] <;> exact StableHlo.devRef_ne_of_ne (by decide)

/-- What the body finds in each input's staging buffer. -/
abbrev stg0 (c : Dev nD) : ((cfg0 (F := F)).win 0).block.Idx → Elt F ((cfg0 (F := F)).win 0).elt :=
  (((cfg0 (F := F)).win 0).blk t0_0).view.read (Elt F) (V m c (Pipeline.arrRef spec0 0))
abbrev stg1 (c : Dev nD) : ((cfg0 (F := F)).win 1).block.Idx → Elt F ((cfg0 (F := F)).win 1).elt :=
  (((cfg0 (F := F)).win 1).blk t0_0).view.read (Elt F) (V m c (Pipeline.arrRef spec0 1))
abbrev stg2 (c : Dev nD) : ((cfg0 (F := F)).win 2).block.Idx → Elt F ((cfg0 (F := F)).win 2).elt :=
  (((cfg0 (F := F)).win 2).blk t0_0).view.read (Elt F) (V m c (Pipeline.arrRef spec0 2))

/-- The best boxes of what it finds. -/
def best (c : Dev nD) : Six F (B4 1) := bestOf c (stage0_0 0) (stage0_1 0) (stage0_2 0) (stg0 m c) (stg1 m c) (stg2 m c)

/-- What it leaves in the result's staging buffer. -/
def left3 (c : Dev nD) : ((cfg0 (F := F)).win 3).block.Idx → Elt F ((cfg0 (F := F)).win 3).elt :=
  (stage0_3 0).view.writes (Elt F) (stage0_3 0).view.junk (writtenOf (best m c))

/-- The pipeline's data on core `c`. -/
def dats (_ : Fin 1) (c : Dev nD) : Dat τ (Elt F) Unit ℕ (UR sig nD τ) ℕ (cfg0 (F := F)) c where
  A w := V m c (Pipeline.arrRef spec0 w)
  after w _ := match w with | 0 => stg0 m c | 1 => stg1 m c | 2 => stg2 m c | 3 => left3 m c
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem before_0 (c : Dev nD) (d) : (dats m 0 c).before 0 t0_0 d = stg0 m c := by
  unfold Dat.before; rw [if_pos (fetch0_0 t0_0)]; rfl
theorem before_1 (c : Dev nD) (d) : (dats m 0 c).before 1 t0_0 d = stg1 m c := by
  unfold Dat.before; rw [if_pos (fetch0_1 t0_0)]; rfl
theorem before_2 (c : Dev nD) (d) : (dats m 0 c).before 2 t0_0 d = stg2 m c := by
  unfold Dat.before; rw [if_pos (fetch0_2 t0_0)]; rfl

theorem body_obligation (c : Dev nD) : BodyObligation (dats m 0 c) (defs₀ (F := F)) rounds () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Dat.owesAt
  rw [show (dats m 0 c).owed t0_0.castSucc = 0 from rfl, show (dats m 0 c).owed t0_0.succ = 0 from rfl]
  iintro ⟨HΦ, HO, ⟨%d0, %f0, %hf0, H0⟩, ⟨%d1, %f1, %hf1, H1⟩, ⟨%d2, %f2, %hf2, H2⟩, ⟨%d3, %f3, %hf3, H3⟩⟩
  replace hf0 := hf0.trans (before_0 m c d0)
  replace hf1 := hf1.trans (before_1 m c d1)
  replace hf2 := hf2.trans (before_2 m c d2)
  subst hf0 hf1 hf2
  iapply (kernelRun c (stage0_0 0) (hstage0_0 0) (stage0_1 0) (hstage0_1 0) (stage0_2 0) (hstage0_2 0) (stage0_3 0) (hstage0_3 0) (stg0 m c) (stg1 m c) (stg2 m c) f3)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists _; isplitr; swap; (· iexact H0); ipureintro; dsimp only [dats]
  isplitl [H1]
  · iexists _; isplitr; swap; (· iexact H1); ipureintro; dsimp only [dats]
  isplitl [H2]
  · iexists _; isplitr; swap; (· iexact H2); ipureintro; dsimp only [dats]
  iexists _; isplitr; swap; (· iexact H3); ipureintro; dsimp only [dats]; unfold left3 best; rfl

set_option backward.isDefEq.respectTransparency.types false in
/-- The run: every final state has the arrays and the other buffers at what the host lines and the body computed, every
    semaphore at zero. -/
theorem run_main : θ_run defs (onTc (τ := τ) (main (F := F))) ⟨m, fun _ => 0, ρ⟩
    (fun r => Pipeline.FramePost cfgs (dats m) 0 (Pipeline.afterTail₀ cfgs (dats m) 0 (V0 m) linesAfter) r ∧ r.2.sem = fun _ => 0) :=
  Pipeline.θ_run_frame_around cfgs (dats m) (0 : Fin 1) launch0 defs₀ rounds m ρ main
    (fun c => (body_obligation m c).loose) (fun c => (dats m 0 c).share_full fun _ => rfl) (fun _ _ => rfl) (V0 m) linesAfter after_sub after_fresh after_keeps
    (hmain m) (A_eq m) (fun _ _ => rfl) _ (fun _ h => h)

/-- No line before the kernel writes argument `b`. -/
theorem kept (b : Ref sig .tc) (hb : b = main_arg0 ∨ b = main_arg1 ∨ b = main_arg2) (c : Dev nD) : V m c b = m ((c : Thread nD τ).loc b) := by
  refine StableHlo.after_of_forall_not_mem (b := Proc.devRef .tc b) _ _ ?_
  intro op hop
  simp only [linesBefore, List.flatten_cons, List.flatten_nil, List.append_nil, List.cons_append, List.nil_append, List.mem_cons, List.mem_nil_iff, _root_.or_false] at hop
  have hne : ∀ x : Ref sig .tc, (x ≠ main_arg0 ∧ x ≠ main_arg1 ∧ x ≠ main_arg2) → b ≠ x := by
    rintro x ⟨h0, h1, h2⟩ rfl
    rcases hb with hb | hb | hb
    · exact h0 hb
    · exact h1 hb
    · exact h2 hb
  rcases hop with rfl | rfl | rfl | rfl | rfl | rfl | rfl | rfl | rfl | rfl | rfl | rfl | rfl | rfl | rfl | rfl <;>
    simp only [StableHlo.unary_writes, StableHlo.binary_writes, StableHlo.nullary_writes, StableHlo.reshape_writes, StableHlo.TRef.unary,
      StableHlo.TRef.binary, Finset.mem_singleton] <;>
    exact StableHlo.devRef_ne_of_ne (hne _ (by decide))

theorem kept_after (b : Ref sig .tc) (hb : b = main_arg0 ∨ b = main_arg1 ∨ b = main_arg2) (c : Dev nD) :
    Pipeline.afterTail₀ cfgs (dats m) 0 (V0 m) linesAfter c b = m ((c : Thread nD τ).loc b) := by
  unfold Pipeline.afterTail₀
  rw [StableHlo.after_of_forall_not_mem (b := Proc.devRef .tc b)]
  · rw [Pipeline.withArrays_of_ne]
    · exact kept m b hb c
    · rcases hb with rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2)
  · intro op hop
    simp only [linesAfter, List.flatten_cons, List.flatten_nil, List.append_nil, List.mem_cons, List.mem_nil_iff, _root_.or_false] at hop
    rcases hop with rfl | rfl | rfl <;> simp only [StableHlo.unary_writes, StableHlo.reshape_writes, Finset.mem_singleton] <;>
      rcases hb with rfl | rfl | rfl <;> exact StableHlo.devRef_ne_of_ne (by decide)

/-- The frame: the run leaves the arguments as they were and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (run_main m ρ) ?_
  rintro r ⟨hr, hs⟩
  refine ⟨fun c => ⟨?_, ?_, ?_⟩, hs⟩
  · exact ((hr c).2 main_arg0 (by decide : main_arg0 ∈ Pipeline.restRefs sig spec0)).trans (kept_after m main_arg0 (by simp) c)
  · exact ((hr c).2 main_arg1 (by decide : main_arg1 ∈ Pipeline.restRefs sig spec0)).trans (kept_after m main_arg1 (by simp) c)
  · exact ((hr c).2 main_arg2 (by decide : main_arg2 ∈ Pipeline.restRefs sig spec0)).trans (kept_after m main_arg2 (by simp) c)

end Cert.KernelIdeal

end
-- ==== Proof.KerHost.lean ====
/-
  The kernel's host lines read off: the three arrays it stages from the arguments.
-/
module

public import proofs.«01_k».proof.Proof.LaunchKernelIdeal
public import Idealize.ShloMosaic.Lib.KernelVsHost
public import Idealize.ShloMosaic.Lib.StableHlo.RunRead
public import Idealize.ShloMosaic.Lib.Pipeline.ValueKit.Tiles

@[expose] public section

set_option maxRecDepth 8192

noncomputable section

namespace Cert.KernelIdeal

open Rpn Gen
open Idealize.ShloMosaic Idealize.ShloMosaic.ValueIdx Idealize.ShloMosaic.TcCoe Idealize.ShloMosaic.StableHlo Idealize.SL.Sem

variable {F : FTy → Type} [FloatOps F] (m : (ℓ : Loc nD τ sig) → Buf (Elt F) ℓ) (c : Dev nD)

/-- The scores as staged: the second class, padded with −1; -/
def stagedScores (s : FVec F S4x20000x2 .f32) : FVec F S4x160x128 .f32 :=
  shapeCast S4x160x128 (pad S4x20480 ![0, 0] ![0, 480] ![0, 0]
    (shapeCast S4x20000 (extractStridedSlice S4x20000x1 ![0, 0, 1] s slices_S4x20000x2_S4x20000x1_0_0_1) shapeCasts_S4x20000x1_S4x20000)
    (constant S_ .f32 0xBF800000#32) pads_S4x20000_S4x20480_000_04800 h_S_) shapeCasts_S4x20480_S4x160x128

/-- the deltas and the anchors: their coordinates first, padded with zeros. -/
def stagedRows (x : FVec F S4x20000x4 .f32) : FVec F S4x4x160x128 .f32 :=
  shapeCast S4x4x160x128 (pad S4x4x20480 ![0, 0, 0] ![0, 0, 480] ![0, 0, 0]
    (transpose S4x4x20000 [0, 2, 1] x transposes_S4x20000x4_S4x4x20000_0_2_1)
    (sitofp .f32 (constantI S_ 32 0#32)) pads_S4x4x20000_S4x4x20480_000_000_04800 h_S_) shapeCasts_S4x4x20480_S4x4x160x128

theorem read_v3 : V0 m c (Proc.devRef .tc main_v3) = stagedScores (m ((c.tc : Thread nD τ).loc main_arg0)) := by
  show StableHlo.after (List.flatten linesBefore) _ _ = _
  simp only [linesBefore, List.flatten_cons, List.flatten_nil, List.append_nil, List.cons_append, List.nil_append]
  after_reads_simp
  rfl

theorem read_v6 : V0 m c (Proc.devRef .tc main_v6) = stagedRows (m ((c.tc : Thread nD τ).loc main_arg1)) := by
  show StableHlo.after (List.flatten linesBefore) _ _ = _
  simp only [linesBefore, List.flatten_cons, List.flatten_nil, List.append_nil, List.cons_append, List.nil_append]
  after_reads_simp
  rfl

theorem read_v9 : V0 m c (Proc.devRef .tc main_v9) = stagedRows (m ((c.tc : Thread nD τ).loc main_arg2)) := by
  show StableHlo.after (List.flatten linesBefore) _ _ = _
  simp only [linesBefore, List.flatten_cons, List.flatten_nil, List.append_nil, List.cons_append, List.nil_append]
  after_reads_simp
  rfl

/-- A window over its whole array stages the array itself. -/
theorem whole0 (f : main_v3.ty.Contents (Elt F)) : (((cfg0 (F := F)).win 0).blk t0_0).view.read (Elt F) f = f :=
  funext fun x => congrArg f (funext fun a => Fin.ext (Pipeline.Window.rect_emb_val_of_index_zero win0_0 t0_0 a rfl x))

theorem whole1 (f : main_v6.ty.Contents (Elt F)) : (((cfg0 (F := F)).win 1).blk t0_0).view.read (Elt F) f = f :=
  funext fun x => congrArg f (funext fun a => Fin.ext (Pipeline.Window.rect_emb_val_of_index_zero win0_1 t0_0 a rfl x))

theorem whole2 (f : main_v9.ty.Contents (Elt F)) : (((cfg0 (F := F)).win 2).blk t0_0).view.read (Elt F) f = f :=
  funext fun x => congrArg f (funext fun a => Fin.ext (Pipeline.Window.rect_emb_val_of_index_zero win0_2 t0_0 a rfl x))

theorem whole3 (f : main_v10.ty.Contents (Elt F)) : (((cfg0 (F := F)).win 3).blk t0_0).view.read (Elt F) f = f :=
  funext fun x => congrArg f (funext fun a => Fin.ext (Pipeline.Window.rect_emb_val_of_index_zero win0_3 t0_0 a rfl x))

theorem stg0_eq : stg0 m c = stagedScores (m ((c.tc : Thread nD τ).loc main_arg0)) := (whole0 _).trans (read_v3 m c)
theorem stg1_eq : stg1 m c = stagedRows (m ((c.tc : Thread nD τ).loc main_arg1)) := (whole1 _).trans (read_v6 m c)
theorem stg2_eq : stg2 m c = stagedRows (m ((c.tc : Thread nD τ).loc main_arg2)) := (whole2 _).trans (read_v9 m c)

/-- Channel `k` of a staged array. -/
def chanOf (k : Fin 4) (x : FVec F S4x4x160x128 .f32) : FVec F S4x1x160x128 .f32 := fun i => x (ix4 (i 0) k (i 2) (i 3))

theorem ld_chan (k : Fin 4) (off : Fin 4 → ℕ) (inb) (h : off = ![0, k.val, 0, 0]) (f : FVec F S4x4x160x128 .f32) :
    View.ld (Val := Elt F) (e' := .f32) f (Rect.unit (s := S4x4x160x128) off S4x1x160x128.size inb) = chanOf k f := by
  subst h
  funext i
  refine View.ld_unit_apply_of (Val := Elt F) (e := .f32) f _ _ _ i (ix4 (i 0) k (i 2) (i 3)) fun a => ?_
  have h1 : (i 1).val = 0 := by have := (i 1).isLt; change (i 1).val < 1 at this; omega
  fin_cases a <;> simp [h1]

theorem decoded_congr {s s' : FVec F (sh3 4 160 128) .f32} {d0 d1 d2 d3 a0 a1 a2 a3 d0' d1' d2' d3' a0' a1' a2' a3' : FVec F (sh4 4 1 160 128) .f32}
    (hs : s = s') (e0 : d0 = d0') (e1 : d1 = d1') (e2 : d2 = d2') (e3 : d3 = d3') (f0 : a0 = a0') (f1 : a1 = a1') (f2 : a2 = a2') (f3 : a3 = a3') :
    decoded s d0 d1 d2 d3 a0 a1 a2 a3 = decoded s' d0' d1' d2' d3' a0' a1' a2' a3' := by
  rw [hs, e0, e1, e2, e3, f0, f1, f2, f3]

/-- The best boxes, from the arguments. -/
theorem best_eq : best m c = topBlock (decoded (stagedScores (m ((c.tc : Thread nD τ).loc main_arg0)))
    (chanOf 0 (stagedRows (m ((c.tc : Thread nD τ).loc main_arg1)))) (chanOf 1 (stagedRows (m ((c.tc : Thread nD τ).loc main_arg1))))
    (chanOf 2 (stagedRows (m ((c.tc : Thread nD τ).loc main_arg1)))) (chanOf 3 (stagedRows (m ((c.tc : Thread nD τ).loc main_arg1))))
    (chanOf 0 (stagedRows (m ((c.tc : Thread nD τ).loc main_arg2)))) (chanOf 1 (stagedRows (m ((c.tc : Thread nD τ).loc main_arg2))))
    (chanOf 2 (stagedRows (m ((c.tc : Thread nD τ).loc main_arg2)))) (chanOf 3 (stagedRows (m ((c.tc : Thread nD τ).loc main_arg2))))) := by
  unfold best bestOf
  rw [stg0_eq, stg1_eq, stg2_eq]
  generalize stagedScores (m ((c.tc : Thread nD τ).loc main_arg0)) = s
  generalize stagedRows (m ((c.tc : Thread nD τ).loc main_arg1)) = d
  generalize stagedRows (m ((c.tc : Thread nD τ).loc main_arg2)) = a
  have es : (stage0_0 0).view.readAt (Elt F) (Rect.unit (s := S4x160x128) ![0, 0, 0] S4x160x128.size inb_S4x160x128_S4x160x128_0_0_0).toLoadRect s = s :=
    View.ld_unit_lit (Val := Elt F) (e := .f32) (S := S4x160x128) (off := ![0, 0, 0]) inb_S4x160x128_S4x160x128_0_0_0 s (by decide)
  exact congrArg topBlock (decoded_congr es
    (ld_chan 0 ![0, 0, 0, 0] _ rfl d) (ld_chan 1 ![0, 1, 0, 0] _ rfl d) (ld_chan 2 ![0, 2, 0, 0] _ rfl d) (ld_chan 3 ![0, 3, 0, 0] _ rfl d)
    (ld_chan 0 ![0, 0, 0, 0] _ rfl a) (ld_chan 1 ![0, 1, 0, 0] _ rfl a) (ld_chan 2 ![0, 2, 0, 0] _ rfl a) (ld_chan 3 ![0, 3, 0, 0] _ rfl a))

end Cert.KernelIdeal

end
-- ==== Proof.Net.lean ====
module

public import Idealize.ShloMosaic.PureOps
public import Idealize.ShloMosaic.Lib.SortNet.Bitonic
public import Mathlib.Algebra.BigOperators.Intervals
public import Mathlib.Algebra.Order.BigOperators.Group.Finset

@[expose] public section

/-! A bitonic network on functions of natural positions.

A network of compare-and-exchange stages commutes with every threshold: the image of an array under a
property that holds upwards (of everything at least as good as something it holds of) goes through the same
network as an array of yes and no.  For such arrays a stage is "or" at the lower position of a pair and
"and" at the higher one, so sorting is a count: after the network the property holds exactly at the first
`c` positions, where `c` is how often it held. -/

namespace Rpn.Net

open Finset

/-- How often `B` holds among the `n` positions from `base` on. -/
noncomputable def cnt (B : ℕ → Prop) (base n : ℕ) : ℕ := by
  classical exact ∑ x ∈ range n, if B (base + x) then 1 else 0

theorem cnt_le (B : ℕ → Prop) (base n : ℕ) : cnt B base n ≤ n := by
  classical
  unfold cnt
  calc _ ≤ ∑ x ∈ range n, 1 := sum_le_sum fun x _ => by split <;> omega
    _ = n := by simp

theorem cnt_add (B : ℕ → Prop) (base n n' : ℕ) :
    cnt B base (n + n') = cnt B base n + cnt B (base + n) n' := by
  classical
  unfold cnt
  rw [sum_range_add]
  simp only [Nat.add_assoc]

theorem cnt_congr {B B' : ℕ → Prop} {base base' n : ℕ} (h : ∀ x < n, (B (base + x) ↔ B' (base' + x))) :
    cnt B base n = cnt B' base' n := by
  classical
  unfold cnt
  exact sum_congr rfl fun x hx => by simp only [h x (mem_range.mp hx)]

theorem cnt_all {B : ℕ → Prop} {base n : ℕ} (h : ∀ x < n, B (base + x)) : cnt B base n = n := by
  classical
  unfold cnt
  rw [sum_congr rfl (g := fun _ => 1) fun x hx => if_pos (h x (mem_range.mp hx))]
  simp

theorem cnt_none {B : ℕ → Prop} {base n : ℕ} (h : ∀ x < n, ¬ B (base + x)) : cnt B base n = 0 := by
  classical
  unfold cnt
  exact sum_eq_zero fun x hx => if_neg (h x (mem_range.mp hx))

/-- Or and and of two halves hold together as often as the halves. -/
theorem cnt_or_and {B C : ℕ → Prop} {base n : ℕ}
    (ho : ∀ x < n, (C (base + x) ↔ B (base + x) ∨ B (base + n + x)))
    (ha : ∀ x < n, (C (base + n + x) ↔ B (base + x) ∧ B (base + n + x))) :
    cnt C base n + cnt C (base + n) n = cnt B base n + cnt B (base + n) n := by
  classical
  unfold cnt
  rw [← sum_add_distrib, ← sum_add_distrib]
  refine sum_congr rfl fun x hx => ?_
  have h1 := ho x (mem_range.mp hx)
  have h2 := ha x (mem_range.mp hx)
  simp only [h1, h2]
  by_cases hp : B (base + x) <;> by_cases hq : B (base + n + x) <;> simp [hp, hq]

theorem cnt_and_or {B C : ℕ → Prop} {base n : ℕ}
    (ha : ∀ x < n, (C (base + x) ↔ B (base + x) ∧ B (base + n + x)))
    (ho : ∀ x < n, (C (base + n + x) ↔ B (base + x) ∨ B (base + n + x))) :
    cnt C base n + cnt C (base + n) n = cnt B base n + cnt B (base + n) n := by
  classical
  unfold cnt
  rw [← sum_add_distrib, ← sum_add_distrib]
  refine sum_congr rfl fun x hx => ?_
  have h1 := ho x (mem_range.mp hx)
  have h2 := ha x (mem_range.mp hx)
  simp only [h1, h2]
  by_cases hp : B (base + x) <;> by_cases hq : B (base + n + x) <;> simp [hp, hq]

/-- One stage on yes and no at distance `2 ^ s`: where `asc` is false the lower position of a pair takes "or". -/
def bstage (s : ℕ) (asc : ℕ → Prop) (B : ℕ → Prop) (p : ℕ) : Prop :=
  (((p.testBit s = true) ↔ asc p) ∧ (B p ∨ B (p ^^^ 2 ^ s))) ∨
    (¬ ((p.testBit s = true) ↔ asc p) ∧ (B p ∧ B (p ^^^ 2 ^ s)))

theorem xor_low {p s : ℕ} (h : p.testBit s = false) : p ^^^ 2 ^ s = p + 2 ^ s :=
  Idealize.ShloMosaic.SortNet.xor_two_pow_of_clear p s
    ((Idealize.ShloMosaic.SortNet.and_two_pow_eq_zero_iff_testBit p s).mpr h)

theorem xor_high {q s : ℕ} (h : q.testBit s = false) : (q + 2 ^ s) ^^^ 2 ^ s = q := by
  rw [← xor_low h, Nat.xor_assoc, Nat.xor_self, Nat.xor_zero]

theorem testBit_low {b x s : ℕ} (hx : x < 2 ^ s) : (b * 2 ^ (s + 1) + x).testBit s = false := by
  have h : x < 2 ^ (s + 1) := by rw [pow_succ]; omega
  rw [Nat.mul_comm, Nat.testBit_two_pow_mul_add b h, if_pos (Nat.lt_succ_self s)]
  exact Nat.testBit_lt_two_pow hx

theorem testBit_high {b x s : ℕ} (hx : x < 2 ^ s) : (b * 2 ^ (s + 1) + 2 ^ s + x).testBit s = true := by
  have h : 2 ^ s + x < 2 ^ (s + 1) := by rw [pow_succ]; omega
  rw [Nat.add_assoc, Nat.mul_comm, Nat.testBit_two_pow_mul_add b h, if_pos (Nat.lt_succ_self s),
    Nat.testBit_two_pow_add_eq, Nat.testBit_lt_two_pow hx]
  rfl

/-- What a stage does at the lower position of a pair of block `b`. -/
theorem bstage_low {s b x : ℕ} {asc B : ℕ → Prop} (hx : x < 2 ^ s) :
    bstage s asc B (b * 2 ^ (s + 1) + x) ↔
      (¬ asc (b * 2 ^ (s + 1) + x) ∧ (B (b * 2 ^ (s + 1) + x) ∨ B (b * 2 ^ (s + 1) + 2 ^ s + x))) ∨
      (asc (b * 2 ^ (s + 1) + x) ∧ (B (b * 2 ^ (s + 1) + x) ∧ B (b * 2 ^ (s + 1) + 2 ^ s + x))) := by
  have hl := testBit_low (b := b) hx
  unfold bstage
  rw [xor_low hl, hl, show b * 2 ^ (s + 1) + x + 2 ^ s = b * 2 ^ (s + 1) + 2 ^ s + x by omega]
  simp

/-- What a stage does at the higher position of a pair of block `b`. -/
theorem bstage_high {s b x : ℕ} {asc B : ℕ → Prop} (hx : x < 2 ^ s) :
    bstage s asc B (b * 2 ^ (s + 1) + 2 ^ s + x) ↔
      (asc (b * 2 ^ (s + 1) + 2 ^ s + x) ∧ (B (b * 2 ^ (s + 1) + x) ∨ B (b * 2 ^ (s + 1) + 2 ^ s + x))) ∨
      (¬ asc (b * 2 ^ (s + 1) + 2 ^ s + x) ∧ (B (b * 2 ^ (s + 1) + x) ∧ B (b * 2 ^ (s + 1) + 2 ^ s + x))) := by
  have hl := testBit_low (b := b) hx
  have hh := testBit_high (b := b) hx
  unfold bstage
  rw [hh, show b * 2 ^ (s + 1) + 2 ^ s + x = b * 2 ^ (s + 1) + x + 2 ^ s by omega, xor_high hl]
  simp only [true_iff, or_comm, and_comm]

/-- Up and down at most once around the block: `B` on the `n` positions from `base` is an interval, or the
complement of one. -/
def Bitonic (B : ℕ → Prop) (base n : ℕ) : Prop :=
  ∃ a b : ℕ, a ≤ b ∧ b ≤ n ∧ ((∀ x < n, (B (base + x) ↔ a ≤ x ∧ x < b)) ∨
    (∀ x < n, (B (base + x) ↔ ¬ (a ≤ x ∧ x < b))))

/-- The two halves of a bitonic block, joined by "or" and by "and": both are bitonic, and either the one is
all yes or the other all no. -/
theorem Bitonic.halves {B : ℕ → Prop} {base n : ℕ} (h : Bitonic B base (n + n)) :
    (∃ a b : ℕ, a ≤ b ∧ b ≤ n ∧ ((∀ x < n, ((B (base + x) ∨ B (base + n + x)) ↔ a ≤ x ∧ x < b)) ∨
      (∀ x < n, ((B (base + x) ∨ B (base + n + x)) ↔ ¬ (a ≤ x ∧ x < b))))) ∧
    (∃ a b : ℕ, a ≤ b ∧ b ≤ n ∧ ((∀ x < n, ((B (base + x) ∧ B (base + n + x)) ↔ a ≤ x ∧ x < b)) ∨
      (∀ x < n, ((B (base + x) ∧ B (base + n + x)) ↔ ¬ (a ≤ x ∧ x < b))))) ∧
    ((∀ x < n, B (base + x) ∨ B (base + n + x)) ∨ (∀ x < n, ¬ (B (base + x) ∧ B (base + n + x)))) := by
  obtain ⟨a, b, hab, hbn, h⟩ := h
  have e : ∀ x, base + n + x = base + (n + x) := fun x => by omega
  simp only [e]
  rcases h with h | h
  · have h1 : ∀ x < n, (B (base + x) ↔ a ≤ x ∧ x < b) := fun x hx => h x (by omega)
    have h2 : ∀ x < n, (B (base + (n + x)) ↔ a ≤ n + x ∧ n + x < b) := fun x hx => h (n + x) (by omega)
    by_cases c1 : b ≤ n
    · refine ⟨⟨a, b, hab, c1, .inl fun x hx => ?_⟩, ⟨0, 0, by omega, by omega, .inl fun x hx => ?_⟩,
        .inr fun x hx => ?_⟩ <;> rw [h1 x hx, h2 x hx] <;> omega
    by_cases c2 : n ≤ a
    · refine ⟨⟨a - n, b - n, by omega, by omega, .inl fun x hx => ?_⟩, ⟨0, 0, by omega, by omega, .inl fun x hx => ?_⟩,
        .inr fun x hx => ?_⟩ <;> rw [h1 x hx, h2 x hx] <;> omega
    by_cases c3 : b - n ≤ a
    · refine ⟨⟨b - n, a, by omega, by omega, .inr fun x hx => ?_⟩, ⟨0, 0, by omega, by omega, .inl fun x hx => ?_⟩,
        .inr fun x hx => ?_⟩ <;> rw [h1 x hx, h2 x hx] <;> omega
    · refine ⟨⟨0, 0, by omega, by omega, .inr fun x hx => ?_⟩, ⟨a, b - n, by omega, by omega, .inl fun x hx => ?_⟩,
        .inl fun x hx => ?_⟩ <;> rw [h1 x hx, h2 x hx] <;> omega
  · have h1 : ∀ x < n, (B (base + x) ↔ ¬ (a ≤ x ∧ x < b)) := fun x hx => h x (by omega)
    have h2 : ∀ x < n, (B (base + (n + x)) ↔ ¬ (a ≤ n + x ∧ n + x < b)) := fun x hx => h (n + x) (by omega)
    by_cases c1 : b ≤ n
    · refine ⟨⟨0, 0, by omega, by omega, .inr fun x hx => ?_⟩, ⟨a, b, by omega, by omega, .inr fun x hx => ?_⟩,
        .inl fun x hx => ?_⟩ <;> rw [h1 x hx, h2 x hx] <;> omega
    by_cases c2 : n ≤ a
    · refine ⟨⟨0, 0, by omega, by omega, .inr fun x hx => ?_⟩, ⟨a - n, b - n, by omega, by omega, .inr fun x hx => ?_⟩,
        .inl fun x hx => ?_⟩ <;> rw [h1 x hx, h2 x hx] <;> omega
    by_cases c3 : b - n ≤ a
    · refine ⟨⟨0, 0, by omega, by omega, .inr fun x hx => ?_⟩, ⟨b - n, a, by omega, by omega, .inl fun x hx => ?_⟩,
        .inl fun x hx => ?_⟩ <;> rw [h1 x hx, h2 x hx] <;> omega
    · refine ⟨⟨a, b - n, by omega, by omega, .inr fun x hx => ?_⟩, ⟨0, 0, by omega, by omega, .inl fun x hx => ?_⟩,
        .inr fun x hx => ?_⟩ <;> rw [h1 x hx, h2 x hx] <;> omega

/-- The stages of one merge, the widest first: distances `2 ^ (k - 1)` down to 1. -/
def bmerge (asc : ℕ → Prop) : ℕ → (ℕ → Prop) → ℕ → Prop
  | 0, B => B
  | k + 1, B => bmerge asc k (bstage k asc B)

/-- A merge sorts a bitonic block: worst last where `asc` is false on the block, best last where it is true. -/
theorem bmerge_sorts (asc : ℕ → Prop) : ∀ (k : ℕ) (B : ℕ → Prop) (b : ℕ), Bitonic B (b * 2 ^ k) (2 ^ k) →
    ((∀ x < 2 ^ k, ¬ asc (b * 2 ^ k + x)) →
      ∀ x < 2 ^ k, (bmerge asc k B (b * 2 ^ k + x) ↔ x < cnt B (b * 2 ^ k) (2 ^ k))) ∧
    ((∀ x < 2 ^ k, asc (b * 2 ^ k + x)) →
      ∀ x < 2 ^ k, (bmerge asc k B (b * 2 ^ k + x) ↔ 2 ^ k ≤ x + cnt B (b * 2 ^ k) (2 ^ k)))
  | 0, B, b, _ => by
    classical
    constructor <;> intro _ x hx <;> obtain rfl : x = 0 := by omega
    all_goals
      simp only [bmerge, cnt, pow_zero, sum_range_one, Nat.add_zero, Nat.mul_one]
      by_cases hB : B b <;> simp [hB]
  | k + 1, B, b, h => by
    have e2 : 2 ^ (k + 1) = 2 ^ k + 2 ^ k := by rw [pow_succ]; omega
    have el : b * 2 ^ (k + 1) = (2 * b) * 2 ^ k := by rw [pow_succ, ← Nat.mul_assoc, Nat.mul_comm 2 b, Nat.mul_assoc, Nat.mul_assoc, Nat.mul_comm 2]
    have eh : b * 2 ^ (k + 1) + 2 ^ k = (2 * b + 1) * 2 ^ k := by rw [el, Nat.add_mul, Nat.one_mul]
    have hh := Bitonic.halves (by rw [← e2]; exact h)
    obtain ⟨⟨a, c, hac, hc, hor⟩, ⟨a', c', hac', hc', hand⟩, hall⟩ := hh
    have hl := fun x (hx : x < 2 ^ k) => bstage_low (s := k) (b := b) (asc := asc) (B := B) hx
    have hg := fun x (hx : x < 2 ^ k) => bstage_high (s := k) (b := b) (asc := asc) (B := B) hx
    have hsum : cnt B (b * 2 ^ (k + 1)) (2 ^ (k + 1)) = cnt B (b * 2 ^ (k + 1)) (2 ^ k) + cnt B (b * 2 ^ (k + 1) + 2 ^ k) (2 ^ k) := by
      rw [e2, cnt_add]
    have hle := cnt_le (bstage k asc B) (b * 2 ^ (k + 1)) (2 ^ k)
    have hle' := cnt_le (bstage k asc B) (b * 2 ^ (k + 1) + 2 ^ k) (2 ^ k)
    constructor
    · intro hd
      have d1 : ∀ x < 2 ^ k, ¬ asc (b * 2 ^ (k + 1) + x) := fun x hx => hd x (by omega)
      have d2 : ∀ x < 2 ^ k, ¬ asc (b * 2 ^ (k + 1) + 2 ^ k + x) := fun x hx => by
        rw [Nat.add_assoc]; exact hd _ (by omega)
      have so : ∀ x < 2 ^ k, (bstage k asc B (b * 2 ^ (k + 1) + x) ↔
          B (b * 2 ^ (k + 1) + x) ∨ B (b * 2 ^ (k + 1) + 2 ^ k + x)) := fun x hx => by
        rw [hl x hx]; simp only [d1 x hx, not_false_eq_true, true_and, false_and, _root_.or_false]
      have sa : ∀ x < 2 ^ k, (bstage k asc B (b * 2 ^ (k + 1) + 2 ^ k + x) ↔
          B (b * 2 ^ (k + 1) + x) ∧ B (b * 2 ^ (k + 1) + 2 ^ k + x)) := fun x hx => by
        rw [hg x hx]; simp only [d2 x hx, not_false_eq_true, true_and, false_and, false_or]
      have hcnt := cnt_or_and so sa
      have b1 : Bitonic (bstage k asc B) ((2 * b) * 2 ^ k) (2 ^ k) := by
        rw [← el]
        exact ⟨a, c, hac, hc, hor.imp (fun H x hx => (so x hx).trans (H x hx)) (fun H x hx => (so x hx).trans (H x hx))⟩
      have b2 : Bitonic (bstage k asc B) ((2 * b + 1) * 2 ^ k) (2 ^ k) := by
        rw [← eh]
        exact ⟨a', c', hac', hc', hand.imp (fun H x hx => (sa x hx).trans (H x hx)) (fun H x hx => (sa x hx).trans (H x hx))⟩
      have i1 := (bmerge_sorts asc k _ _ b1).1 (by rw [← el]; exact d1)
      have i2 := (bmerge_sorts asc k _ _ b2).1 (by rw [← eh]; exact d2)
      rw [← el] at i1
      rw [← eh] at i2
      have key : cnt (bstage k asc B) (b * 2 ^ (k + 1)) (2 ^ k) = 2 ^ k ∨
          cnt (bstage k asc B) (b * 2 ^ (k + 1) + 2 ^ k) (2 ^ k) = 0 :=
        hall.imp (fun H => cnt_all fun x hx => (so x hx).mpr (H x hx)) (fun H => cnt_none fun x hx => fun H' => H x hx ((sa x hx).mp H'))
      intro x hx
      show bmerge asc k (bstage k asc B) _ ↔ _
      by_cases hxl : x < 2 ^ k
      · rw [i1 x hxl]; omega
      · have := i2 (x - 2 ^ k) (by omega)
        rw [show b * 2 ^ (k + 1) + 2 ^ k + (x - 2 ^ k) = b * 2 ^ (k + 1) + x by omega] at this
        rw [this]; omega
    · intro hd
      have d1 : ∀ x < 2 ^ k, asc (b * 2 ^ (k + 1) + x) := fun x hx => hd x (by omega)
      have d2 : ∀ x < 2 ^ k, asc (b * 2 ^ (k + 1) + 2 ^ k + x) := fun x hx => by
        rw [Nat.add_assoc]; exact hd _ (by omega)
      have sa : ∀ x < 2 ^ k, (bstage k asc B (b * 2 ^ (k + 1) + x) ↔
          B (b * 2 ^ (k + 1) + x) ∧ B (b * 2 ^ (k + 1) + 2 ^ k + x)) := fun x hx => by
        rw [hl x hx]; simp only [d1 x hx, not_true_eq_false, true_and, false_and, false_or]
      have so : ∀ x < 2 ^ k, (bstage k asc B (b * 2 ^ (k + 1) + 2 ^ k + x) ↔
          B (b * 2 ^ (k + 1) + x) ∨ B (b * 2 ^ (k + 1) + 2 ^ k + x)) := fun x hx => by
        rw [hg x hx]; simp only [d2 x hx, not_true_eq_false, true_and, false_and, _root_.or_false]
      have hcnt := cnt_and_or sa so
      have b1 : Bitonic (bstage k asc B) ((2 * b) * 2 ^ k) (2 ^ k) := by
        rw [← el]
        exact ⟨a', c', hac', hc', hand.imp (fun H x hx => (sa x hx).trans (H x hx)) (fun H x hx => (sa x hx).trans (H x hx))⟩
      have b2 : Bitonic (bstage k asc B) ((2 * b + 1) * 2 ^ k) (2 ^ k) := by
        rw [← eh]
        exact ⟨a, c, hac, hc, hor.imp (fun H x hx => (so x hx).trans (H x hx)) (fun H x hx => (so x hx).trans (H x hx))⟩
      have i1 := (bmerge_sorts asc k _ _ b1).2 (by rw [← el]; exact d1)
      have i2 := (bmerge_sorts asc k _ _ b2).2 (by rw [← eh]; exact d2)
      rw [← el] at i1
      rw [← eh] at i2
      have key : cnt (bstage k asc B) (b * 2 ^ (k + 1) + 2 ^ k) (2 ^ k) = 2 ^ k ∨
          cnt (bstage k asc B) (b * 2 ^ (k + 1)) (2 ^ k) = 0 :=
        hall.imp (fun H => cnt_all fun x hx => (so x hx).mpr (H x hx)) (fun H => cnt_none fun x hx => fun H' => H x hx ((sa x hx).mp H'))
      intro x hx
      show bmerge asc k (bstage k asc B) _ ↔ _
      by_cases hxl : x < 2 ^ k
      · rw [i1 x hxl]; omega
      · have := i2 (x - 2 ^ k) (by omega)
        rw [show b * 2 ^ (k + 1) + 2 ^ k + (x - 2 ^ k) = b * 2 ^ (k + 1) + x by omega] at this
        rw [this]; omega

theorem cnt_first {B : ℕ → Prop} {base n c : ℕ} (hc : c ≤ n) (h : ∀ x < n, (B (base + x) ↔ x < c)) :
    cnt B base n = c := by
  obtain ⟨d, rfl⟩ := Nat.exists_eq_add_of_le hc
  rw [cnt_add, cnt_all fun x hx => (h x (by omega)).mpr hx, cnt_none fun x hx => ?_, Nat.add_zero]
  rw [Nat.add_assoc, h _ (by omega)]; omega

theorem cnt_last {B : ℕ → Prop} {base n c : ℕ} (hc : c ≤ n) (h : ∀ x < n, (B (base + x) ↔ n ≤ x + c)) :
    cnt B base n = c := by
  obtain ⟨d, rfl⟩ := Nat.exists_eq_add_of_le' hc
  rw [cnt_add, cnt_none fun x hx => ?_, cnt_all fun x hx => ?_, Nat.zero_add]
  · rw [Nat.add_assoc, h _ (by omega)]; omega
  · rw [h _ (by omega)]; omega

/-- The sort of blocks of `2 ^ k` positions among `2 ^ K`, neighbouring blocks in opposite order. -/
def bsort (K : ℕ) : ℕ → (ℕ → Prop) → ℕ → Prop
  | 0, B => B
  | k + 1, B => bmerge (fun p => (p % 2 ^ K).testBit (k + 1) = true) (k + 1) (bsort K k B)

theorem bsort_sorts (K : ℕ) (B : ℕ → Prop) : ∀ (k b : ℕ), b * 2 ^ k + 2 ^ k ≤ 2 ^ K →
    (b % 2 = 0 → ∀ x < 2 ^ k, (bsort K k B (b * 2 ^ k + x) ↔ x < cnt B (b * 2 ^ k) (2 ^ k))) ∧
    (b % 2 = 1 → ∀ x < 2 ^ k, (bsort K k B (b * 2 ^ k + x) ↔ 2 ^ k ≤ x + cnt B (b * 2 ^ k) (2 ^ k)))
  | 0, b, _ => by
    classical
    constructor <;> intro _ x hx <;> obtain rfl : x = 0 := by omega
    all_goals
      simp only [bsort, cnt, pow_zero, sum_range_one, Nat.add_zero, Nat.mul_one]
      by_cases hB : B b <;> simp [hB]
  | k + 1, b, hb => by
    have e2 : 2 ^ (k + 1) = 2 ^ k + 2 ^ k := by rw [pow_succ]; omega
    have el : b * 2 ^ (k + 1) = (2 * b) * 2 ^ k := by
      rw [pow_succ, ← Nat.mul_assoc, Nat.mul_comm 2 b, Nat.mul_assoc, Nat.mul_assoc, Nat.mul_comm 2]
    have eh : b * 2 ^ (k + 1) + 2 ^ k = (2 * b + 1) * 2 ^ k := by rw [el, Nat.add_mul, Nat.one_mul]
    have i1 := (bsort_sorts K B k (2 * b) (by rw [← el]; exact (Nat.add_le_add_left (Nat.pow_le_pow_right (by decide) (Nat.le_succ k)) _).trans hb)).1 (by omega)
    have i2 := (bsort_sorts K B k (2 * b + 1) (by rw [← eh, Nat.add_assoc, ← e2]; exact hb)).2 (by omega)
    rw [← el] at i1
    rw [← eh] at i2
    have c1 := cnt_le B (b * 2 ^ (k + 1)) (2 ^ k)
    have c2 := cnt_le B (b * 2 ^ (k + 1) + 2 ^ k) (2 ^ k)
    have hbit : Bitonic (bsort K k B) (b * 2 ^ (k + 1)) (2 ^ (k + 1)) := by
      refine ⟨cnt B (b * 2 ^ (k + 1)) (2 ^ k), 2 ^ (k + 1) - cnt B (b * 2 ^ (k + 1) + 2 ^ k) (2 ^ k), by omega, by omega,
        .inr fun x hx => ?_⟩
      by_cases hxl : x < 2 ^ k
      · rw [i1 x hxl]; omega
      · have := i2 (x - 2 ^ k) (by omega)
        rw [show b * 2 ^ (k + 1) + 2 ^ k + (x - 2 ^ k) = b * 2 ^ (k + 1) + x by omega] at this
        rw [this]; omega
    have hcnt : cnt (bsort K k B) (b * 2 ^ (k + 1)) (2 ^ (k + 1)) = cnt B (b * 2 ^ (k + 1)) (2 ^ (k + 1)) := by
      have add := fun X : ℕ → Prop => cnt_add X (b * 2 ^ (k + 1)) (2 ^ k) (2 ^ k)
      rw [← e2] at add
      rw [add, add, cnt_first c1 i1, cnt_last c2 i2]
    have hbitk : ∀ x < 2 ^ (k + 1), ((b * 2 ^ (k + 1) + x) % 2 ^ K).testBit (k + 1) = decide (b % 2 = 1) := fun x hx => by
      rw [Nat.mod_eq_of_lt (by omega), Nat.testBit_eq_decide_div_mod_eq, Nat.mul_comm, Nat.mul_add_div (Nat.two_pow_pos _),
        Nat.div_eq_of_lt hx, Nat.add_zero]
    have M := bmerge_sorts (fun p => (p % 2 ^ K).testBit (k + 1) = true) (k + 1) (bsort K k B) b hbit
    rw [hcnt] at M
    exact ⟨fun h => M.1 fun x hx => by simp [hbitk x hx]; omega, fun h => M.2 fun x hx => by simp [hbitk x hx, h]⟩

/-! ## The network on records -/

variable {α : Type}

/-- `P` holds of everything at least as good as something it holds of. -/
def Up (bet : α → α → Prop) (P : α → Prop) : Prop :=
  ∀ x y, (bet x y → P y → P x) ∧ (¬ bet x y → P x → P y)

open Classical in
/-- One compare-exchange stage on records. -/
noncomputable def astage (bet : α → α → Prop) (s : ℕ) (asc : ℕ → Prop) (f : ℕ → α) (p : ℕ) : α :=
  if ((bet (f p) (f (p ^^^ 2 ^ s)) ↔ ¬ p.testBit s = true) ↔ ¬ asc p) then f p else f (p ^^^ 2 ^ s)

noncomputable def amerge (bet : α → α → Prop) (asc : ℕ → Prop) : ℕ → (ℕ → α) → ℕ → α
  | 0, f => f
  | k + 1, f => amerge bet asc k (astage bet k asc f)

noncomputable def asort (bet : α → α → Prop) (K : ℕ) : ℕ → (ℕ → α) → ℕ → α
  | 0, f => f
  | k + 1, f => amerge bet (fun p => (p % 2 ^ K).testBit (k + 1) = true) (k + 1) (asort bet K k f)

theorem Up.stage {bet : α → α → Prop} {P : α → Prop} (h : Up bet P) (s : ℕ) (asc : ℕ → Prop) (f : ℕ → α) :
    (fun p => P (astage bet s asc f p)) = bstage s asc fun p => P (f p) := by
  funext p
  have h1 := h (f p) (f (p ^^^ 2 ^ s))
  refine propext ?_
  unfold astage bstage
  by_cases hb : bet (f p) (f (p ^^^ 2 ^ s)) <;> by_cases ht : p.testBit s = true <;> by_cases ha : asc p <;>
    simp only [hb, ht, ha, not_true_eq_false, not_false_eq_true, iff_true, true_iff, iff_false, false_iff, if_true, if_false,
      true_and, false_and, _root_.or_false, false_or] at h1 ⊢ <;> tauto

theorem Up.merge {bet : α → α → Prop} {P : α → Prop} (h : Up bet P) (asc : ℕ → Prop) : ∀ (k : ℕ) (f : ℕ → α),
    (fun p => P (amerge bet asc k f p)) = bmerge asc k fun p => P (f p)
  | 0, _ => rfl
  | k + 1, f => (h.merge asc k _).trans (congrArg (bmerge asc k) (h.stage k asc f))

theorem Up.sort {bet : α → α → Prop} {P : α → Prop} (h : Up bet P) (K : ℕ) (f : ℕ → α) : ∀ k : ℕ,
    (fun p => P (asort bet K k f p)) = bsort K k fun p => P (f p)
  | 0 => rfl
  | k + 1 => (h.merge _ (k + 1) _).trans (congrArg (bmerge _ (k + 1)) (h.sort K f k))

/-- Every element of `g` below `N` is one of `f`'s below `N`. -/
def From (N : ℕ) (g f : ℕ → α) : Prop := ∀ p < N, ∃ q < N, g p = f q

theorem From.refl (N : ℕ) (f : ℕ → α) : From N f f := fun p hp => ⟨p, hp, rfl⟩
theorem From.trans {N : ℕ} {f g h : ℕ → α} (a : From N h g) (b : From N g f) : From N h f := fun p hp => by
  obtain ⟨q, hq, e⟩ := a p hp
  obtain ⟨r, hr, e'⟩ := b q hq
  exact ⟨r, hr, e.trans e'⟩

theorem from_stage (bet : α → α → Prop) {K s : ℕ} (hs : s < K) (asc : ℕ → Prop) (f : ℕ → α) :
    From (2 ^ K) (astage bet s asc f) f := fun p hp => by
  unfold astage
  split
  · exact ⟨p, hp, rfl⟩
  · exact ⟨_, Nat.xor_lt_two_pow hp (Nat.pow_lt_pow_right (by decide) hs), rfl⟩

theorem from_merge (bet : α → α → Prop) {K : ℕ} (asc : ℕ → Prop) : ∀ (k : ℕ) (f : ℕ → α), k ≤ K →
    From (2 ^ K) (amerge bet asc k f) f
  | 0, f, _ => From.refl _ f
  | k + 1, f, h => (from_merge bet asc k _ (by omega)).trans (from_stage bet (by omega) asc f)

theorem from_sort (bet : α → α → Prop) {K : ℕ} (f : ℕ → α) : ∀ k : ℕ, k ≤ K → From (2 ^ K) (asort bet K k f) f
  | 0, _ => From.refl _ f
  | k + 1, h => (from_merge bet _ (k + 1) _ h).trans (from_sort bet f k (by omega))

/-! ## The best of a collection -/

/-- `g` holds the best `N` of the `n` records `v`, best first: whatever holds upwards holds of as many at the
front of `g` as it holds of in `v` (at most `N`). -/
def Best (bet : α → α → Prop) (N : ℕ) (g v : ℕ → α) (n : ℕ) : Prop :=
  (∀ P, Up bet P → ∀ s < N, (P (g s) ↔ s < cnt (fun i => P (v i)) 0 n)) ∧ ∀ s < N, ∃ i < n, g s = v i

/-- A sorted block holds the best of itself. -/
theorem best_sort (bet : α → α → Prop) (K : ℕ) (f : ℕ → α) : Best bet (2 ^ K) (asort bet K K f) f (2 ^ K) := by
  refine ⟨fun P hP s hs => ?_, from_sort bet f K le_rfl⟩
  have h := (bsort_sorts K (fun p => P (f p)) K 0 (by simp)).1 rfl s hs
  rw [← hP.sort, Nat.zero_mul, Nat.zero_add] at h
  exact h

open Classical in
/-- Two blocks, the second back to front, joined position by position by the better of the two. -/
noncomputable def awin (bet : α → α → Prop) (N : ℕ) (f g : ℕ → α) (p : ℕ) : α :=
  if bet (f p) (g (N - 1 - p)) then f p else g (N - 1 - p)

/-- Two blocks of bests, merged, are the best of both collections. -/
theorem best_merge (bet : α → α → Prop) (K : ℕ) {f g v w u : ℕ → α} {n m : ℕ}
    (hf : Best bet (2 ^ K) f v n) (hg : Best bet (2 ^ K) g w m)
    (hv : ∀ i < n, u i = v i) (hw : ∀ i < m, u (n + i) = w i) (W : ℕ → α)
    (hW : ∀ p < 2 ^ K, W p = awin bet (2 ^ K) f g p) :
    Best bet (2 ^ K) (amerge bet (fun _ => False) K W) u (n + m) := by
  have hc : ∀ P : α → Prop, cnt (fun i => P (u i)) 0 (n + m) = cnt (fun i => P (v i)) 0 n + cnt (fun i => P (w i)) 0 m := fun P => by
    rw [cnt_add]
    congr 1
    · exact cnt_congr fun x hx => by rw [Nat.zero_add, hv x hx]
    · exact cnt_congr fun x hx => by rw [Nat.zero_add, Nat.zero_add, hw x hx]
  refine ⟨fun P hP s hs => ?_, fun s hs => ?_⟩
  · rw [hc]
    generalize ha : cnt (fun i => P (v i)) 0 n = a
    generalize hb : cnt (fun i => P (w i)) 0 m = b
    have hfP := hf.1 P hP
    have hgP := hg.1 P hP
    rw [ha] at hfP
    rw [hb] at hgP
    have hWP : ∀ p < 2 ^ K, (P (W p) ↔ p < a ∨ 2 ^ K ≤ p + b) := fun p hp => by
      have h1 := hfP p hp
      have h2 := hgP (2 ^ K - 1 - p) (by omega)
      have h3 := hP (f p) (g (2 ^ K - 1 - p))
      rw [hW p hp]
      unfold awin
      by_cases hbet : bet (f p) (g (2 ^ K - 1 - p))
      · rw [if_pos hbet, h1]
        have := h3.1 hbet
        rw [h1, h2] at this
        omega
      · rw [if_neg hbet, h2]
        have := h3.2 hbet
        rw [h1, h2] at this
        omega
    have hbit : Bitonic (fun p => P (W p)) (0 * 2 ^ K) (2 ^ K) := by
      by_cases hab : 2 ^ K ≤ a + b
      · refine ⟨0, 0, by omega, by omega, .inr fun x hx => ?_⟩
        rw [Nat.zero_mul, Nat.zero_add]; exact (hWP x hx).trans (by omega)
      · refine ⟨a, 2 ^ K - b, by omega, by omega, .inr fun x hx => ?_⟩
        rw [Nat.zero_mul, Nat.zero_add]; exact (hWP x hx).trans (by omega)
    have hcW : cnt (fun p => P (W p)) (0 * 2 ^ K) (2 ^ K) = min (a + b) (2 ^ K) := by
      by_cases hab : 2 ^ K ≤ a + b
      · rw [Nat.min_eq_right hab]
        exact cnt_all fun x hx => by rw [Nat.zero_mul, Nat.zero_add]; exact (hWP x hx).mpr (by omega)
      · rw [Nat.min_eq_left (by omega), Nat.zero_mul]
        obtain ⟨d, hd⟩ := Nat.exists_eq_add_of_le (show a ≤ 2 ^ K by omega)
        rw [hd, cnt_add, cnt_all (fun x hx => by rw [Nat.zero_add]; exact (hWP x (by omega)).mpr (by omega)),
          cnt_last (c := b) (by omega) (fun x hx => by rw [Nat.zero_add]; exact (hWP (a + x) (by omega)).trans (by omega))]
    have M := (bmerge_sorts (fun _ => False) K (fun p => P (W p)) 0 hbit).1 (fun _ _ h => h) s hs
    rw [hcW, ← hP.merge, Nat.zero_mul, Nat.zero_add] at M
    exact M.trans (by omega)
  · obtain ⟨q, hq, e⟩ := from_merge bet (fun _ => False) (K := K) K W le_rfl s hs
    rw [e, hW q hq]
    unfold awin
    split
    · obtain ⟨i, hi, e'⟩ := hf.2 q hq
      exact ⟨i, by omega, e'.trans (hv i hi).symm⟩
    · obtain ⟨i, hi, e'⟩ := hg.2 (2 ^ K - 1 - q) (by omega)
      exact ⟨n + i, by omega, e'.trans (hw i hi).symm⟩

/-- Where the order tells any two records apart, the record at position `s` of the bests is the one that exactly
`s` records go before. -/
theorem Best.rank {bet : α → α → Prop} {N n : ℕ} {g v : ℕ → α} (h : Best bet N g v n)
    (htr : ∀ x y z, bet x y → bet y z → bet x z) (hneg : ∀ x y z, bet x z → bet x y ∨ bet y z)
    (htot : ∀ i < n, ∀ j < n, i ≠ j → (bet (v i) (v j) ∨ bet (v j) (v i))) (hirr : ∀ x, ¬ bet x x) {s : ℕ} (hs : s < N) :
    ∃ i < n, g s = v i ∧ cnt (fun j => bet (v j) (v i)) 0 n = s := by
  obtain ⟨i, hi, e⟩ := h.2 s hs
  refine ⟨i, hi, e, ?_⟩
  have up1 : Up bet fun y => bet y (v i) := fun x y => ⟨fun hxy hy => htr _ _ _ hxy hy, fun hxy hx => by
    rcases hneg x y (v i) hx with h | h
    · exact absurd h hxy
    · exact h⟩
  have up2 : Up bet fun y => ¬ bet (v i) y := fun x y => ⟨fun hxy hy hx => hy (htr _ _ _ hx hxy), fun hxy hx hy => by
    rcases hneg (v i) x y hy with h | h
    · exact hx h
    · exact hxy h⟩
  have a1 := h.1 _ up1 s hs
  have a2 := h.1 _ up2 s hs
  rw [e] at a1 a2
  have b1 : cnt (fun j => bet (v j) (v i)) 0 n ≤ s := Nat.le_of_not_lt fun hlt => hirr _ (a1.mpr hlt)
  have b2 := a2.mp (hirr _)
  have b3 : cnt (fun j => ¬ bet (v i) (v j)) 0 n = cnt (fun j => bet (v j) (v i)) 0 n + 1 := by
    classical
    unfold cnt
    rw [← Finset.add_sum_erase _ _ (mem_range.mpr hi), ← Finset.add_sum_erase (range n) (fun x => if bet (v (0 + x)) (v i) then 1 else 0) (mem_range.mpr hi)]
    simp only [Nat.zero_add, hirr, not_false_eq_true, if_true, if_false]
    rw [Nat.add_comm 1]
    congr 1
    refine sum_congr rfl fun j hj => ?_
    obtain ⟨hne, hj⟩ := Finset.mem_erase.mp hj
    have hj := mem_range.mp hj
    have : ¬ bet (v i) (v j) ↔ bet (v j) (v i) :=
      ⟨fun hn => (htot i hi j hj (Ne.symm hne)).resolve_left hn, fun hb hb' => hirr _ (htr _ _ _ hb hb')⟩
    simp only [this]
  omega

theorem Best.congr {bet : α → α → Prop} {N n n' : ℕ} {g v v' : ℕ → α} (h : Best bet N g v n) (hn : n = n')
    (hv : ∀ x < n, v x = v' x) : Best bet N g v' n' := by
  subst hn
  refine ⟨fun P hP s hs => (h.1 P hP s hs).trans ?_, fun s hs => ?_⟩
  · rw [cnt_congr (B := fun i => P (v i)) (B' := fun i => P (v' i)) (base := 0) (base' := 0) fun x hx => by
      rw [Nat.zero_add, hv x hx]]
  · obtain ⟨i, hi, e⟩ := h.2 s hs
    exact ⟨i, hi, e.trans (hv i hi)⟩

end Rpn.Net

end
-- ==== Proof.Spec.lean ====
module

public import Idealize.ShloMosaic.PureOps.Ideal.Laws
public import proofs.«01_k».proof.Proof.Net

@[expose] public section

/-! What is computed, on extended reals: the decoding of one box, the overlap of two, the greedy choice of boxes
and the place a chosen box gets. -/

noncomputable section

namespace Rpn.Spec

open Idealize.ShloMosaic Finset
open Rpn.Net

/-- The number a 32-bit word stands for. -/
abbrev lit (w : BitVec 32) : EReal := Ideal.ofBits .f32 w

/-- A box by its corners. -/
structure Box where
  y1 : EReal
  x1 : EReal
  y2 : EReal
  x2 : EReal

/-- The lower corner along one axis, from the anchor's corners and the scaled deltas. -/
def low (a1 a2 d e : EReal) : EReal :=
  a1 + lit 0x3F000000#32 * (a2 - a1) + d * (a2 - a1) - lit 0x3F000000#32 * ((a2 - a1) * Ideal.exp e)

/-- The upper corner. -/
def high (a1 a2 d e : EReal) : EReal := low a1 a2 d e + (a2 - a1) * Ideal.exp e

/-- A coordinate limited to the unit interval. -/
def clip (x : EReal) : EReal := min (lit 0x3F800000#32) (max (lit 0x00000000#32) x)

/-- The box of an anchor and its deltas. -/
def decode (a d : Fin 4 → EReal) : Box where
  y1 := clip (low (a 0) (a 2) (d 0 * lit 0x3DCCCCCD#32) (d 2 * lit 0x3E4CCCCD#32))
  x1 := clip (low (a 1) (a 3) (d 1 * lit 0x3DCCCCCD#32) (d 3 * lit 0x3E4CCCCD#32))
  y2 := clip (high (a 0) (a 2) (d 0 * lit 0x3DCCCCCD#32) (d 2 * lit 0x3E4CCCCD#32))
  x2 := clip (high (a 1) (a 3) (d 1 * lit 0x3DCCCCCD#32) (d 3 * lit 0x3E4CCCCD#32))

def Box.area (p : Box) : EReal := (p.y2 - p.y1) * (p.x2 - p.x1)

def inter (p q : Box) : EReal :=
  max (min p.y2 q.y2 - max p.y1 q.y1) (lit 0x00000000#32) * max (min p.x2 q.x2 - max p.x1 q.x1) (lit 0x00000000#32)

/-- The overlap of two boxes is above the threshold. -/
def over (p q : Box) : Prop :=
  lit 0x3F333333#32 < Ideal.div (inter p q) (max (p.area + q.area - inter p q) (lit 0x322BCC77#32))

/-- The greedy choice among the first `n`: a box is chosen unless one chosen before overlaps it. -/
def Greedy (n : ℕ) (ov : ℕ → ℕ → Prop) (K : ℕ → Prop) : Prop := ∀ j, K j ↔ j < n ∧ ∀ i < j, K i → ¬ ov i j

theorem Greedy.unique {n : ℕ} {ov : ℕ → ℕ → Prop} {K K' : ℕ → Prop} (h : Greedy n ov K) (h' : Greedy n ov K') (j : ℕ) : K j ↔ K' j := by
  induction j using Nat.strong_induction_on with
  | _ j ih =>
    rw [h j, h' j]
    refine and_congr_right fun _ => forall_congr' fun i => ?_
    exact ⟨fun f hi k => f hi ((ih i hi).mpr k), fun f hi k => f hi ((ih i hi).mp k)⟩

/-- A number to sort by that puts the chosen ones first, each in its order. -/
def place (D : ℕ) (K : ℕ → Prop) (i : ℕ) : ℕ := by
  classical exact if K i then i else i + D

theorem place_inj {D n : ℕ} (hD : n ≤ D) (K : ℕ → Prop) {i j : ℕ} (hi : i < n) (hj : j < n) (h : place D K i = place D K j) : i = j := by
  unfold place at h
  split at h <;> split at h <;> omega

theorem cnt_mono {B B' : ℕ → Prop} {n : ℕ} (h : ∀ x < n, B x → B' x) : cnt B 0 n ≤ cnt B' 0 n := by
  classical
  unfold cnt
  refine sum_le_sum fun x hx => ?_
  have := h x (mem_range.mp hx)
  simp only [Nat.zero_add]
  split <;> split <;> simp_all

theorem cnt_prefix {B : ℕ → Prop} {m n : ℕ} (h : m ≤ n) (hB : ∀ x, m ≤ x → ¬ B x) : cnt B 0 n = cnt B 0 m := by
  obtain ⟨d, rfl⟩ := Nat.exists_eq_add_of_le h
  rw [cnt_add, cnt_none (B := B) (base := 0 + m) (n := d) fun x _ => hB _ (by omega), Nat.add_zero]

theorem cnt_lt {B : ℕ → Prop} {m n : ℕ} (h : m < n) (hB : B m) : cnt B 0 m < cnt B 0 n := by
  have h1 : cnt B 0 (m + 1) = cnt B 0 m + 1 := by
    rw [cnt_add, Nat.zero_add, cnt_all (base := m) (n := 1) fun x hx => by
      obtain rfl : x = 0 := by omega
      exact hB]
  obtain ⟨d, rfl⟩ := Nat.exists_eq_add_of_lt h
  rw [show m + d + 1 = (m + 1) + d by omega, cnt_add, h1]
  omega

/-- A chosen one has before it exactly the chosen ones of lower index. -/
theorem place_chosen {D n : ℕ} (hD : n ≤ D) {K : ℕ → Prop} {i : ℕ} (hi : i < n) (hK : K i) :
    cnt (fun j => place D K j < place D K i) 0 n = cnt K 0 i := by
  classical
  have e : ∀ j, place D K j < place D K i ↔ K j ∧ j < i := fun j => by
    unfold place
    rw [if_pos hK]
    split
    · rename_i h; exact ⟨fun h' => ⟨h, h'⟩, fun h' => h'.2⟩
    · rename_i h; exact ⟨fun h' => by omega, fun h' => absurd h'.1 h⟩
  simp only [e]
  rw [cnt_prefix hi.le fun x hx h => by omega]
  exact cnt_congr fun x hx => by simp only [Nat.zero_add]; exact ⟨fun h => h.1, fun h => ⟨h, hx⟩⟩

/-- One not chosen has all the chosen ones before it. -/
theorem place_other {D n : ℕ} (hD : n ≤ D) {K : ℕ → Prop} {i : ℕ} (hK : ¬ K i) :
    cnt K 0 n ≤ cnt (fun j => place D K j < place D K i) 0 n := by
  classical
  refine cnt_mono fun x hx h => ?_
  unfold place
  rw [if_pos h, if_neg hK]
  omega

/-- Where `s` are placed before `i`: either `i` is the chosen one number `s`, or there are no more than `s` chosen. -/
theorem place_rank {D n : ℕ} (hD : n ≤ D) {K : ℕ → Prop} {i s : ℕ} (hi : i < n) (h : cnt (fun j => place D K j < place D K i) 0 n = s) :
    (K i ∧ cnt K 0 i = s ∧ s < cnt K 0 n) ∨ (¬ K i ∧ cnt K 0 n ≤ s) := by
  by_cases hK : K i
  · rw [place_chosen hD hi hK] at h
    exact .inl ⟨hK, h, h ▸ cnt_lt hi hK⟩
  · exact .inr ⟨hK, h ▸ place_other hD hK⟩

/-- At most one chosen one has number `s`. -/
theorem rank_unique {K : ℕ → Prop} {i j : ℕ} (hi : K i) (hj : K j) (h : cnt K 0 i = cnt K 0 j) : i = j := by
  rcases lt_trichotomy i j with h' | h' | h'
  · exact absurd h (cnt_lt h' hi).ne
  · exact h'
  · exact absurd h.symm (cnt_lt h' hj).ne

end Rpn.Spec

end

end
-- ==== Proof.NetRead.lean ====
module

public import proofs.«01_k».proof.Proof.Model
public import proofs.«01_k».proof.Proof.Net
public import Idealize.ShloMosaic.Lib.ValueIdx
public import Idealize.ShloMosaic.Lib.ValueIdxCoords
public import Idealize.ShloMosaic.Lib.KernelVsHost
public import Idealize.ShloMosaic.Lib.Pipeline.Value

@[expose] public section

/-! The network's arrays read at a position: block by block, position `p` is row `p / 128`, lane `p % 128`. -/

namespace Rpn

open Idealize.ShloMosaic
open Idealize.ShloMosaic.ValueIdx

/-- Position `p` of block `m`. -/
abbrev A3 {n : ℕ} (m : Fin n) (p : ℕ) : (B3 n).Idx :=
  ix3 m (⟨p / 128 % 16, Nat.mod_lt _ (by decide)⟩ : Fin 16) (⟨p % 128, Nat.mod_lt _ (by decide)⟩ : Fin 128)

/-- Position `p` of block `m` of image `i`. -/
abbrev A4 {n : ℕ} (i : Fin 4) (m : Fin n) (p : ℕ) : (B4 n).Idx :=
  ix4 i m (⟨p / 128 % 16, Nat.mod_lt _ (by decide)⟩ : Fin 16) (⟨p % 128, Nat.mod_lt _ (by decide)⟩ : Fin 128)

theorem A3_eq {n : ℕ} (m : Fin n) {p q : ℕ} (h : p % 2048 = q % 2048) : A3 m p = A3 m q := by
  have h1 : p / 128 % 16 = q / 128 % 16 := by omega
  have h2 : p % 128 = q % 128 := by omega
  unfold A3; congr 1 <;> exact Fin.ext (by assumption)

theorem xor_cases (p s : ℕ) : (p / 2 ^ s % 2 = 0 ∧ p.testBit s = false ∧ p ^^^ 2 ^ s = p + 2 ^ s) ∨
    (p / 2 ^ s % 2 = 1 ∧ p.testBit s = true ∧ (p ^^^ 2 ^ s) + 2 ^ s = p) := by
  rcases hb : p.testBit s with _ | _
  · refine .inl ⟨?_, rfl, Net.xor_low hb⟩
    rw [Nat.testBit_eq_decide_div_mod_eq] at hb
    simpa using hb
  · refine .inr ⟨?_, rfl, ?_⟩
    · rw [Nat.testBit_eq_decide_div_mod_eq] at hb
      simpa using hb
    · have h : (p ^^^ 2 ^ s).testBit s = false := by
        rw [Nat.testBit_xor, hb, Nat.testBit_two_pow_self]; rfl
      have := Net.xor_low h
      rw [Nat.xor_assoc, Nat.xor_self, Nat.xor_zero] at this
      exact this.symm

theorem ploc_apply (p : ℕ) : ploc (A3 0 p) = BitVec.ofNat 32 (p % 2048) := by
  show IntOp.addi (IntOp.muli 128#32 (iota .tc (B3 1) 32 [1] _ (A3 0 p))) (iota .tc (B3 1) 32 [2] _ (A3 0 p)) = _
  rw [iota_single_apply, iota_single_apply]
  show 128#32 * BitVec.ofNat 32 (p / 128 % 16) + BitVec.ofNat 32 (p % 128) = _
  rw [← BitVec.ofNat_mul, ← BitVec.ofNat_add]
  congr 1
  omega

theorem bitMask_apply {s : ℕ} (hs : s ≤ 11) (p : ℕ) : bitMask (2 ^ s) (A3 0 p) = BitVec.ofBool ((p % 2048).testBit s) := by
  show IntOp.cmpi .ne (IntOp.andi (ploc (A3 0 p)) (BitVec.ofNat 32 (2 ^ s))) 0#32 = _
  rw [ploc_apply]
  show BitVec.ofBool ((BitVec.ofNat 32 (p % 2048) &&& BitVec.ofNat 32 (2 ^ s)) != 0#32) = _
  congr 1
  rw [← BitVec.ofNat_and]
  have hle : p % 2048 &&& 2 ^ s ≤ 2048 :=
    Nat.and_le_right.trans ((Nat.pow_le_pow_right (by decide) hs).trans (by decide))
  have hz := SortNet.and_two_pow_eq_zero_iff_testBit (p % 2048) s
  rcases hb : (p % 2048).testBit s with _ | _
  · rw [hz.mpr hb]; rfl
  · have hne : p % 2048 &&& 2 ^ s ≠ 0 := fun h => by rw [hz.mp h] at hb; cases hb
    generalize p % 2048 &&& 2 ^ s = y at hle hne
    refine bne_iff_ne.mpr fun h => hne ?_
    have := congrArg BitVec.toNat h
    rw [BitVec.toNat_ofNat, Nat.mod_eq_of_lt (by omega)] at this
    simpa using this

/-- The lower bits of a position do not depend on its block. -/
theorem testBit_mod {s : ℕ} (hs : s < 11) (p : ℕ) : (p % 2048).testBit s = p.testBit s := by
  rw [show 2048 = 2 ^ 11 from rfl, Nat.testBit_mod_two_pow]
  simp [hs]

variable {F : FTy → Type} [FloatOps F]

theorem bcast3_apply {α : Type} {n : ℕ} (x : (B3 1).Idx → α) (m : Fin n) (p : ℕ) :
    broadcastTo (B3 n) x (bc_B3 n) (A3 m p) = x (A3 0 p) :=
  broadcastTo_apply _ _ _ _ (by intro a; fin_cases a <;> simp [A3, Shape.size])

theorem lanePartner_apply {n s : ℕ} (hs : s < 7) (x : FVec F (B3 n) .f32) (m : Fin n) (p : ℕ) :
    lanePartner n (2 ^ s) x (A3 m p) = x (A3 m (p ^^^ 2 ^ s)) := by
  have hb : broadcastTo (B3 n) (shapeCast (B3 1) (bitMask (2 ^ s)) (by decide)) (bc_B3 n) (A3 m p)
      = BitVec.ofBool (p.testBit s) := by
    rw [shapeCast_self, bcast3_apply, bitMask_apply (by omega),
      testBit_mod (by omega)]
  show Scalar.select (broadcastTo (B3 n) (shapeCast (B3 1) (bitMask (2 ^ s)) _) _ (A3 m p)) _ _ = _
  rw [hb]
  rcases xor_cases p s with ⟨h1, h2, h3⟩ | ⟨h1, h2, h3⟩
  · rw [h2, h3]
    show dynamicRotate 2 (BitVec.ofNat 32 (128 - 2 ^ s)) none x (rot_B3 n) (A3 m p) = _
    refine dynamicRotate_apply _ _ _ _ _ _ fun b => ?_
    interval_cases s <;> fin_cases b <;> simp [A3] at h1 ⊢ <;> omega
  · rw [h2]
    show dynamicRotate 2 (BitVec.ofNat 32 (2 ^ s)) none x (rot_B3 n) (A3 m p) = _
    refine dynamicRotate_apply _ _ _ _ _ _ fun b => ?_
    interval_cases s <;> fin_cases b <;> simp [A3] at h1 h3 ⊢ <;> omega

theorem rowPartner_apply {n g r s : ℕ} (h : g * 2 * r = 16) (hr : 128 * r = 2 ^ s) (x : FVec F (B3 n) .f32) (m : Fin n) (p : ℕ) :
    rowPartner n g r h x (A3 m p) = x (A3 m (p ^^^ 2 ^ s)) := by
  have hs : s = 7 ∧ g = 8 ∧ r = 1 ∨ s = 8 ∧ g = 4 ∧ r = 2 ∨ s = 9 ∧ g = 2 ∧ r = 4 ∨ s = 10 ∧ g = 1 ∧ r = 8 := by
    have hg : 0 < g := by rcases Nat.eq_zero_or_pos g with h0 | h0 <;> [(subst h0; simp at h); exact h0]
    have hr8 : r ≤ 8 := by
      have := Nat.mul_le_mul_right r (show 2 ≤ g * 2 by omega); omega
    have h7 : 7 ≤ s := by
      by_contra hlt
      have : 2 ^ s ≤ 2 ^ 6 := Nat.pow_le_pow_right (by decide) (by omega)
      have : r = 0 := by omega
      subst this; simp at h
    have h10 : s ≤ 10 := by
      by_contra hlt
      have : 2 ^ 11 ≤ 2 ^ s := Nat.pow_le_pow_right (by decide) (by omega)
      omega
    interval_cases s
    · obtain rfl : r = 1 := by omega
      omega
    · obtain rfl : r = 2 := by omega
      omega
    · obtain rfl : r = 4 := by omega
      omega
    · obtain rfl : r = 8 := by omega
      omega
  have hr0 : 0 < r := by omega
  have hg : p / 128 % 16 / (2 * r) < g := by
    rcases hs with ⟨_, rfl, rfl⟩ | ⟨_, rfl, rfl⟩ | ⟨_, rfl, rfl⟩ | ⟨_, rfl, rfl⟩ <;> omega
  have hq : p / 128 % 16 % r < r := Nat.mod_lt _ hr0
  have hl : p % 128 < 128 := Nat.mod_lt _ (by decide)
  have hread : ∀ o : Fin 2, (p / 128 % 16 / r % 2 = 0 ∧ o = 1 ∨ p / 128 % 16 / r % 2 = 1 ∧ o = 0) →
      shapeCast (sh5 n g 2 r 128) x (sc_rows n g r h)
        (ix5 m (⟨p / 128 % 16 / (2 * r), hg⟩ : Fin g) o (⟨p / 128 % 16 % r, hq⟩ : Fin r) (⟨p % 128, hl⟩ : Fin 128))
      = x (A3 m (p ^^^ 2 ^ s)) := fun o ho => by
    refine shapeCast_apply _ _ _ _ ?_
    rw [Shape.rowMajor_val_three, Shape.rowMajor_val_five]
    rcases xor_cases p s with ⟨h1, h2, h3⟩ | ⟨h1, h2, h3⟩ <;>
      rcases hs with ⟨rfl, rfl, rfl⟩ | ⟨rfl, rfl, rfl⟩ | ⟨rfl, rfl, rfl⟩ | ⟨rfl, rfl, rfl⟩ <;> rcases ho with ⟨h4, rfl⟩ | ⟨h4, rfl⟩ <;>
      simp [A3] at h1 h3 h4 ⊢ <;> omega
  unfold rowPartner
  rcases Nat.mod_two_eq_zero_or_one (p / 128 % 16 / r) with h0 | h0
  · refine (shapeCast_apply _ _ _ (ix5 m (⟨p / 128 % 16 / (2 * r), hg⟩ : Fin g) (0 : Fin 2) (⟨p / 128 % 16 % r, hq⟩ : Fin r) (⟨p % 128, hl⟩ : Fin 128))
      (by
        rw [Shape.rowMajor_val_three, Shape.rowMajor_val_five]
        rcases hs with ⟨rfl, rfl, rfl⟩ | ⟨rfl, rfl, rfl⟩ | ⟨rfl, rfl, rfl⟩ | ⟨rfl, rfl, rfl⟩ <;> simp [A3] at h0 ⊢ <;> omega)).trans ?_
    refine (concatenate_pair_apply_left (t := sh5 n g 2 r 128) (s₁ := sh5 n g 1 r 128) (s₂ := sh5 n g 1 r 128) 2 _ _ _ _ rfl
      (ix5 m (⟨p / 128 % 16 / (2 * r), hg⟩ : Fin g) (0 : Fin 1) (⟨p / 128 % 16 % r, hq⟩ : Fin r) (⟨p % 128, hl⟩ : Fin 128))
      (fun b => match b with | ⟨0, _⟩ => rfl | ⟨1, _⟩ => rfl | ⟨2, _⟩ => rfl | ⟨3, _⟩ => rfl | ⟨4, _⟩ => rfl)).trans ?_
    refine (extractStridedSlice_apply (s := sh5 n g 2 r 128) (t := sh5 n g 1 r 128) _ _ _ _
      (ix5 m (⟨p / 128 % 16 / (2 * r), hg⟩ : Fin g) (1 : Fin 2) (⟨p / 128 % 16 % r, hq⟩ : Fin r) (⟨p % 128, hl⟩ : Fin 128))
      (fun b => match b with | ⟨0, _⟩ => (Nat.zero_add _).symm | ⟨1, _⟩ => (Nat.zero_add _).symm | ⟨2, _⟩ => rfl | ⟨3, _⟩ => (Nat.zero_add _).symm | ⟨4, _⟩ => (Nat.zero_add _).symm)).trans ?_
    exact hread 1 (.inl ⟨h0, rfl⟩)
  · refine (shapeCast_apply _ _ _ (ix5 m (⟨p / 128 % 16 / (2 * r), hg⟩ : Fin g) (1 : Fin 2) (⟨p / 128 % 16 % r, hq⟩ : Fin r) (⟨p % 128, hl⟩ : Fin 128))
      (by
        rw [Shape.rowMajor_val_three, Shape.rowMajor_val_five]
        rcases hs with ⟨rfl, rfl, rfl⟩ | ⟨rfl, rfl, rfl⟩ | ⟨rfl, rfl, rfl⟩ | ⟨rfl, rfl, rfl⟩ <;> simp [A3] at h0 ⊢ <;> omega)).trans ?_
    refine (concatenate_pair_apply_right (t := sh5 n g 2 r 128) (s₁ := sh5 n g 1 r 128) (s₂ := sh5 n g 1 r 128) 2 _ _ _ _ rfl rfl
      (ix5 m (⟨p / 128 % 16 / (2 * r), hg⟩ : Fin g) (0 : Fin 1) (⟨p / 128 % 16 % r, hq⟩ : Fin r) (⟨p % 128, hl⟩ : Fin 128))
      (fun b hb => match b, hb with
        | ⟨0, _⟩, _ => rfl | ⟨1, _⟩, _ => rfl | ⟨2, _⟩, hb => absurd rfl hb | ⟨3, _⟩, _ => rfl | ⟨4, _⟩, _ => rfl) rfl).trans ?_
    refine (extractStridedSlice_apply (s := sh5 n g 2 r 128) (t := sh5 n g 1 r 128) _ _ _ _
      (ix5 m (⟨p / 128 % 16 / (2 * r), hg⟩ : Fin g) (0 : Fin 2) (⟨p / 128 % 16 % r, hq⟩ : Fin r) (⟨p % 128, hl⟩ : Fin 128))
      (fun b => match b with | ⟨0, _⟩ => (Nat.zero_add _).symm | ⟨1, _⟩ => (Nat.zero_add _).symm | ⟨2, _⟩ => rfl | ⟨3, _⟩ => (Nat.zero_add _).symm | ⟨4, _⟩ => (Nat.zero_add _).symm)).trans ?_
    exact hread 0 (.inr ⟨h0, rfl⟩)

/-- A position's partner in the stage of bit `s` is the position with that bit flipped. -/
theorem partner_apply {n s : ℕ} (hs : s < 11) (x : FVec F (B3 n) .f32) (m : Fin n) (p : ℕ) :
    partner n s x (A3 m p) = x (A3 m (p ^^^ 2 ^ s)) := by
  interval_cases s
  · exact lanePartner_apply (s := 0) (by decide) x m p
  · exact lanePartner_apply (s := 1) (by decide) x m p
  · exact lanePartner_apply (s := 2) (by decide) x m p
  · exact lanePartner_apply (s := 3) (by decide) x m p
  · exact lanePartner_apply (s := 4) (by decide) x m p
  · exact lanePartner_apply (s := 5) (by decide) x m p
  · exact lanePartner_apply (s := 6) (by decide) x m p
  · exact rowPartner_apply (s := 7) rfl rfl x m p
  · exact rowPartner_apply (s := 8) rfl rfl x m p
  · exact rowPartner_apply (s := 9) rfl rfl x m p
  · exact rowPartner_apply (s := 10) rfl rfl x m p

/-! ## The network on records, over the extended reals -/

/-- What travels together through the network at one position. -/
structure Rec where
  key : EReal
  tie : EReal
  p0 : EReal
  p1 : EReal
  p2 : EReal
  p3 : EReal

/-- The larger key goes first, and of equal keys the smaller tie. -/
def bet (x y : Rec) : Prop := y.key < x.key ∨ x.key = y.key ∧ x.tie < y.tie

theorem bet_trans (x y z : Rec) (h : bet x y) (h' : bet y z) : bet x z := by
  rcases h with h | ⟨h, h1⟩ <;> rcases h' with h' | ⟨h', h1'⟩
  · exact .inl (h'.trans h)
  · exact .inl (h' ▸ h)
  · exact .inl (h ▸ h')
  · exact .inr ⟨h.trans h', h1.trans h1'⟩

theorem bet_irrefl (x : Rec) : ¬ bet x x := by
  rintro (h | ⟨_, h⟩) <;> exact lt_irrefl _ h

theorem bet_neg (x y z : Rec) (h : bet x z) : bet x y ∨ bet y z := by
  rcases lt_trichotomy x.key y.key with h1 | h1 | h1
  · exact .inr (.inl (by
      rcases h with h | ⟨h, _⟩
      · exact h.trans h1
      · exact h ▸ h1))
  · rcases h with h | ⟨h, h2⟩
    · exact .inr (.inl (h1 ▸ h))
    · rcases lt_or_ge x.tie y.tie with h3 | h3
      · exact .inl (.inr ⟨h1, h3⟩)
      · exact .inr (.inr ⟨h1.symm.trans h, h3.trans_lt h2⟩)
  · exact .inl (.inl h1)

/-- The record at an index of six arrays. -/
def rec {S : Shape} (b : Six Ideal S) (i : S.Idx) : Rec := ⟨b.key i, b.tie i, b.p0 i, b.p1 i, b.p2 i, b.p3 i⟩

theorem better_apply {S : Shape} (k t k' t' : FVec Ideal S .f32) (i : S.Idx) (p0 p1 p2 p3 q0 q1 q2 q3 : EReal) [Decidable (bet ⟨k i, t i, p0, p1, p2, p3⟩ ⟨k' i, t' i, q0, q1, q2, q3⟩)] :
    better k t k' t' i = BitVec.ofBool (decide (bet ⟨k i, t i, p0, p1, p2, p3⟩ ⟨k' i, t' i, q0, q1, q2, q3⟩)) := by
  show IntOp.ori (Ideal.cmp .ogt (k i) (k' i)) (IntOp.andi (Ideal.cmp .oeq (k i) (k' i)) (Ideal.cmp .olt (t i) (t' i))) = _
  by_cases h1 : k' i < k i <;> by_cases h2 : k i = k' i <;> by_cases h3 : t i < t' i <;>
    simp [bet, Ideal.cmp, h1, h2, h3, IntOp.ori, IntOp.andi] <;> simp_all

theorem keep_apply {n s : ℕ} (hs : s < 11) (asc : IVec (B3 1) 1) (A : ℕ → Prop) (p : ℕ) (hA : asc (A3 0 p) = 1#1 ↔ A p)
    (b : Six Ideal (B3 n)) (m : Fin n) :
    keepMask n s asc b.key b.tie (A3 m p) = 1#1 ↔
      ((bet (rec b (A3 m p)) (rec b (A3 m (p ^^^ 2 ^ s))) ↔ ¬ p.testBit s = true) ↔ ¬ A p) := by
  classical
  show IntOp.xori (IntOp.xori (better b.key b.tie (partner n s b.key) (partner n s b.tie) (A3 m p))
    (broadcastTo (B3 n) (bitMask (2 ^ s)) (bc_B3 n) (A3 m p))) (broadcastTo (B3 n) asc (bc_B3 n) (A3 m p)) = 1#1 ↔ _
  rw [bcast3_apply, bcast3_apply, bitMask_apply (by omega), testBit_mod hs,
    better_apply b.key b.tie (partner n s b.key) (partner n s b.tie) (A3 m p) (b.p0 (A3 m p)) (b.p1 (A3 m p)) (b.p2 (A3 m p)) (b.p3 (A3 m p))
      (b.p0 (A3 m (p ^^^ 2 ^ s))) (b.p1 (A3 m (p ^^^ 2 ^ s))) (b.p2 (A3 m (p ^^^ 2 ^ s))) (b.p3 (A3 m (p ^^^ 2 ^ s)))]
  simp only [partner_apply hs]
  rw [← hA]
  unfold rec
  by_cases h1 : bet ⟨b.key (A3 m p), b.tie (A3 m p), b.p0 (A3 m p), b.p1 (A3 m p), b.p2 (A3 m p), b.p3 (A3 m p)⟩
      ⟨b.key (A3 m (p ^^^ 2 ^ s)), b.tie (A3 m (p ^^^ 2 ^ s)), b.p0 (A3 m (p ^^^ 2 ^ s)), b.p1 (A3 m (p ^^^ 2 ^ s)), b.p2 (A3 m (p ^^^ 2 ^ s)), b.p3 (A3 m (p ^^^ 2 ^ s))⟩ <;>
    rcases h2 : p.testBit s with _ | _ <;> by_cases h3 : asc (A3 0 p) = 1#1 <;>
    first
      | (simp [h1, h3, IntOp.xori]; done)
      | (simp [h1, eq_zero_of_ne_one h3, IntOp.xori]; done)

/-- One stage of the network is one compare-exchange stage on the records. -/
theorem stage_rec {n s : ℕ} (hs : s < 11) (asc : IVec (B3 1) 1) (A : ℕ → Prop) (hA : ∀ p, asc (A3 0 p) = 1#1 ↔ A p)
    (b : Six Ideal (B3 n)) (m : Fin n) :
    (fun p => rec (stage n s asc b) (A3 m p)) = Net.astage bet s A fun p => rec b (A3 m p) := by
  classical
  funext p
  have hk := keep_apply hs asc A p (hA p) b m
  unfold Net.astage
  by_cases h : keepMask n s asc b.key b.tie (A3 m p) = 1#1
  · rw [if_pos (hk.mp h)]
    simp only [rec, stage, select_apply, h, select_one]
  · rw [if_neg (fun h' => h (hk.mpr h'))]
    simp only [rec, stage, select_apply, eq_zero_of_ne_one h, select_zero, partner_apply hs]

theorem stages_rec {n : ℕ} (asc : IVec (B3 1) 1) (A : ℕ → Prop) (hA : ∀ p, asc (A3 0 p) = 1#1 ↔ A p) (m : Fin n) :
    ∀ (k : ℕ) (_ : k ≤ 11) (b : Six Ideal (B3 n)),
      (fun p => rec (stages n asc k b) (A3 m p)) = Net.amerge bet A k fun p => rec b (A3 m p)
  | 0, _, _ => rfl
  | k + 1, hk, b => (stages_rec asc A hA m k (by omega) (stage n k asc b)).trans
      (congrArg (Net.amerge bet A k) (stage_rec (by omega) asc A hA b m))

theorem sortNet_rec {n : ℕ} (b : Six Ideal (B3 n)) (m : Fin n) : ∀ (k : ℕ) (_ : k ≤ 11),
    (fun p => rec (sortNet n k b) (A3 m p)) = Net.asort bet 11 k fun p => rec b (A3 m p)
  | 0, _ => rfl
  | k + 1, hk => (stages_rec _ _ (fun p => by
        rw [bitMask_apply (by omega)]
        show BitVec.ofBool ((p % 2048).testBit (k + 1)) = 1#1 ↔ (p % 2048).testBit (k + 1) = true
        cases (p % 2048).testBit (k + 1) <;> simp) m (k + 1) hk _).trans
      (congrArg (Net.amerge bet _ (k + 1)) (sortNet_rec b m k (by omega)))

end Rpn

end
-- ==== Proof.KerPoint.lean ====
module

public import proofs.«01_k».proof.Proof.Spec
public import proofs.«01_k».proof.Proof.NetRead
public import Idealize.ShloMosaic.Lib.MatmulPlain
public import Idealize.ShloMosaic.Lib.IdealHost

@[expose] public section

/-! The arrays of the kernel's suppression, read at one entry. -/

noncomputable section

namespace Rpn

open Idealize.ShloMosaic
open Idealize.ShloMosaic.ValueIdx
open Rpn.Spec

/-! ## Zeros and ones -/

/-- One where a statement holds, zero where it does not. -/
def bit (P : Prop) : EReal := by
  classical exact if P then 1 else 0

theorem bit_true {P : Prop} (h : P) : bit P = 1 := by unfold bit; exact if_pos h
theorem bit_false {P : Prop} (h : ¬ P) : bit P = 0 := by unfold bit; exact if_neg h
theorem bit_congr {P Q : Prop} (h : P ↔ Q) : bit P = bit Q := by rw [propext h]

theorem lit_half : lit 0x3F000000#32 = ((1 / 2 : ℝ) : EReal) := by
  simp [lit, Ideal.ofBits, Ideal.ieee, -EReal.coe_mul]; norm_num
theorem lit_two : lit 0x40000000#32 = ((2 : ℝ) : EReal) := by
  simp [lit, Ideal.ofBits, Ideal.ieee, -EReal.coe_mul]; norm_num
theorem lit_block : lit 0x45000000#32 = ((2048 : ℝ) : EReal) := by
  simp [lit, Ideal.ofBits, Ideal.ieee, -EReal.coe_mul]; norm_num
theorem lit_slots : lit 0x447A0000#32 = ((1000 : ℝ) : EReal) := by
  simp [lit, Ideal.ofBits, Ideal.ieee, -EReal.coe_mul]; norm_num
theorem lit_bot : lit 0xFF800000#32 = ⊥ := by
  simp [lit, Ideal.ofBits, Ideal.ieee, -EReal.coe_mul]
theorem lit_one : lit 0x3F800000#32 = 1 := Ideal.ofBits_one_f32
theorem lit_zero : lit 0x00000000#32 = 0 := Ideal.ofBits_zero_f32

theorem half_lt_bit {P : Prop} : lit 0x3F000000#32 < bit P ↔ P := by
  rw [lit_half]
  by_cases h : P
  · rw [bit_true h]
    refine iff_of_true ?_ h
    exact_mod_cast (by norm_num : (1 / 2 : ℝ) < 1)
  · rw [bit_false h]
    refine iff_of_false ?_ h
    exact_mod_cast (by norm_num : ¬ (1 / 2 : ℝ) < 0)

theorem bit_mul (P Q : Prop) : bit P * bit Q = bit (P ∧ Q) := by
  by_cases h : P <;> by_cases h' : Q <;> simp [bit, h, h']

/-- A truth value as a number. -/
theorem sitofp_bit (c : BitVec 1) : (((BitVec.setWidth 32 c).toInt : ℝ) : EReal) = bit (c = 1#1) := by
  by_cases h : c = 1#1
  · rw [bit_true h, h]
    have : (BitVec.setWidth 32 (1#1)).toInt = 1 := by decide
    rw [this]; simp
  · rw [bit_false h, eq_zero_of_ne_one h]
    have : (BitVec.setWidth 32 (0#1)).toInt = 0 := by decide
    rw [this]; simp

theorem select_bit (c : BitVec 1) : Scalar.select c (lit 0x3F800000#32) (lit 0x00000000#32) = bit (c = 1#1) := by
  by_cases h : c = 1#1
  · rw [bit_true h, h, select_one, lit_one]
  · rw [bit_false h, eq_zero_of_ne_one h, select_zero, lit_zero]

theorem ofBool_iff {p : Bool} : BitVec.ofBool p = 1#1 ↔ p = true := by cases p <;> decide
theorem andi_iff {a b : BitVec 1} : IntOp.andi a b = 1#1 ↔ a = 1#1 ∧ b = 1#1 := by revert a b; decide
theorem xori_one_iff {a : BitVec 1} : IntOp.xori a 1#1 = 1#1 ↔ ¬ a = 1#1 := by revert a; decide

theorem bit_sum (n : ℕ) (B : ℕ → Prop) : ∑ i : Fin n, bit (B i.val) = ((Net.cnt B 0 n : ℝ) : EReal) := by
  classical
  induction n with
  | zero => simp [Net.cnt]
  | succ n ih =>
    rw [Fin.sum_univ_castSucc, Net.cnt_add]
    simp only [Fin.val_castSucc, Fin.val_last]
    rw [ih, Nat.zero_add]
    by_cases h : B n
    · rw [bit_true h, Net.cnt_all (base := n) (n := 1) fun x hx => by obtain rfl : x = 0 := by omega
                                                                      exact h]
      push_cast; rfl
    · rw [bit_false h, Net.cnt_none (base := n) (n := 1) fun x hx => by obtain rfl : x = 0 := by omega
                                                                        exact h]
      simp

/-! ## Rows, columns and blocks -/

/-- Position `p` of an image's block. -/
abbrev P2 (p : ℕ) : (sh2 16 128).Idx := ix2 (⟨p / 128 % 16, Nat.mod_lt _ (by decide)⟩ : Fin 16) (⟨p % 128, Nat.mod_lt _ (by decide)⟩ : Fin 128)

theorem P2_row {j l : ℕ} (hj : j < 16) (hl : l < 128) : P2 (128 * j + l) = ix2 ⟨j, hj⟩ ⟨l, hl⟩ := by
  have h1 : (128 * j + l) / 128 % 16 = j := by omega
  have h2 : (128 * j + l) % 128 = l := by omega
  unfold P2
  congr 1 <;> exact Fin.ext (by assumption)

theorem img_apply (b : Fin 4) (x : FVec Ideal (B4 1) .f32) (p : ℕ) : img b.val b.isLt x (P2 p) = x (A4 b 0 p) := by
  unfold img
  refine (shapeCast_apply _ _ _ (ix4 0 0 (⟨p / 128 % 16, Nat.mod_lt _ (by decide)⟩ : Fin 16) (⟨p % 128, Nat.mod_lt _ (by decide)⟩ : Fin 128)) ?_).trans
    (extractStridedSlice_apply _ _ _ _ (A4 b 0 p) fun a => match a with
    | ⟨0, _⟩ => rfl | ⟨1, _⟩ => (Nat.zero_add _).symm | ⟨2, _⟩ => (Nat.zero_add _).symm | ⟨3, _⟩ => (Nat.zero_add _).symm)
  rw [Shape.rowMajor_val_four, Shape.rowMajor_val_two]
  simp

/-- The box at a position. -/
def Boxes.at (B : Boxes Ideal) (p : ℕ) : Spec.Box := ⟨B.y1 (P2 p), B.x1 (P2 p), B.y2 (P2 p), B.x2 (P2 p)⟩

/-- The box at position `p` of image `b`. -/
def slotBox (t : Six Ideal (B4 1)) (b : Fin 4) (p : ℕ) : Spec.Box := ⟨t.p0 (A4 b 0 p), t.p1 (A4 b 0 p), t.p2 (A4 b 0 p), t.p3 (A4 b 0 p)⟩

theorem boxes_at (t : Six Ideal (B4 1)) (b : Fin 4) (p : ℕ) : (boxes t b.val b.isLt).at p = slotBox t b p := by
  unfold boxes Boxes.at slotBox
  simp only [img_apply]

theorem iota2_apply {a b : ℕ} (d : Fin 2) (h : (sh2 a b).Iotas .tc 32 [d]) (r : Fin a) (c : Fin b) :
    iota .tc (sh2 a b) 32 [d] h (ix2 r c) = BitVec.ofNat 32 ((ix2 r c : (sh2 a b).Idx) d).val := iota_single_apply _ _ _ _ _ _

theorem eye_apply (r c : Fin 128) : eye (F := Ideal) (ix2 r c) = bit (r = c) := by
  show (((BitVec.setWidth 32 (IntOp.cmpi .eq (iota .tc (sh2 128 128) 32 [0] _ (ix2 r c)) (iota .tc (sh2 128 128) 32 [1] _ (ix2 r c)))).toInt : ℝ) : EReal) = _
  rw [sitofp_bit, iota2_apply, iota2_apply]
  refine bit_congr ?_
  show BitVec.ofBool (BitVec.ofNat 32 r.val == BitVec.ofNat 32 c.val) = 1#1 ↔ _
  rw [ofBool_iff, beq_iff_eq]
  have := r.isLt; have := c.isLt
  constructor
  · intro h
    have := congrArg BitVec.toNat h
    rw [BitVec.toNat_ofNat, BitVec.toNat_ofNat] at this
    exact Fin.ext (by omega)
  · rintro rfl; rfl

theorem cmpi_slt_small {j t : ℕ} (hj : j < 2 ^ 31) (ht : t < 2 ^ 31) : IntOp.cmpi .slt (BitVec.ofNat 32 j) (BitVec.ofNat 32 t) = 1#1 ↔ j < t := by
  show BitVec.ofBool (decide ((BitVec.ofNat 32 j).toInt < (BitVec.ofNat 32 t).toInt)) = _ ↔ _
  rw [BitVec.toInt_eq_toNat_of_lt (by rw [BitVec.toNat_ofNat]; omega), BitVec.toNat_ofNat,
    BitVec.toInt_eq_toNat_of_lt (by rw [BitVec.toNat_ofNat]; omega), BitVec.toNat_ofNat, Nat.mod_eq_of_lt (by omega), Nat.mod_eq_of_lt (by omega),
    ofBool_iff, decide_eq_true_iff]
  exact Nat.cast_lt

theorem tri_apply (r c : Fin 128) : tri (F := Ideal) (ix2 r c) = bit (r.val < c.val) := by
  show (((BitVec.setWidth 32 (IntOp.cmpi .slt (iota .tc (sh2 128 128) 32 [0] _ (ix2 r c)) (iota .tc (sh2 128 128) 32 [1] _ (ix2 r c)))).toInt : ℝ) : EReal) = _
  rw [sitofp_bit, iota2_apply, iota2_apply]
  exact bit_congr (cmpi_slt_small (by have := r.isLt; show r.val < _; omega) (by have := c.isLt; show c.val < _; omega))

theorem rowToCol_apply (v : FVec Ideal (sh2 1 128) .f32) (r : Fin 128) : rowToCol v (ix2 r 0) = v (ix2 0 r) := by
  refine (Ideal.matmul_transposedRhs_apply (M := 128) (K := 128) (N := 1) none eye v _ r 0).trans ?_
  show lit 0x00000000#32 + _ = _
  rw [lit_zero, zero_add, Finset.sum_eq_single r]
  · rw [eye_apply, bit_true rfl, one_mul]
  · intro k _ hk
    rw [eye_apply, bit_false (Ne.symm hk), zero_mul]
  · exact fun h => absurd (Finset.mem_univ _) h

theorem line_apply {r : ℕ} (h : r < 16) (x : FVec Ideal (sh2 16 128) .f32) (l : Fin 128) : line r h x (ix2 0 l) = x (ix2 ⟨r, h⟩ l) := by
  unfold line
  exact extractStridedSlice_apply _ _ _ _ _ fun a => match a with | ⟨0, _⟩ => rfl | ⟨1, _⟩ => (Nat.zero_add _).symm

theorem blockCol_apply (x : FVec Ideal (sh2 16 128) .f32) (p : Fin 2048) : blockCol x (ix2 p 0) = x (P2 p.val) := by
  have hp := p.isLt
  unfold blockCol
  refine (concatenate_ofFn_apply (t := sh2 2048 1) (s₁ := sh2 128 1) 0 (N := 16) (fun n => rowToCol (line n.val n.isLt x)) _ rfl 128 rfl (ix2 p 0)
    (⟨p.val / 128 % 16, Nat.mod_lt _ (by decide)⟩ : Fin 16) (by show p.val / 128 = p.val / 128 % 16; omega)
    (ix2 (⟨p.val % 128, Nat.mod_lt _ (by decide)⟩ : Fin 128) 0) rfl (fun b hb => match b with
      | ⟨0, _⟩ => absurd rfl hb | ⟨1, _⟩ => rfl)).trans ?_
  rw [rowToCol_apply, line_apply]

theorem cols_apply {P o : ℕ} (h : o + P ≤ 2048) (x : FVec Ideal (sh2 16 128) .f32) (r : Fin P) (l : Fin 128) :
    cols P o h x (ix2 r l) = x (P2 (o + r.val)) := by
  unfold cols
  have hr := r.isLt
  refine (broadcastTo_apply _ _ _ (ix2 r 0) fun a => match a with
    | ⟨0, _⟩ => by
      show r.val = if P = 1 then 0 else r.val
      split <;> omega
    | ⟨1, _⟩ => rfl).trans ?_
  refine (extractStridedSlice_apply _ _ _ _ (ix2 (⟨o + r.val, by omega⟩ : Fin 2048) 0) fun a => match a with
    | ⟨0, _⟩ => rfl | ⟨1, _⟩ => rfl).trans (blockCol_apply _ _)

theorem rows_apply {P j : ℕ} (h : j < 16) (x : FVec Ideal (sh2 16 128) .f32) (r : Fin P) (l : Fin 128) :
    rows P j h x (ix2 r l) = x (P2 (128 * j + l.val)) := by
  unfold rows
  refine (broadcastTo_apply _ _ _ (ix2 0 l) fun a => match a with | ⟨0, _⟩ => rfl | ⟨1, _⟩ => rfl).trans ?_
  rw [line_apply, P2_row h l.isLt]

theorem overlaps_apply {P o j : ℕ} (h : o + P ≤ 2048) (hj : j < 16) (B : Boxes Ideal) (r : Fin P) (l : Fin 128) :
    overlaps P o j h hj B (ix2 r l) = 1#1 ↔ over (B.at (o + r.val)) (B.at (128 * j + l.val)) := by
  show BitVec.ofBool (decide (lit 0x3F333333#32 < Ideal.div
    (max (min (cols P o h B.y2 (ix2 r l)) (rows P j hj B.y2 (ix2 r l)) - max (cols P o h B.y1 (ix2 r l)) (rows P j hj B.y1 (ix2 r l))) (lit 0x00000000#32) *
      max (min (cols P o h B.x2 (ix2 r l)) (rows P j hj B.x2 (ix2 r l)) - max (cols P o h B.x1 (ix2 r l)) (rows P j hj B.x1 (ix2 r l))) (lit 0x00000000#32))
    (max (cols P o h B.area (ix2 r l) + rows P j hj B.area (ix2 r l) -
      max (min (cols P o h B.y2 (ix2 r l)) (rows P j hj B.y2 (ix2 r l)) - max (cols P o h B.y1 (ix2 r l)) (rows P j hj B.y1 (ix2 r l))) (lit 0x00000000#32) *
      max (min (cols P o h B.x2 (ix2 r l)) (rows P j hj B.x2 (ix2 r l)) - max (cols P o h B.x1 (ix2 r l)) (rows P j hj B.x1 (ix2 r l))) (lit 0x00000000#32))
      (lit 0x322BCC77#32)))) = 1#1 ↔ _
  simp only [cols_apply, rows_apply]
  rw [ofBool_iff, decide_eq_true_iff]
  rfl

theorem overMat_apply {j : ℕ} (hj : j < 16) (B : Boxes Ideal) (i l : Fin 128) :
    overMat B j hj (ix2 i l) = bit (over (B.at (128 * j + i.val)) (B.at (128 * j + l.val)) ∧ i.val < l.val) := by
  show Scalar.select (overlaps 128 (128 * j) j (by omega) hj B (ix2 i l)) (lit 0x3F800000#32) (lit 0x00000000#32) * tri (F := Ideal) (ix2 i l) = _
  rw [select_bit, tri_apply, bit_mul]
  exact bit_congr (and_congr_left' (overlaps_apply _ _ _ _ _))

/-! ## The candidates of a row -/

/-- The columns of the first `j` rows hold the marks of `K`. -/
def ColsHold (c : ℕ → FVec Ideal (sh2 128 1) .f32) (j : ℕ) (K : ℕ → Prop) : Prop :=
  ∀ i < j, ∀ l : Fin 128, c i (ix2 l 0) = bit (K (128 * i + l.val))

theorem keptCol_apply {c : ℕ → FVec Ideal (sh2 128 1) .f32} {j : ℕ} {K : ℕ → Prop} (hc : ColsHold c j K) (r : Fin (j * 128)) :
    keptCol c j (ix2 r 0) = bit (K r.val) := by
  match j, r, hc with
  | 0, r, hc => exact absurd r.isLt (by omega)
  | 1, r, hc =>
    have := hc 0 (by omega) (⟨r.val, by have := r.isLt; omega⟩ : Fin 128)
    simp only [Nat.mul_zero, Nat.zero_add] at this
    exact this
  | j + 2, r, hc =>
    have hr := r.isLt
    refine (concatenate_ofFn_apply (t := sh2 ((j + 2) * 128) 1) (s₁ := sh2 128 1) 0 (N := j + 2) (fun i => c i.val) (cc_kept j c) rfl 128 rfl (ix2 r 0)
      (⟨r.val / 128, by omega⟩ : Fin (j + 2)) rfl (ix2 (⟨r.val % 128, Nat.mod_lt _ (by decide)⟩ : Fin 128) 0) rfl (fun b hb => match b with
        | ⟨0, _⟩ => absurd rfl hb | ⟨1, _⟩ => rfl)).trans ?_
    rw [hc (r.val / 128) (by omega)]
    exact bit_congr (by rw [Nat.div_add_mod])

theorem fold_max_bit {n : ℕ} (f : Fin n → EReal) (P : Fin n → Prop) (hf : ∀ i, f i = bit (P i)) (a : EReal) (ha : a ≤ 0) :
    lit 0x3F000000#32 < (Finset.univ : Finset (Fin n)).fold max a f ↔ ∃ i, P i := by
  rw [Finset.lt_fold_max]
  have : ¬ lit 0x3F000000#32 < a := not_lt.mpr (ha.trans (by rw [lit_half]; exact_mod_cast (by norm_num : (0:ℝ) ≤ 1 / 2)))
  simp only [this, false_or, Finset.mem_univ, true_and, hf, half_lt_bit]

theorem supBefore_apply {B : Boxes Ideal} {c : ℕ → FVec Ideal (sh2 128 1) .f32} {j : ℕ} (hj : j < 16) {K : ℕ → Prop} (hc : ColsHold c j K)
    (l : Fin 128) : supBefore B c j hj (ix2 0 l) = 1#1 ↔ ∃ i < 128 * j, K i ∧ over (B.at i) (B.at (128 * j + l.val)) := by
  match j, hj, hc with
  | 0, _, _ => exact iff_of_false (by show ¬ (0#1 : BitVec 1) = 1#1; decide) (fun ⟨i, h, _⟩ => by omega)
  | j + 1, hj, hc =>
    show BitVec.ofBool (decide (lit 0x3F000000#32 < shapeCast (sh2 1 128) (multiReduction (F := Ideal) .maximumf [0] (sh1 128) _ _ (red_col _) _ _) _ (ix2 0 l))) = 1#1 ↔ _
    rw [ofBool_iff, decide_eq_true_iff, shapeCast_apply _ _ _ (ix1 l) (by rw [Shape.rowMajor_val_one, Shape.rowMajor_val_two]; simp)]
    refine (Iff.of_eq (congrArg (lit 0x3F000000#32 < ·) (Ideal.multiReduction_maximumf_single _ _ (red_col _) (.inl rfl) rfl (ix1 l)))).trans ?_
    refine (fold_max_bit _ (fun r : Fin ((j + 1) * 128) => over (B.at (0 + r.val)) (B.at (128 * (j + 1) + l.val)) ∧ K r.val) ?_ _ ?_).trans ?_
    · intro r
      have e : (red_col ((j + 1) * 128)).lift (ix1 l) (show Fin ((sh2 ((j + 1) * 128) 128).size 0) from r) = ix2 r l := by
        funext a
        match a with
        | ⟨0, _⟩ => exact Fin.ext rfl
        | ⟨1, _⟩ => exact Fin.ext rfl
      show Scalar.select (IntOp.andi (overlaps ((j + 1) * 128) 0 (j + 1) _ hj B ((red_col ((j + 1) * 128)).lift (ix1 l) (show Fin ((sh2 ((j + 1) * 128) 128).size 0) from r)))
        (broadcastTo (sh2 ((j + 1) * 128) 128) (cmpf .ogt (keptCol c (j + 1)) (bc _ 0x3F000000#32)) (bc_col _) ((red_col ((j + 1) * 128)).lift (ix1 l) (show Fin ((sh2 ((j + 1) * 128) 128).size 0) from r))))
        (lit 0x3F800000#32) (lit 0x00000000#32) = _
      rw [e, select_bit, andi_iff]
      refine bit_congr (and_congr (overlaps_apply _ _ _ _ _) ?_)
      rw [broadcastTo_apply _ _ _ (ix2 r 0) fun a => match a with
        | ⟨0, _⟩ => by
          show r.val = if (j + 1) * 128 = 1 then 0 else r.val
          split <;> omega
        | ⟨1, _⟩ => rfl]
      show BitVec.ofBool (decide (lit 0x3F000000#32 < keptCol c (j + 1) (ix2 r 0))) = 1#1 ↔ _
      rw [ofBool_iff, decide_eq_true_iff, keptCol_apply hc, half_lt_bit]
    · show lit 0xFF800000#32 ≤ 0
      rw [lit_bot]; exact bot_le
    · constructor
      · rintro ⟨r, h1, h2⟩
        exact ⟨r.val, by have := r.isLt; omega, h2, by simpa using h1⟩
      · rintro ⟨i, hi, h1, h2⟩
        exact ⟨⟨i, by omega⟩, by simpa using h2, h1⟩

theorem validRow_apply {j : ℕ} (hj : j < 16) (l : Fin 128) : validRow j (ix2 0 l) = 1#1 ↔ 128 * j + l.val < 2000 := by
  have hl := l.isLt
  by_cases h : j = 15
  · subst h
    show IntOp.cmpi .slt (iota .tc (sh2 1 128) 32 [1] _ (ix2 0 l)) (80#32) = 1#1 ↔ _
    rw [iota2_apply]
    refine (cmpi_slt_small (j := l.val) (t := 80) (by omega) (by decide)).trans ?_
    omega
  · have : validRow j = broadcast (sh2 1 128) 1#1 := by
      unfold validRow
      split
      · omega
      · rfl
    rw [this]
    exact iff_of_true rfl (by omega)

/-- The candidates of row `j`: the boxes that count and that no kept box of an earlier row overlaps. -/
def Cand (B : Boxes Ideal) (K : ℕ → Prop) (j : ℕ) (l : ℕ) : Prop :=
  128 * j + l < 2000 ∧ ¬ ∃ i < 128 * j, K i ∧ over (B.at i) (B.at (128 * j + l))

theorem candRow_apply {B : Boxes Ideal} {c : ℕ → FVec Ideal (sh2 128 1) .f32} {j : ℕ} (hj : j < 16) {K : ℕ → Prop} (hc : ColsHold c j K)
    (l : Fin 128) : candRow B c j hj (ix2 0 l) = bit (Cand B K j l.val) := by
  show (((BitVec.setWidth 32 (IntOp.andi (validRow j (ix2 0 l)) (IntOp.xori (supBefore B c j hj (ix2 0 l)) 1#1))).toInt : ℝ) : EReal) = _
  rw [sitofp_bit]
  refine bit_congr ?_
  rw [andi_iff, xori_one_iff, validRow_apply hj, supBefore_apply hj hc]
  rfl

theorem cand8_apply {B : Boxes Ideal} {c : ℕ → FVec Ideal (sh2 128 1) .f32} {j : ℕ} (hj : j < 16) {K : ℕ → Prop} (hc : ColsHold c j K)
    (r : Fin 8) (l : Fin 128) : cand8 B c j hj (ix2 r l) = bit (Cand B K j l.val) := by
  show broadcastTo (sh2 8 128) (shapeCast (sh2 1 128) (candRow B c j hj) _) _ (ix2 r l) +
    extractStridedSlice (sh2 8 128) ![0, 0] (overMat B j hj) _ (ix2 r l) * lit 0x00000000#32 = _
  rw [lit_zero, mul_zero, add_zero, broadcastTo_apply _ _ _ (ix2 0 l) (fun a => match a with | ⟨0, _⟩ => rfl | ⟨1, _⟩ => rfl), shapeCast_self]
  exact candRow_apply hj hc l

end Rpn

end

end
-- ==== Proof.MergeRead.lean ====
module

public import proofs.«01_k».proof.Proof.NetRead

@[expose] public section

/-! Merging sorted blocks, read at a position, and the best 2048 of an image's ten blocks. -/

namespace Rpn

open Idealize.ShloMosaic
open Idealize.ShloMosaic.ValueIdx

variable {F : FTy → Type} [FloatOps F]

/-- Position `p` of the one block of one image. -/
abbrev A4' (p : ℕ) : (sh4 1 1 16 128).Idx :=
  ix4 (0 : Fin 1) (0 : Fin 1) (⟨p / 128 % 16, Nat.mod_lt _ (by decide)⟩ : Fin 16) (⟨p % 128, Nat.mod_lt _ (by decide)⟩ : Fin 128)

theorem lanePartner4_apply {n s : ℕ} (hs : s < 7) (x : FVec F (B4 n) .f32) (i : Fin 4) (m : Fin n) (p : ℕ) :
    lanePartner4 n (2 ^ s) x (A4 i m p) = x (A4 i m (p ^^^ 2 ^ s)) := by
  have hb : broadcastTo (B4 n) (shapeCast (sh4 1 1 16 128) (bitMask (2 ^ s)) (by decide)) (bc_B4 n) (A4 i m p)
      = BitVec.ofBool (p.testBit s) := by
    refine (broadcastTo_apply _ _ _ (A4' p) (by intro a; fin_cases a <;> simp [A4, A4', Shape.size])).trans ?_
    refine (shapeCast_apply _ _ _ (A3 0 p) ?_).trans ?_
    · rw [Shape.rowMajor_val_three, Shape.rowMajor_val_four]; simp [A4', A3]
    · rw [bitMask_apply (by omega), testBit_mod (by omega)]
  show Scalar.select (broadcastTo (B4 n) (shapeCast (sh4 1 1 16 128) (bitMask (2 ^ s)) _) _ (A4 i m p)) _ _ = _
  rw [hb]
  rcases xor_cases p s with ⟨h1, h2, h3⟩ | ⟨h1, h2, h3⟩
  · rw [h2, h3]
    show dynamicRotate 3 (BitVec.ofNat 32 (128 - 2 ^ s)) none x (rot_B4 n) (A4 i m p) = _
    refine dynamicRotate_apply _ _ _ _ _ _ fun b => ?_
    interval_cases s <;> fin_cases b <;> simp [A4] at h1 ⊢ <;> omega
  · rw [h2]
    show dynamicRotate 3 (BitVec.ofNat 32 (2 ^ s)) none x (rot_B4 n) (A4 i m p) = _
    refine dynamicRotate_apply _ _ _ _ _ _ fun b => ?_
    interval_cases s <;> fin_cases b <;> simp [A4] at h1 h3 ⊢ <;> omega

theorem revRows_apply {n : ℕ} (x : FVec F (B4 n) .f32) (i : Fin 4) (m : Fin n) (p : ℕ) :
    revRows n x (A4 i m p) = x (A4 i m (128 * (15 - p / 128 % 16) + p % 128)) := by
  have hr : p / 128 % 16 < 16 := Nat.mod_lt _ (by decide)
  show concatenate (B4 n) 2 (List.ofFn fun r : Fin 16 => (⟨sh4 4 n 1 128,
    extractStridedSlice (sh4 4 n 1 128) ![0, 0, 15 - r.val, 0] x (sl_row n (15 - r.val) (by omega))⟩ : (s : Shape) × (s.Idx → F .f32)))
      (cc_revRows n) (A4 i m p) = _
  refine (concatenate_ofFn_apply (t := B4 n) (s₁ := sh4 4 n 1 128) 2 (fun r : Fin 16 => extractStridedSlice (sh4 4 n 1 128) ![0, 0, 15 - r.val, 0] x (sl_row n (15 - r.val) (by omega))) (cc_revRows n) rfl 1 rfl (A4 i m p : (B4 n).Idx) ⟨p / 128 % 16, hr⟩ (Nat.div_one _)
    (ix4 i m (0 : Fin 1) (⟨p % 128, Nat.mod_lt _ (by decide)⟩ : Fin 128)) (Nat.mod_one _).symm
    (fun b hb => match b, hb with
      | ⟨0, _⟩, _ => rfl | ⟨1, _⟩, _ => rfl | ⟨2, _⟩, hb => absurd rfl hb | ⟨3, _⟩, _ => rfl)).trans ?_
  refine extractStridedSlice_apply _ _ _ _ _ fun b => ?_
  fin_cases b <;> simp [A4] <;> omega

theorem rev_pos : ∀ p : Fin 2048,
    (fun q => 128 * (15 - q / 128 % 16) + q % 128)
      (((((((p.val ^^^ 2 ^ 0) ^^^ 2 ^ 1) ^^^ 2 ^ 2) ^^^ 2 ^ 3) ^^^ 2 ^ 4) ^^^ 2 ^ 5) ^^^ 2 ^ 6) = 2047 - p.val := by
  decide +kernel

theorem revBlock_apply {n : ℕ} (x : FVec F (B4 n) .f32) (i : Fin 4) (m : Fin n) {p : ℕ} (hp : p < 2048) :
    revBlock n x (A4 i m p) = x (A4 i m (2047 - p)) := by
  have L := fun (s : ℕ) (hs : s < 7) (y : FVec F (B4 n) .f32) (q : ℕ) => lanePartner4_apply hs y i m q
  unfold revBlock
  refine (L 0 (by decide) _ _).trans ((L 1 (by decide) _ _).trans ((L 2 (by decide) _ _).trans ((L 3 (by decide) _ _).trans
    ((L 4 (by decide) _ _).trans ((L 5 (by decide) _ _).trans ((L 6 (by decide) _ _).trans ((revRows_apply _ _ _ _).trans ?_)))))))
  exact congrArg (fun q => x (A4 i m q)) (rev_pos ⟨p, hp⟩)

theorem half_apply {n o : ℕ} (h : o < 2) (x : FVec F (B4 (n * 2)) .f32) (i : Fin 4) (m : Fin n) (p : ℕ) :
    half n o h x (A4 i m p) = x (A4 i (⟨2 * m.val + o, by omega⟩ : Fin (n * 2)) p) := by
  have hr : p / 128 % 16 < 16 := Nat.mod_lt _ (by decide)
  have hl : p % 128 < 128 := Nat.mod_lt _ (by decide)
  unfold half
  refine (shapeCast_apply _ _ _ (ix5 i m (0 : Fin 1) (⟨p / 128 % 16, hr⟩ : Fin 16) (⟨p % 128, hl⟩ : Fin 128)) ?_).trans ?_
  · rw [Shape.rowMajor_val_four, Shape.rowMajor_val_five]; simp [A4]
  refine (extractStridedSlice_apply (s := sh5 4 n 2 16 128) (t := sh5 4 n 1 16 128) _ _ _ _
    (ix5 i m (⟨o, h⟩ : Fin 2) (⟨p / 128 % 16, hr⟩ : Fin 16) (⟨p % 128, hl⟩ : Fin 128))
    (fun b => match b with | ⟨0, _⟩ => (Nat.zero_add _).symm | ⟨1, _⟩ => (Nat.zero_add _).symm | ⟨2, _⟩ => rfl | ⟨3, _⟩ => (Nat.zero_add _).symm | ⟨4, _⟩ => (Nat.zero_add _).symm)).trans ?_
  refine shapeCast_apply _ _ _ _ ?_
  rw [Shape.rowMajor_val_four, Shape.rowMajor_val_five]; simp [A4]
  rw [← Nat.mul_assoc]; omega

/-- A block of the flat list as a block of its image. -/
theorem flat_apply {n : ℕ} (x : FVec F (B3 (4 * n)) .f32) (i : Fin 4) (m : Fin n) (p : ℕ) :
    shapeCast (B4 n) x (sc_flat' n) (A4 i m p) = x (A3 (⟨i.val * n + m.val, by
      have := Nat.mul_le_mul_right n (show i.val ≤ 3 by omega); omega⟩ : Fin (4 * n)) p) := by
  refine shapeCast_apply _ _ _ _ ?_
  rw [Shape.rowMajor_val_three, Shape.rowMajor_val_four]; simp [A4, A3]

theorem flat_apply' {n : ℕ} (x : FVec F (B4 n) .f32) (i : Fin 4) (m : Fin n) (p : ℕ) :
    shapeCast (B3 (4 * n)) x (sc_flat n) (A3 (⟨i.val * n + m.val, by
      have := Nat.mul_le_mul_right n (show i.val ≤ 3 by omega); omega⟩ : Fin (4 * n)) p) = x (A4 i m p) := by
  refine shapeCast_apply _ _ _ _ ?_
  rw [Shape.rowMajor_val_three, Shape.rowMajor_val_four]; simp [A4, A3]

/-! ## Records -/

/-- Where a block of an image is in the flat list. -/
theorem flat_lt {n : ℕ} (i : Fin 4) (m : Fin n) : i.val * n + m.val < 4 * n := by
  have := Nat.mul_le_mul_right n (show i.val ≤ 3 by omega)
  omega

theorem pairWin_rec {n : ℕ} (b : Six Ideal (B4 (n * 2))) (i : Fin 4) (m : Fin n) (p : ℕ) (hp : p < 2048) :
    rec (pairWin n b) (A3 (⟨i.val * n + m.val, flat_lt i m⟩ : Fin (4 * n)) p) =
      Net.awin bet (2 ^ 11) (fun p => rec b (A4 i (⟨2 * m.val, by omega⟩ : Fin (n * 2)) p))
        (fun p => rec b (A4 i (⟨2 * m.val + 1, by omega⟩ : Fin (n * 2)) p)) p := by
  classical
  have h0 := fun x : FVec Ideal (B4 (n * 2)) .f32 => half_apply (o := 0) (by decide) x i m p
  have h1 := fun x : FVec Ideal (B4 (n * 2)) .f32 =>
    (revBlock_apply (half n 1 (by decide) x) i m hp).trans (half_apply (o := 1) (by decide) x i m (2047 - p))
  have hw : ∀ (M : IVec (B4 n) 1) (x : FVec Ideal (B4 (n * 2)) .f32),
      winners n M x (A3 (⟨i.val * n + m.val, flat_lt i m⟩ : Fin (4 * n)) p) =
        Scalar.select (M (A4 i m p)) (half n 0 (by decide) x (A4 i m p)) (revBlock n (half n 1 (by decide) x) (A4 i m p)) :=
    fun M x => flat_apply' _ i m p
  have hm := better_apply (half n 0 (by decide) b.key) (half n 0 (by decide) b.tie) (revBlock n (half n 1 (by decide) b.key))
    (revBlock n (half n 1 (by decide) b.tie)) (A4 i m p)
    (half n 0 (by decide) b.p0 (A4 i m p)) (half n 0 (by decide) b.p1 (A4 i m p)) (half n 0 (by decide) b.p2 (A4 i m p)) (half n 0 (by decide) b.p3 (A4 i m p))
    (revBlock n (half n 1 (by decide) b.p0) (A4 i m p)) (revBlock n (half n 1 (by decide) b.p1) (A4 i m p))
    (revBlock n (half n 1 (by decide) b.p2) (A4 i m p)) (revBlock n (half n 1 (by decide) b.p3) (A4 i m p))
  simp only [h0, h1] at hm hw
  have hmask : winMask n b.key b.tie (A4 i m p) = BitVec.ofBool (decide (bet (rec b (A4 i (⟨2 * m.val, by omega⟩ : Fin (n * 2)) p))
      (rec b (A4 i (⟨2 * m.val + 1, by omega⟩ : Fin (n * 2)) (2047 - p))))) := hm
  have hrec : rec (pairWin n b) (A3 (⟨i.val * n + m.val, flat_lt i m⟩ : Fin (4 * n)) p) =
      Rec.mk (winners n (winMask n b.key b.tie) b.key (A3 (⟨i.val * n + m.val, flat_lt i m⟩ : Fin (4 * n)) p))
        (winners n (winMask n b.key b.tie) b.tie (A3 (⟨i.val * n + m.val, flat_lt i m⟩ : Fin (4 * n)) p))
        (winners n (winMask n b.key b.tie) b.p0 (A3 (⟨i.val * n + m.val, flat_lt i m⟩ : Fin (4 * n)) p))
        (winners n (winMask n b.key b.tie) b.p1 (A3 (⟨i.val * n + m.val, flat_lt i m⟩ : Fin (4 * n)) p))
        (winners n (winMask n b.key b.tie) b.p2 (A3 (⟨i.val * n + m.val, flat_lt i m⟩ : Fin (4 * n)) p))
        (winners n (winMask n b.key b.tie) b.p3 (A3 (⟨i.val * n + m.val, flat_lt i m⟩ : Fin (4 * n)) p)) := rfl
  refine hrec.trans ?_
  have e11 : (2 : ℕ) ^ 11 - 1 - p = 2047 - p := by norm_num
  unfold Net.awin
  simp only [e11]
  generalize winMask n b.key b.tie = M at hmask ⊢
  simp only [hw, hmask]
  by_cases hb : bet (rec b (A4 i (⟨2 * m.val, by omega⟩ : Fin (n * 2)) p)) (rec b (A4 i (⟨2 * m.val + 1, by omega⟩ : Fin (n * 2)) (2047 - p)))
  · simp only [if_pos hb, decide_eq_true hb, BitVec.ofBool_true, select_one]; rfl
  · simp only [if_neg hb, decide_eq_false hb, BitVec.ofBool_false, select_zero]; rfl

theorem map_flat_rec {n : ℕ} (c : Six Ideal (B3 (4 * n))) (i : Fin 4) (m : Fin n) :
    (fun p => rec (c.map fun x => shapeCast (B4 n) x (sc_flat' n)) (A4 i m p)) =
      fun p => rec c (A3 (⟨i.val * n + m.val, flat_lt i m⟩ : Fin (4 * n)) p) := by
  funext p
  show Rec.mk _ _ _ _ _ _ = Rec.mk _ _ _ _ _ _
  congr 1 <;> exact flat_apply _ i m p

theorem pairMerge_rec {n : ℕ} (b : Six Ideal (B4 (n * 2))) (i : Fin 4) (m : Fin n) :
    (fun p => rec (pairMerge n b) (A4 i m p)) = Net.amerge bet (fun _ => False) 11
      fun p => rec (pairWin n b) (A3 (⟨i.val * n + m.val, flat_lt i m⟩ : Fin (4 * n)) p) := by
  exact (map_flat_rec _ i m).trans (stages_rec (broadcast (B3 1) 0#1) (fun _ => False) (fun p => by simp [broadcast]) _ 11 le_rfl _)

/-- A block holds the best 2048 of `n` records of `u` from `o` on. -/
abbrev Holds (u : ℕ → Rec) (g : ℕ → Rec) (o n : ℕ) : Prop := Net.Best bet (2 ^ 11) g (fun x => u (o + x)) n

theorem pairMerge_holds {n : ℕ} {b : Six Ideal (B4 (n * 2))} {i : Fin 4} {m : Fin n} {u : ℕ → Rec} {o c d : ℕ} {k l : Fin (n * 2)}
    (hk : k.val = 2 * m.val) (hl : l.val = 2 * m.val + 1)
    (h0 : Holds u (fun p => rec b (A4 i k p)) o c) (h1 : Holds u (fun p => rec b (A4 i l p)) (o + c) d) :
    Holds u (fun p => rec (pairMerge n b) (A4 i m p)) o (c + d) := by
  have lk : 2 * m.val < n * 2 := by clear hk hl; omega
  have ll : 2 * m.val + 1 < n * 2 := by clear hk hl; omega
  obtain rfl : k = ⟨2 * m.val, lk⟩ := Fin.ext hk
  obtain rfl : l = ⟨2 * m.val + 1, ll⟩ := Fin.ext hl
  unfold Holds
  rw [pairMerge_rec]
  exact Net.best_merge bet 11 h0 h1 (fun _ _ => rfl) (fun x _ => by rw [Nat.add_assoc]) _ fun p hp => pairWin_rec b i m p hp

theorem take_apply {n k o : ℕ} (h : o + k ≤ n) (x : FVec F (B4 n) .f32) (i : Fin 4) (m : Fin k) (p : ℕ) :
    extractStridedSlice (B4 k) ![0, o, 0, 0] x (sl_take n k o h) (A4 i m p) = x (A4 i (⟨o + m.val, by omega⟩ : Fin n) p) :=
  extractStridedSlice_apply _ _ _ _ _ fun b => by fin_cases b <;> simp [A4]

/-- An odd merge holds the merged pairs, then the last block. -/
theorem oddMerge_first {n : ℕ} (b : Six Ideal (B4 (n * 2 + 1))) (i : Fin 4) (m : Fin (n + 1)) (h : m.val < n) :
    (fun p => rec (oddMerge n b) (A4 i m p)) =
      fun p => rec (pairMerge n (b.map fun x => extractStridedSlice (B4 (n * 2)) ![0, 0, 0, 0] x (sl_take (n * 2 + 1) (n * 2) 0 (by omega))))
        (A4 i (⟨m.val, h⟩ : Fin n) p) := by
  funext p
  show Rec.mk _ _ _ _ _ _ = Rec.mk _ _ _ _ _ _
  congr 1 <;> exact concatenate_pair_apply_left (t := B4 (n + 1)) (s₁ := B4 n) (s₂ := B4 1) 1 _ _ (cc_odd n) _ rfl _
    fun b => match b with | ⟨0, _⟩ => rfl | ⟨1, _⟩ => rfl | ⟨2, _⟩ => rfl | ⟨3, _⟩ => rfl

theorem oddMerge_last {n : ℕ} (b : Six Ideal (B4 (n * 2 + 1))) (i : Fin 4) (m : Fin (n + 1)) (h : m.val = n) :
    (fun p => rec (oddMerge n b) (A4 i m p)) = fun p => rec b (A4 i (⟨n * 2, by omega⟩ : Fin (n * 2 + 1)) p) := by
  funext p
  show Rec.mk _ _ _ _ _ _ = Rec.mk _ _ _ _ _ _
  congr 1 <;> exact (concatenate_pair_apply_right (t := B4 (n + 1)) (s₁ := B4 n) (s₂ := B4 1) 1 _ _ (cc_odd n) (A4 i m p) rfl rfl (A4 i (0 : Fin 1) p)
    (fun b hb => match b, hb with | ⟨0, _⟩, _ => rfl | ⟨1, _⟩, hb => absurd rfl hb | ⟨2, _⟩, _ => rfl | ⟨3, _⟩, _ => rfl)
    ((Nat.zero_add _).trans h.symm)).trans (take_apply (by omega) _ i 0 p)

theorem taken_rec {n : ℕ} (b : Six Ideal (B4 (n * 2 + 1))) (i : Fin 4) (m : Fin (n * 2)) :
    (fun p => rec (b.map fun x => extractStridedSlice (B4 (n * 2)) ![0, 0, 0, 0] x (sl_take (n * 2 + 1) (n * 2) 0 (by omega))) (A4 i m p)) =
      fun p => rec b (A4 i (⟨m.val, by omega⟩ : Fin (n * 2 + 1)) p) := by
  funext p
  show Rec.mk _ _ _ _ _ _ = Rec.mk _ _ _ _ _ _
  congr 1 <;> exact (take_apply (by omega) _ i m p).trans (congrArg _ (congrArg (fun k : Fin (n * 2 + 1) => A4 i k p) (Fin.ext (Nat.zero_add _))))

theorem oddMerge_holds {n : ℕ} {b : Six Ideal (B4 (n * 2 + 1))} {i : Fin 4} {m : Fin (n + 1)} (h : m.val < n) {u : ℕ → Rec} {o c d : ℕ}
    {k l : Fin (n * 2 + 1)} (hk : k.val = 2 * m.val) (hl : l.val = 2 * m.val + 1)
    (h0 : Holds u (fun p => rec b (A4 i k p)) o c) (h1 : Holds u (fun p => rec b (A4 i l p)) (o + c) d) :
    Holds u (fun p => rec (oddMerge n b) (A4 i m p)) o (c + d) := by
  unfold Holds
  rw [oddMerge_first b i m h]
  refine pairMerge_holds (k := ⟨k.val, by omega⟩) (l := ⟨l.val, by omega⟩) hk hl ?_ ?_ <;> (unfold Holds; rw [taken_rec]; assumption)

/-- A block just sorted holds its own records. -/
theorem sorted_holds (b : Six Ideal (B3 40)) (k : Fin 40) (u : ℕ → Rec) (o : ℕ)
    (hu : ∀ p : ℕ, p < 2048 → rec b (A3 k p) = u (o + p)) : Holds u (fun p => rec (sortNet 40 11 b) (A3 k p)) o 2048 := by
  unfold Holds
  rw [sortNet_rec b k 11 le_rfl]
  exact (Net.best_sort bet 11 fun p => rec b (A3 k p)).congr (by norm_num) fun x hx => hu x (lt_of_lt_of_eq hx (by norm_num))

end Rpn

end
-- ==== Proof.TopRead.lean ====
module

public import proofs.«01_k».proof.Proof.MergeRead

@[expose] public section

/-! The best 2048 of an image's ten blocks. -/

namespace Rpn

open Idealize.ShloMosaic
open Idealize.ShloMosaic.ValueIdx

/-- Ten blocks to five. -/
theorem top_five (c : Six Ideal (B4 10)) (i : Fin 4) (u : ℕ → Rec)
    (h : ∀ m : Fin 10, Holds u (fun p => rec c (A4 i m p)) (2048 * m.val) 2048) (m : Fin 5) :
    Holds u (fun p => rec (pairMerge 5 c) (A4 i m p)) (4096 * m.val) 4096 := by
  have h0 := h ⟨2 * m.val, by omega⟩
  have h1 := h ⟨2 * m.val + 1, by omega⟩
  rw [show 2048 * (2 * m.val) = 4096 * m.val by omega] at h0
  rw [show 2048 * (2 * m.val + 1) = 4096 * m.val + 2048 by omega] at h1
  exact pairMerge_holds (n := 5) (c := 2048) (d := 2048) (k := ⟨2 * m.val, by omega⟩) (l := ⟨2 * m.val + 1, by omega⟩) rfl rfl h0 h1

/-- Five blocks to three: two merged pairs … -/
theorem top_three (c : Six Ideal (B4 5)) (i : Fin 4) (u : ℕ → Rec)
    (h : ∀ m : Fin 5, Holds u (fun p => rec c (A4 i m p)) (4096 * m.val) 4096) (m : Fin 3) (hm : m.val < 2) :
    Holds u (fun p => rec (oddMerge 2 c) (A4 i m p)) (8192 * m.val) 8192 := by
  have h0 := h ⟨2 * m.val, by omega⟩
  have h1 := h ⟨2 * m.val + 1, by omega⟩
  rw [show 4096 * (2 * m.val) = 8192 * m.val by omega] at h0
  rw [show 4096 * (2 * m.val + 1) = 8192 * m.val + 4096 by omega] at h1
  exact oddMerge_holds (n := 2) (c := 4096) (d := 4096) hm (k := ⟨2 * m.val, by omega⟩) (l := ⟨2 * m.val + 1, by omega⟩) rfl rfl h0 h1

/-- … and the last block. -/
theorem top_three_last (c : Six Ideal (B4 5)) (i : Fin 4) (u : ℕ → Rec)
    (h : Holds u (fun p => rec c (A4 i (4 : Fin 5) p)) 16384 4096) :
    Holds u (fun p => rec (oddMerge 2 c) (A4 i (2 : Fin 3) p)) 16384 4096 := by
  unfold Holds
  rw [oddMerge_last (n := 2) c i 2 rfl]
  exact h

/-- Three blocks to two. -/
theorem top_two (c : Six Ideal (B4 3)) (i : Fin 4) (u : ℕ → Rec)
    (h0 : Holds u (fun p => rec c (A4 i (0 : Fin 3) p)) 0 8192) (h1 : Holds u (fun p => rec c (A4 i (1 : Fin 3) p)) 8192 8192) :
    Holds u (fun p => rec (oddMerge 1 c) (A4 i (0 : Fin 2) p)) 0 16384 :=
  oddMerge_holds (n := 1) (m := 0) (c := 8192) (d := 8192) Nat.zero_lt_one (k := 0) (l := 1) rfl rfl h0 h1

theorem top_two_last (c : Six Ideal (B4 3)) (i : Fin 4) (u : ℕ → Rec)
    (h : Holds u (fun p => rec c (A4 i (2 : Fin 3) p)) 16384 4096) :
    Holds u (fun p => rec (oddMerge 1 c) (A4 i (1 : Fin 2) p)) 16384 4096 := by
  unfold Holds
  rw [oddMerge_last (n := 1) c i 1 rfl]
  exact h

/-- Two blocks to one. -/
theorem top_one (c : Six Ideal (B4 2)) (i : Fin 4) (u : ℕ → Rec)
    (h0 : Holds u (fun p => rec c (A4 i (0 : Fin 2) p)) 0 16384) (h1 : Holds u (fun p => rec c (A4 i (1 : Fin 2) p)) 16384 4096) :
    Holds u (fun p => rec (pairMerge 1 c) (A4 i (0 : Fin 1) p)) 0 20480 :=
  pairMerge_holds (n := 1) (m := 0) (c := 16384) (d := 4096) (k := 0) (l := 1) rfl rfl h0 h1

/-- The sorted blocks. -/
theorem top_ten (b : Six Ideal (B3 40)) (i : Fin 4) (u : ℕ → Rec)
    (hu : ∀ (m : Fin 10) (p : ℕ), p < 2048 → rec b (A3 (⟨i.val * 10 + m.val, by omega⟩ : Fin 40) p) = u (2048 * m.val + p)) (m : Fin 10) :
    Holds u (fun p => rec ((sortNet 40 11 b).map fun x => shapeCast (B4 10) x (sc_flat' 10)) (A4 i m p)) (2048 * m.val) 2048 := by
  refine Eq.mp (congrArg (fun g => Holds u g (2048 * m.val) 2048) (map_flat_rec (n := 10) (sortNet 40 11 b) i m).symm) ?_
  exact sorted_holds b _ u _ (hu m)

/-- The levels together. -/
theorem top_levels (c : Six Ideal (B4 10)) (i : Fin 4) (u : ℕ → Rec)
    (h : ∀ m : Fin 10, Holds u (fun p => rec c (A4 i m p)) (2048 * m.val) 2048) :
    Holds u (fun p => rec (pairMerge 1 (oddMerge 1 (oddMerge 2 (pairMerge 5 c)))) (A4 i (0 : Fin 1) p)) 0 20480 := by
  have s5 := top_five c i u h
  have s0 := top_three _ i u s5 0 (by decide)
  have s1 := top_three _ i u s5 1 (by decide)
  have s2 := top_three_last _ i u (s5 4)
  exact top_one _ i u (top_two _ i u s0 s1) (top_two_last _ i u s2)

/-- The best 2048 of the 20480 records of an image, in order. -/
theorem topBlock_holds (b : Six Ideal (B3 40)) (i : Fin 4) (u : ℕ → Rec)
    (hu : ∀ (m : Fin 10) (p : ℕ), p < 2048 → rec b (A3 (⟨i.val * 10 + m.val, by omega⟩ : Fin 40) p) = u (2048 * m.val + p)) :
    Holds u (fun p => rec (topBlock b) (A4 i (0 : Fin 1) p)) 0 20480 :=
  top_levels _ i u (top_ten b i u hu)

end Rpn

end
-- ==== Proof.KerBox.lean ====
module

public import proofs.«01_k».proof.Proof.KerPoint
public import proofs.«01_k».proof.Proof.TopRead

@[expose] public section

/-! The kernel's decoded boxes at one anchor, and which anchor each of its best 2048 slots holds. -/

noncomputable section

namespace Rpn

open Idealize.ShloMosaic
open Idealize.ShloMosaic.ValueIdx
open Rpn.Spec Rpn.Net

/-- Where anchor `x` of image `i` is laid out, in an array of one number per anchor and in one channel of four. -/
def L3 (i : Fin 4) (x : ℕ) : (sh3 4 160 128).Idx :=
  ix3 i (⟨x / 128 % 160, Nat.mod_lt _ (by decide)⟩ : Fin 160) (⟨x % 128, Nat.mod_lt _ (by decide)⟩ : Fin 128)
def L4 (i : Fin 4) (x : ℕ) : (sh4 4 1 160 128).Idx :=
  ix4 i (0 : Fin 1) (⟨x / 128 % 160, Nat.mod_lt _ (by decide)⟩ : Fin 160) (⟨x % 128, Nat.mod_lt _ (by decide)⟩ : Fin 128)

theorem toBlocks_apply (x : FVec Ideal (sh3 4 160 128) .f32) (i : Fin 4) (m : Fin 10) (p : ℕ) (hp : p < 2048) :
    toBlocks x (A3 (⟨i.val * 10 + m.val, by omega⟩ : Fin 40) p) = x (L3 i (2048 * m.val + p)) := by
  unfold toBlocks
  refine shapeCast_apply _ _ _ _ ?_
  unfold A3 L3
  rw [Shape.rowMajor_val_three, Shape.rowMajor_val_three]
  simp
  have := m.isLt
  omega

theorem chan_apply (x : FVec Ideal (sh4 4 1 160 128) .f32) (i : Fin 4) (n : ℕ) : chan x (L3 i n) = x (L4 i n) := by
  unfold chan
  refine shapeCast_apply _ _ _ _ ?_
  unfold L3 L4
  rw [Shape.rowMajor_val_three, Shape.rowMajor_val_four]
  simp

theorem anchorIdx_apply (i : Fin 4) (x : ℕ) (hx : x < 20480) : anchorIdx (F := Ideal) (L3 i x) = ((x : ℝ) : EReal) := by
  unfold anchorIdx
  refine (broadcastTo_apply _ _ _ (ix3 (0 : Fin 1) (⟨x / 128 % 160, Nat.mod_lt _ (by decide)⟩ : Fin 160) (⟨x % 128, Nat.mod_lt _ (by decide)⟩ : Fin 128)) ?_).trans ?_
  · intro a
    fin_cases a <;> simp [L3]
  rw [shapeCast_self]
  refine (shapeCast_apply _ _ _ (ix2 (⟨x / 128 % 160, Nat.mod_lt _ (by decide)⟩ : Fin 160) (⟨x % 128, Nat.mod_lt _ (by decide)⟩ : Fin 128)) ?_).trans ?_
  · rw [Shape.rowMajor_val_two, Shape.rowMajor_val_three]
    simp
  show (((128#32 * iota .tc (sh2 160 128) 32 [0] _ _ + iota .tc (sh2 160 128) 32 [1] _ _ : BitVec 32).toInt : ℝ) : EReal) = _
  rw [iota2_apply, iota2_apply]
  have e : (128#32 * BitVec.ofNat 32 (x / 128 % 160) + BitVec.ofNat 32 (x % 128) : BitVec 32) = BitVec.ofNat 32 x := by
    apply BitVec.eq_of_toNat_eq
    simp only [BitVec.toNat_add, BitVec.toNat_mul, BitVec.toNat_ofNat]
    omega
  have e' : (BitVec.ofNat 32 x).toInt = (x : ℤ) := by
    rw [BitVec.toInt_eq_toNat_of_lt] <;> rw [BitVec.toNat_ofNat] <;> omega
  refine Eq.trans (congrArg (fun b : BitVec 32 => ((b.toInt : ℝ) : EReal)) e) ?_
  show (((BitVec.ofNat 32 x).toInt : ℝ) : EReal) = _
  rw [e']
  norm_cast

/-- Anchor `x` of image `i`: its score, its index and its box. -/
def recAt (s : FVec Ideal (sh3 4 160 128) .f32) (d a : Fin 4 → FVec Ideal (sh4 4 1 160 128) .f32) (i : Fin 4) (x : ℕ) : Rec :=
  let b := Spec.decode (fun k => a k (L4 i x)) (fun k => d k (L4 i x))
  ⟨s (L3 i x), ((x : ℝ) : EReal), b.y1, b.x1, b.y2, b.x2⟩

theorem decoded_apply (s : FVec Ideal (sh3 4 160 128) .f32) (d a : Fin 4 → FVec Ideal (sh4 4 1 160 128) .f32) (i : Fin 4) (m : Fin 10) (p : ℕ) (hp : p < 2048) :
    rec (decoded s (d 0) (d 1) (d 2) (d 3) (a 0) (a 1) (a 2) (a 3)) (A3 (⟨i.val * 10 + m.val, by omega⟩ : Fin 40) p) = recAt s d a i (2048 * m.val + p) := by
  have hl : ∀ (a1 a2 d e : FVec Ideal (sh4 4 1 160 128) .f32) (w v : BitVec 32) (x : ℕ),
      clip01 (lowCorner (chan a1) (chan a2) (scaled w d) (scaled v e)) (L3 i x) =
        Spec.clip (Spec.low (a1 (L4 i x)) (a2 (L4 i x)) (d (L4 i x) * lit w) (e (L4 i x) * lit v)) := by
    intro a1 a2 d e w v x
    show Spec.clip (Spec.low (chan a1 (L3 i x)) (chan a2 (L3 i x)) (chan d (L3 i x) * lit w) (chan e (L3 i x) * lit v)) = _
    rw [chan_apply, chan_apply, chan_apply, chan_apply]
  have hh : ∀ (a1 a2 d e : FVec Ideal (sh4 4 1 160 128) .f32) (w v : BitVec 32) (x : ℕ),
      clip01 (highCorner (chan a1) (chan a2) (scaled w d) (scaled v e)) (L3 i x) =
        Spec.clip (Spec.high (a1 (L4 i x)) (a2 (L4 i x)) (d (L4 i x) * lit w) (e (L4 i x) * lit v)) := by
    intro a1 a2 d e w v x
    show Spec.clip (Spec.high (chan a1 (L3 i x)) (chan a2 (L3 i x)) (chan d (L3 i x) * lit w) (chan e (L3 i x) * lit v)) = _
    rw [chan_apply, chan_apply, chan_apply, chan_apply]
  unfold rec decoded recAt Spec.decode
  dsimp only
  rw [toBlocks_apply _ i m p hp, toBlocks_apply _ i m p hp, toBlocks_apply _ i m p hp, toBlocks_apply _ i m p hp, toBlocks_apply _ i m p hp,
    toBlocks_apply _ i m p hp, hl, hl, hh, hh, shapeCast_self, anchorIdx_apply _ _ (by have := m.isLt; omega)]

/-- Which of two anchors comes first. -/
theorem bet_recAt (s : FVec Ideal (sh3 4 160 128) .f32) (d a : Fin 4 → FVec Ideal (sh4 4 1 160 128) .f32) (i : Fin 4) (j x : ℕ) :
    bet (recAt s d a i j) (recAt s d a i x) ↔ s (L3 i x) < s (L3 i j) ∨ s (L3 i j) = s (L3 i x) ∧ j < x := by
  show s (L3 i x) < s (L3 i j) ∨ s (L3 i j) = s (L3 i x) ∧ ((j : ℝ) : EReal) < ((x : ℝ) : EReal) ↔ _
  rw [EReal.coe_lt_coe_iff, Nat.cast_lt]

theorem slotBox_rec (t : Six Ideal (B4 1)) (b : Fin 4) (p : ℕ) :
    slotBox t b p = ⟨(rec t (A4 b (0 : Fin 1) p)).p0, (rec t (A4 b (0 : Fin 1) p)).p1, (rec t (A4 b (0 : Fin 1) p)).p2, (rec t (A4 b (0 : Fin 1) p)).p3⟩ := rfl

/-- Slot `q` below 2000 holds the box of the anchor that has exactly `q` before it, where the padding scores no better
    than any anchor. -/
theorem slot_rank (s : FVec Ideal (sh3 4 160 128) .f32) (d a : Fin 4 → FVec Ideal (sh4 4 1 160 128) .f32) (i : Fin 4) {w : EReal}
    (hpad : ∀ x < 20480, 20000 ≤ x → s (L3 i x) = w) (hw : ∀ x < 20000, w ≤ s (L3 i x)) {q : ℕ} (hq : q < 2000) :
    ∃ v : Fin 20000, slotBox (topBlock (decoded s (d 0) (d 1) (d 2) (d 3) (a 0) (a 1) (a 2) (a 3))) i q =
        Spec.decode (fun k => a k (L4 i v.val)) (fun k => d k (L4 i v.val)) ∧
      cnt (fun j => s (L3 i v.val) < s (L3 i j) ∨ s (L3 i j) = s (L3 i v.val) ∧ j < v.val) 0 20000 = q := by
  have H : Net.Best bet (2 ^ 11) (fun p => rec (topBlock (decoded s (d 0) (d 1) (d 2) (d 3) (a 0) (a 1) (a 2) (a 3))) (A4 i (0 : Fin 1) p))
      (fun x => recAt s d a i (0 + x)) 20480 :=
    topBlock_holds _ i (recAt s d a i) fun m p hp => decoded_apply s d a i m p hp
  obtain ⟨x, hx, e, hc⟩ := H.rank bet_trans bet_neg (by
    intro j hj x hx hne
    rw [bet_recAt, bet_recAt]
    rcases lt_trichotomy (s (L3 i (0 + j))) (s (L3 i (0 + x))) with h | h | h
    · exact .inr (.inl h)
    · rcases Nat.lt_or_gt_of_ne hne with h' | h'
      · exact .inl (.inr ⟨h, by omega⟩)
      · exact .inr (.inr ⟨h.symm, by omega⟩)
    · exact .inl (.inl h)) bet_irrefl (show q < 2 ^ 11 by omega)
  have hc' : cnt (fun j => s (L3 i x) < s (L3 i j) ∨ s (L3 i j) = s (L3 i x) ∧ j < x) 0 (20000 + 480) = q := by
    rw [← hc]
    refine cnt_congr fun j _ => ?_
    rw [bet_recAt, Nat.zero_add, Nat.zero_add, Nat.zero_add]
  rw [cnt_add] at hc'
  have hx' : x < 20000 := by
    by_contra h
    rw [cnt_all (n := 20000)] at hc'
    · omega
    · intro j hj
      rw [Nat.zero_add, hpad x hx (by omega)]
      rcases (hw j hj).lt_or_eq with h' | h'
      · exact .inl h'
      · exact .inr ⟨h'.symm, by omega⟩
  rw [cnt_none (n := 480), Nat.add_zero] at hc'
  · refine ⟨⟨x, hx'⟩, ?_, hc'⟩
    rw [Nat.zero_add] at e
    rw [slotBox_rec, e]
    rfl
  · intro j hj
    rw [hpad (0 + 20000 + j) (by omega) (by omega)]
    rintro (h | ⟨_, h⟩)
    · exact absurd h (not_lt.mpr (hw x hx'))
    · omega

end Rpn

end
-- ==== Proof.KerStage.lean ====
module

public import proofs.«01_k».proof.Proof.KerHost
public import proofs.«01_k».proof.Proof.KerBox
public import proofs.«01_k».proof.Pre_scores_at_least_minus_one
public import Idealize.ShloMosaic.Lib.ReduceAll

@[expose] public section

/-! The kernel's staged arrays read at one anchor, and what the precondition says of a score. -/

noncomputable section

namespace Cert.KernelIdeal

open Rpn Gen
open Idealize.ShloMosaic Idealize.ShloMosaic.ValueIdx
open Rpn.Spec

/-- An anchor's staged score is its score of the second class; -/
theorem score_at (s : FVec Ideal S4x20000x2 .f32) (b : Fin 4) (x : Fin 20000) : stagedScores s (L3 b x.val) = s (ix3 b x 1) := by
  unfold stagedScores
  have hx := x.isLt
  refine (shapeCast_apply _ _ _ (ix2 b (⟨x.val, by omega⟩ : Fin 20480)) ?_).trans ?_
  · unfold L3
    rw [Shape.rowMajor_val_two, Shape.rowMajor_val_three]
    simp
    omega
  refine (pad_apply_of_inside _ _ _ _ _ _ _ _ (ix2 b x) fun a => match a with
    | ⟨0, _⟩ => by simp | ⟨1, _⟩ => by simp).trans ?_
  refine (shapeCast_apply _ _ _ (ix3 b x 0) ?_).trans (extractStridedSlice_apply _ _ _ _ (ix3 b x 1) fun a => match a with
    | ⟨0, _⟩ => by simp | ⟨1, _⟩ => by simp | ⟨2, _⟩ => rfl)
  rw [Shape.rowMajor_val_three, Shape.rowMajor_val_two]
  simp

/-- past the anchors it is the padding's. -/
theorem score_pad (s : FVec Ideal S4x20000x2 .f32) (b : Fin 4) (x : ℕ) (hx : x < 20480) (h : 20000 ≤ x) :
    stagedScores s (L3 b x) = lit 0xBF800000#32 := by
  unfold stagedScores
  refine (shapeCast_apply _ _ _ (ix2 b (⟨x, hx⟩ : Fin 20480)) ?_).trans ?_
  · unfold L3
    rw [Shape.rowMajor_val_two, Shape.rowMajor_val_three]
    simp
    omega
  refine (pad_apply_of_not_inside _ _ _ _ _ _ _ _ (1 : Fin 2) ?_).trans rfl
  rintro ⟨_, _, h3⟩
  have h3' : (x - 0) / (0 + 1) < 20000 := h3
  omega

/-- An anchor's staged coordinate `k` is its coordinate `k`. -/
theorem row_at (r : FVec Ideal S4x20000x4 .f32) (b k : Fin 4) (x : Fin 20000) : chanOf k (stagedRows r) (L4 b x.val) = r (ix3 b x k) := by
  have hx := x.isLt
  show stagedRows r (ix4 b k (⟨x.val / 128 % 160, _⟩ : Fin 160) (⟨x.val % 128, _⟩ : Fin 128)) = _
  unfold stagedRows
  refine (shapeCast_apply _ _ _ (ix3 b k (⟨x.val, by omega⟩ : Fin 20480)) ?_).trans ?_
  · rw [Shape.rowMajor_val_three, Shape.rowMajor_val_four]
    simp
    omega
  refine (pad_apply_of_inside _ _ _ _ _ _ _ _ (ix3 b k x) fun a => match a with
    | ⟨0, _⟩ => by simp | ⟨1, _⟩ => by simp | ⟨2, _⟩ => by simp).trans ?_
  exact transpose_apply _ _ _ _ (ix3 b x k) fun a => match a with | ⟨0, _⟩ => rfl | ⟨1, _⟩ => rfl | ⟨2, _⟩ => rfl

end Cert.KernelIdeal

namespace Cert.Pre_scores_at_least_minus_one

open Idealize.ShloMosaic Idealize.ShloMosaic.ValueIdx
open Rpn Rpn.Spec

theorem facts : Facts where
  slices_S4x20000x2_S4x20000x1_0_0_1 := by decide
  shapeCasts_S4x20000x1_S4x20000 := by decide
  bcast_S_S4x20000 := by decide
  reducesTo_S4x20000_S_d0_1 := by decide
  h_S_ := by decide

/-- Where the precondition holds, no score of the second class is below that of the padding. -/
theorem score_ge [Facts] (s : FVec Ideal S4x20000x2 .f32) (d a : FVec Ideal S4x20000x4 .f32) (h : fn s d a = fun _ => 1#1)
    (b : Fin 4) (x : Fin 20000) : lit 0xBF800000#32 ≤ s (ix3 b x 1) := by
  have h' := Host.reduce_andi_all _ _ _ _ _ (congrFun h ix0) (ix2 b x)
  have e : shapeCast S4x20000 (extractStridedSlice S4x20000x1 ![0, 0, 1] s Facts.slices_S4x20000x2_S4x20000x1_0_0_1) Facts.shapeCasts_S4x20000x1_S4x20000 (ix2 b x) = s (ix3 b x 1) := by
    refine (shapeCast_apply _ _ _ (ix3 b x 0) ?_).trans (extractStridedSlice_apply _ _ _ _ (ix3 b x 1) fun a => match a with
      | ⟨0, _⟩ => by simp | ⟨1, _⟩ => by simp | ⟨2, _⟩ => rfl)
    rw [Shape.rowMajor_val_three, Shape.rowMajor_val_two]
    simp
  rw [← e]
  exact of_decide_eq_true (ofBool_iff.mp h')

end Cert.Pre_scores_at_least_minus_one

end
-- ==== Proof.KerLoop.lean ====
module

public import proofs.«01_k».proof.Proof.KerPoint

@[expose] public section

/-! The kernel's loop over one row of boxes: it stops with the greedy choice among the row's candidates. -/

noncomputable section

namespace Rpn

open Idealize.ShloMosaic
open Idealize.ShloMosaic.ValueIdx
open Rpn.Spec

/-! ## The greedy choice as the limit of rounds -/

/-- One round: the candidates that no earlier box of the last round overlaps. -/
def Round (C : ℕ → Prop) (O : ℕ → ℕ → Prop) (X : ℕ → Prop) (l : ℕ) : Prop := C l ∧ ∀ i < l, X i → ¬ O i l

/-- A set the rounds leave alone. -/
def Settled (C : ℕ → Prop) (O : ℕ → ℕ → Prop) (T : ℕ → Prop) (n : ℕ) : Prop := ∀ l < n, T l ↔ Round C O T l

theorem round_congr {C : ℕ → Prop} {O : ℕ → ℕ → Prop} {X Y : ℕ → Prop} {n : ℕ} (h : ∀ l < n, X l ↔ Y l) :
    ∀ l < n, Round C O X l ↔ Round C O Y l := fun l hl =>
  and_congr_right fun _ => forall_congr' fun i => ⟨fun f hi t => f hi ((h i (by omega)).mpr t), fun f hi t => f hi ((h i (by omega)).mp t)⟩

theorem round_step {C : ℕ → Prop} {O : ℕ → ℕ → Prop} {T X : ℕ → Prop} {n m : ℕ} (hT : Settled C O T n) (h : ∀ l < n, l < m → (X l ↔ T l)) :
    ∀ l < n, l < m + 1 → (Round C O X l ↔ T l) := fun l hl hm => by
  rw [hT l hl]
  refine and_congr_right fun _ => forall_congr' fun i => ⟨fun f hi t => f hi ((h i (by omega) (by omega)).mpr t),
    fun f hi t => f hi ((h i (by omega) (by omega)).mp t)⟩

theorem settled_unique {C : ℕ → Prop} {O : ℕ → ℕ → Prop} {T X : ℕ → Prop} {n : ℕ} (hT : Settled C O T n) (hX : Settled C O X n) :
    ∀ l < n, X l ↔ T l := fun l => by
  induction l using Nat.strong_induction_on with
  | _ l ih =>
    intro hl
    rw [hT l hl, hX l hl]
    refine and_congr_right fun _ => forall_congr' fun i => ⟨fun f hi t => f hi ((ih i hi (by omega)).mpr t),
      fun f hi t => f hi ((ih i hi (by omega)).mp t)⟩

/-! ## One iteration, at the row of one image -/

/-- The overlap matrix of image `b`. -/
def LoopIn.mat (L : LoopIn Ideal) : Fin 4 → FVec Ideal (sh2 128 128) .f32
  | 0 => L.m0
  | 1 => L.m1
  | 2 => L.m2
  | 3 => L.m3

/-- The first of the eight rows of image `b`. -/
abbrev R8 (b : Fin 4) : Fin 32 := ⟨8 * b.val, by omega⟩

theorem stack8_apply (f : Fin 4 → FVec Ideal (sh2 8 128) .f32) (b : Fin 4) (l : Fin 128) :
    stack8 (f 0) (f 1) (f 2) (f 3) (ix2 (R8 b) l) = f b (ix2 0 l) := by
  unfold stack8
  exact concatenate_ofFn_apply (t := sh2 32 128) (s₁ := sh2 8 128) 0 (N := 4) f cc_eight4 rfl 8 rfl (ix2 (R8 b) l) b
    (by show 8 * b.val / 8 = b.val; omega) (ix2 0 l) (by show 0 = 8 * b.val % 8; omega) (fun a ha => match a with
      | ⟨0, _⟩ => absurd rfl ha | ⟨1, _⟩ => rfl)

/-- What eight rows of image `b` give when multiplied by its matrix. -/
def hits (L : LoopIn Ideal) (x : FVec Ideal (sh2 32 128) .f32) (b : Fin 4) : FVec Ideal (sh2 8 128) .f32 :=
  matmul dotM none (extractStridedSlice (sh2 8 128) ![8 * b.val, 0] x (sl_eight8 (8 * b.val) (by omega))) (L.mat b)
    (constant (sh2 8 128) .f32 0x00000000#32)

theorem hits_apply (L : LoopIn Ideal) (x : FVec Ideal (sh2 32 128) .f32) (b : Fin 4) (l : Fin 128) :
    hits L x b (ix2 0 l) = ∑ k : Fin 128, x (ix2 (R8 b) k) * L.mat b (ix2 k l) := by
  refine (Ideal.matmul_plain_apply (M := 8) (K := 128) (N := 128) none _ (L.mat b) _ 0 l).trans ?_
  show lit 0x00000000#32 + _ = _
  rw [lit_zero, zero_add]
  refine Finset.sum_congr rfl fun k _ => ?_
  congr 1
  exact extractStridedSlice_apply _ _ _ _ _ fun a => match a with | ⟨0, _⟩ => rfl | ⟨1, _⟩ => (Nat.zero_add _).symm

theorem next_apply (L : LoopIn Ideal) (x : FVec Ideal (sh2 32 128) .f32) (b : Fin 4) (l : Fin 128) :
    L.next x (ix2 (R8 b) l) = L.cand (ix2 (R8 b) l) *
      bit (∑ k : Fin 128, x (ix2 (R8 b) k) * L.mat b (ix2 k l) < lit 0x3F000000#32) := by
  show L.cand (ix2 (R8 b) l) * Scalar.select (BitVec.ofBool (decide
    (stack8 (hits L x 0) (hits L x 1) (hits L x 2) (hits L x 3) (ix2 (R8 b) l) < lit 0x3F000000#32))) (lit 0x3F800000#32) (lit 0x00000000#32) = _
  rw [stack8_apply (hits L x), hits_apply, select_bit, bit_congr ofBool_iff, bit_congr decide_eq_true_iff]

theorem cnt_small {B : ℕ → Prop} {n : ℕ} : ((Net.cnt B 0 n : ℝ) : EReal) < lit 0x3F000000#32 ↔ ∀ i < n, ¬ B i := by
  rw [lit_half]
  constructor
  · intro h i hi hB
    have h1 := cnt_lt hi hB
    have h2 : (1 : ℝ) ≤ Net.cnt B 0 n := by exact_mod_cast (by omega : 1 ≤ Net.cnt B 0 n)
    have h3 : (Net.cnt B 0 n : ℝ) < 1 / 2 := by exact_mod_cast h
    linarith
  · intro h
    rw [Net.cnt_none (base := 0) fun x hx => by rw [Nat.zero_add]; exact h x hx]
    exact_mod_cast (by norm_num : (0 : ℝ) < 1 / 2)

/-- The row of image `b` holds the marks of `X`. -/
def RowHolds (b : Fin 4) (x : FVec Ideal (sh2 32 128) .f32) (X : ℕ → Prop) : Prop := ∀ l : Fin 128, x (ix2 (R8 b) l) = bit (X l.val)

theorem next_holds {L : LoopIn Ideal} {b : Fin 4} {C X : ℕ → Prop} {O : ℕ → ℕ → Prop} (hC : RowHolds b L.cand C)
    (hO : ∀ i l : Fin 128, L.mat b (ix2 i l) = bit (O i.val l.val ∧ i.val < l.val)) {x : FVec Ideal (sh2 32 128) .f32} (hX : RowHolds b x X) :
    RowHolds b (L.next x) (Round C O X) := fun l => by
  rw [next_apply, hC l]
  have e : ∑ k : Fin 128, x (ix2 (R8 b) k) * L.mat b (ix2 k l) = ((Net.cnt (fun k => X k ∧ O k l.val ∧ k < l.val) 0 128 : ℝ) : EReal) := by
    rw [← bit_sum]
    refine Finset.sum_congr rfl fun k _ => ?_
    rw [hX k, hO k l, bit_mul]
  rw [e, bit_congr cnt_small, bit_mul]
  refine bit_congr (and_congr_right fun _ => ⟨fun f i hi hx ho => f i (by have := l.isLt; omega) ⟨hx, ho, hi⟩, fun f i _ h => f i h.2.2 h.1 h.2.1⟩)

/-! ## When the loop stops -/

theorem abs_nonneg' (a : EReal) : 0 ≤ max a (-a) := by
  rcases le_total 0 a with h | h
  · exact h.trans (le_max_left _ _)
  · exact (by rw [EReal.neg_nonneg]; exact h : (0 : EReal) ≤ -a).trans (le_max_right _ _)

theorem total_apply (y : FVec Ideal (sh3 1 32 128) .f32) (h1 : (sh3 1 32 128).Reduces [1, 2] (sh1 1)) (h2 : FKind.Formats .f32)
    (h3 : 0x00000000#32 = FKind.add.neutral .f32 h2) (h4 : (sh1 1).ShapeCasts (sh3 1 1 1)) (h5) :
    extractAt ![0, 0, 0] (shapeCast (sh3 1 1 1) (multiReduction (F := Ideal) .add [1, 2] (sh1 1) y 0x00000000#32 h1 h2 h3) h4) h5 = ∑ i, y i := by
  unfold extractAt shapeCast
  exact Ideal.multiReduction_add_total y _ h1 (fun b => by fin_cases b; rfl) h2 h3 _

theorem goOn_eq (prev cur : FVec Ideal (sh2 32 128) .f32) (it : BitVec 32) : goOn prev cur it = IntOp.andi
    (BitVec.ofBool (decide (lit 0x00000000#32 < ∑ i, shapeCast (sh3 1 32 128) (absf (subf cur prev)) (by decide) i))) (IntOp.cmpi .slt it 129#32) := by
  unfold goOn
  exact congrArg (fun z : EReal => IntOp.andi (BitVec.ofBool (decide (lit 0x00000000#32 < z))) (IntOp.cmpi .slt it 129#32))
    (total_apply _ _ _ _ _ _)

theorem goOn_zero {prev cur : FVec Ideal (sh2 32 128) .f32} {m : ℕ} (hm : m < 129) (h : ¬ goOn prev cur (BitVec.ofNat 32 m) = 1#1)
    (r : Fin 32) (l : Fin 128) : max (cur (ix2 r l) - prev (ix2 r l)) (-(cur (ix2 r l) - prev (ix2 r l))) = 0 := by
  have h2 : IntOp.cmpi .slt (BitVec.ofNat 32 m) (129#32) = 1#1 := (cmpi_slt_small (t := 129) (by omega) (by decide)).mpr hm
  rw [goOn_eq, andi_iff, and_iff_left h2, ofBool_iff, decide_eq_true_iff, lit_zero, not_lt] at h
  have hx : ∀ i : (sh2 32 128).Idx, absf (subf cur prev) i = max (cur i - prev i) (-(cur i - prev i)) := fun i => rfl
  have hy0 : ∀ i, 0 ≤ shapeCast (sh3 1 32 128) (absf (subf cur prev)) (by decide) i := fun i => abs_nonneg' _
  have hv : shapeCast (sh3 1 32 128) (absf (subf cur prev)) (by decide) (ix3 0 r l) = absf (subf cur prev) (ix2 r l) :=
    shapeCast_apply _ _ _ (ix2 r l) (by rw [Shape.rowMajor_val_three, Shape.rowMajor_val_two]; simp)
  rw [← hx, ← hv]
  exact le_antisymm ((Finset.single_le_sum (fun i _ => hy0 i) (Finset.mem_univ (ix3 0 r l))).trans h) (hy0 _)

theorem bit_sub_zero {P Q : Prop} (h : max (bit P - bit Q) (-(bit P - bit Q)) = 0) : P ↔ Q := by
  have e : ∀ a : ℝ, max (a : EReal) (-(a : EReal)) = 0 → a = 0 := fun a ha => by
    have h1 : (a : EReal) ≤ 0 := ha ▸ le_max_left _ _
    have h2 : -(a : EReal) ≤ 0 := ha ▸ le_max_right _ _
    have h1' : a ≤ 0 := by exact_mod_cast h1
    have h2' : -a ≤ 0 := by exact_mod_cast h2
    linarith
  by_cases hP : P <;> by_cases hQ : Q <;> simp only [hP, hQ, iff_true, iff_false, not_true, not_false_iff]
  · rw [bit_true hP, bit_false hQ] at h
    have := e 1 (by simpa using h)
    norm_num at this
  · rw [bit_false hP, bit_true hQ] at h
    have := e (-1) (by simpa using h)
    norm_num at this

theorem bit_sub_two {P : Prop} (h : max (bit P - (bit P - lit 0x40000000#32)) (-(bit P - (bit P - lit 0x40000000#32))) = 0) : False := by
  have h1 : bit P - (bit P - lit 0x40000000#32) ≤ 0 := h ▸ le_max_left _ _
  rw [lit_two] at h1
  have : ∀ a : ℝ, (a : EReal) - ((a : EReal) - ((2 : ℝ) : EReal)) ≤ 0 → False := fun a ha => by
    have h2 : a - (a - 2) ≤ 0 := by exact_mod_cast ha
    linarith
  by_cases hP : P
  · rw [bit_true hP] at h1; exact this 1 (by exact_mod_cast h1)
  · rw [bit_false hP] at h1; exact this 0 (by exact_mod_cast h1)

/-- The loop from the round `m` on leaves the settled set in the row of image `b`. -/
theorem run_holds {L : LoopIn Ideal} {b : Fin 4} {C T : ℕ → Prop} {O : ℕ → ℕ → Prop} (hC : RowHolds b L.cand C)
    (hO : ∀ i l : Fin 128, L.mat b (ix2 i l) = bit (O i.val l.val ∧ i.val < l.val)) (hT : Settled C O T 128) :
    ∀ (n m : ℕ) (prev cur : FVec Ideal (sh2 32 128) .f32) (X : ℕ → Prop), m + n = 129 → RowHolds b cur X →
      (∀ l < 128, l < m + 1 → (X l ↔ T l)) →
      ((∀ l : Fin 128, max (cur (ix2 (R8 b) l) - prev (ix2 (R8 b) l)) (-(cur (ix2 (R8 b) l) - prev (ix2 (R8 b) l))) = 0) →
        Settled C O X 128) →
      RowHolds b (L.run n prev cur (BitVec.ofNat 32 m)).2.1 T
  | 0, m, prev, cur, X, hm, hX, hr, hs => fun l => by
    show cur _ = _
    rw [hX l]
    exact bit_congr (hr l.val l.isLt (by have := l.isLt; omega))
  | n + 1, m, prev, cur, X, hm, hX, hr, hs => by
    show RowHolds b (if goOn prev cur (BitVec.ofNat 32 m) = 1#1 then _ else _ : Carry Ideal).2.1 T
    by_cases h : goOn prev cur (BitVec.ofNat 32 m) = 1#1
    · rw [if_pos h]
      have e : Scalar.addi (BitVec.ofNat 32 m) 1#32 = BitVec.ofNat 32 (m + 1) := (BitVec.ofNat_add _ _).symm
      rw [e]
      refine run_holds hC hO hT n (m + 1) cur (L.next cur) (Round C O X) (by omega) (next_holds hC hO hX) (round_step hT hr) fun hz => ?_
      have hs' : ∀ l < 128, Round C O X l ↔ X l := fun l hl => bit_sub_zero (by
        have := hz ⟨l, hl⟩
        rwa [next_holds hC hO hX ⟨l, hl⟩, hX ⟨l, hl⟩] at this)
      exact fun l hl => round_congr (fun i hi => (hs' i hi).symm) l hl
    · rw [if_neg h]
      intro l
      show cur _ = _
      rw [hX l]
      have hX' : Settled C O X 128 := hs fun l => goOn_zero (by omega) h (R8 b) l
      exact bit_congr (settled_unique hT hX' l.val l.isLt)

/-- What the loop leaves in the row of image `b`. -/
theorem result_holds {L : LoopIn Ideal} {b : Fin 4} {C T : ℕ → Prop} {O : ℕ → ℕ → Prop} (hC : RowHolds b L.cand C)
    (hO : ∀ i l : Fin 128, L.mat b (ix2 i l) = bit (O i.val l.val ∧ i.val < l.val)) (hT : Settled C O T 128) : RowHolds b L.result T := by
  refine run_holds hC hO hT 129 0 (subf L.cand (bc _ 0x40000000#32)) L.cand C rfl hC (fun l hl h0 => ?_) fun hz => ?_
  · obtain rfl : l = 0 := by omega
    rw [hT 0 hl]
    exact ⟨fun h => ⟨h, fun i hi => absurd hi (by omega)⟩, fun h => h.1⟩
  · have := hz 0
    have e : subf L.cand (bc _ 0x40000000#32) (ix2 (R8 b) 0) = L.cand (ix2 (R8 b) 0) - lit 0x40000000#32 := rfl
    rw [e, hC 0] at this
    exact (bit_sub_two this).elim

/-! ## All rows -/

/-- The marks of image `b` for its first `j` rows are those of `K`. -/
def MarksHold (M : Marks Ideal) (b : Fin 4) (j : ℕ) (K : ℕ → Prop) : Prop :=
  (∀ i < j, ∀ l : Fin 128, M.row b.val i (ix2 0 l) = bit (K (128 * i + l.val))) ∧ ColsHold (M.col b.val) j K

theorem greedy_settled {B : Boxes Ideal} {K : ℕ → Prop} (hK : Greedy 2000 (fun i j => over (B.at i) (B.at j)) K) (j : ℕ) :
    Settled (Cand B K j) (fun i l => over (B.at (128 * j + i)) (B.at (128 * j + l))) (fun l => K (128 * j + l)) 128 := fun l hl => by
  show K (128 * j + l) ↔ _
  rw [hK (128 * j + l)]
  constructor
  · rintro ⟨h1, h2⟩
    exact ⟨⟨h1, fun ⟨i, hi, hk, ho⟩ => h2 i (by omega) hk ho⟩, fun i hi hk => h2 (128 * j + i) (by omega) hk⟩
  · rintro ⟨⟨h1, h2⟩, h3⟩
    refine ⟨h1, fun i hi hk ho => ?_⟩
    by_cases h : i < 128 * j
    · exact h2 ⟨i, h, hk, ho⟩
    · obtain ⟨d, rfl⟩ := Nat.exists_eq_add_of_le (not_lt.mp h)
      exact h3 d (by omega) hk ho

theorem loopIn_mat (t : Six Ideal (B4 1)) (M : Marks Ideal) {j : ℕ} (hj : j < 16) (b : Fin 4) :
    (loopIn t M j hj).mat b = overMat (boxes t b.val b.isLt) j hj := by
  fin_cases b <;> rfl

theorem loopIn_cand (t : Six Ideal (B4 1)) (M : Marks Ideal) {j : ℕ} (hj : j < 16) (b : Fin 4) (l : Fin 128) :
    (loopIn t M j hj).cand (ix2 (R8 b) l) = cand8 (boxes t b.val b.isLt) (M.col b.val) j hj (ix2 0 l) :=
  stack8_apply (fun b => cand8 (boxes t b.val b.isLt) (M.col b.val) j hj) b l

theorem keptRow_apply (x : FVec Ideal (sh2 32 128) .f32) (b : Fin 4) (l : Fin 128) : keptRow' x b.val (ix2 0 l) = x (ix2 (R8 b) l) := by
  have : keptRow' x b.val = keptRow b.val b.isLt x := by fin_cases b <;> rfl
  rw [this]
  unfold keptRow
  exact extractStridedSlice_apply _ _ _ _ _ fun a => match a with | ⟨0, _⟩ => rfl | ⟨1, _⟩ => (Nat.zero_add _).symm

theorem beq_false {i j : ℕ} (h : ¬ i = j) : Nat.beq i j = false := by
  cases e : Nat.beq i j
  · rfl
  · exact absurd (Nat.eq_of_beq_eq_true e) h

theorem add_hold {M : Marks Ideal} {b : Fin 4} {j : ℕ} {K : ℕ → Prop} (h : MarksHold M b j K) {x : FVec Ideal (sh2 32 128) .f32}
    (hx : RowHolds b x fun l => K (128 * j + l)) : MarksHold (M.add j x) b (j + 1) K := by
  have hrow : ∀ l : Fin 128, keptRow' x b.val (ix2 0 l) = bit (K (128 * j + l.val)) := fun l => (keptRow_apply x b l).trans (hx l)
  refine ⟨fun i hi l => ?_, fun i hi l => ?_⟩
  · show (bif Nat.beq i j then keptRow' x b.val else M.row b.val i) (ix2 0 l) = _
    by_cases e : i = j
    · subst e; rw [Nat.beq_refl]; exact hrow l
    · rw [beq_false e]; exact h.1 i (by omega) l
  · show (bif Nat.beq i j then rowToCol (keptRow' x b.val) else M.col b.val i) (ix2 l 0) = _
    by_cases e : i = j
    · subst e; rw [Nat.beq_refl]; exact (rowToCol_apply _ l).trans (hrow l)
    · rw [beq_false e]; exact h.2 i (by omega) l

/-- The kernel's marks are the greedy choice among the first two thousand boxes. -/
theorem marks_hold {t : Six Ideal (B4 1)} {b : Fin 4} {K : ℕ → Prop}
    (hK : Greedy 2000 (fun i j => over (slotBox t b i) (slotBox t b j)) K) : ∀ j ≤ 16, MarksHold (marksTo t j) b j K
  | 0, _ => ⟨fun i hi => absurd hi (by omega), fun i hi => absurd hi (by omega)⟩
  | j + 1, hj => by
    have ih := marks_hold hK j (by omega)
    have hK' : Greedy 2000 (fun i j => over ((boxes t b.val b.isLt).at i) ((boxes t b.val b.isLt).at j)) K := by
      simp only [boxes_at]; exact hK
    rw [marksTo_succ t j (by omega)]
    refine add_hold ih (result_holds (C := Cand (boxes t b.val b.isLt) K j) (fun l => ?_) (fun i l => ?_) (greedy_settled hK' j))
    · rw [loopIn_cand]; exact cand8_apply _ ih.2 0 l
    · rw [loopIn_mat]; exact overMat_apply _ _ i l

end Rpn

end

end
-- ==== Proof.KerLast.lean ====
module

public import proofs.«01_k».proof.Proof.KerLoop

@[expose] public section

/-! The kernel's last sort and its output slots: the kept boxes in order, then zeros. -/

noncomputable section

namespace Rpn

open Idealize.ShloMosaic
open Idealize.ShloMosaic.ValueIdx
open Rpn.Spec

/-! ## The network by the key alone -/

/-- A key and the four corners that travel with it. -/
structure Entry where
  key : EReal
  box : Spec.Box

/-- The order of the last sort. -/
def first (x y : Entry) : Prop := x.key ≤ y.key

/-- The entry at an index of five arrays. -/
def entry {S : Shape} (b : Five Ideal S) (i : S.Idx) : Entry := ⟨b.key i, ⟨b.p0 i, b.p1 i, b.p2 i, b.p3 i⟩⟩

theorem keepKey_apply {n s : ℕ} (hs : s < 11) (asc : IVec (B3 1) 1) (A : ℕ → Prop) (p : ℕ) (hA : asc (A3 0 p) = 1#1 ↔ ¬ A p)
    (b : Five Ideal (B3 n)) (m : Fin n) :
    keepKey n s asc b.key (A3 m p) = 1#1 ↔
      ((first (entry b (A3 m p)) (entry b (A3 m (p ^^^ 2 ^ s))) ↔ ¬ p.testBit s = true) ↔ ¬ A p) := by
  classical
  show IntOp.xori (IntOp.xori (BitVec.ofBool (decide (partner n s b.key (A3 m p) < b.key (A3 m p))))
    (broadcastTo (B3 n) (bitMask (2 ^ s)) (bc_B3 n) (A3 m p))) (broadcastTo (B3 n) asc (bc_B3 n) (A3 m p)) = 1#1 ↔ _
  rw [bcast3_apply, bcast3_apply, bitMask_apply (by omega), testBit_mod hs, partner_apply hs, ← hA]
  have hf : first (entry b (A3 m p)) (entry b (A3 m (p ^^^ 2 ^ s))) ↔ ¬ b.key (A3 m (p ^^^ 2 ^ s)) < b.key (A3 m p) := not_lt.symm
  rw [hf]
  by_cases h1 : b.key (A3 m (p ^^^ 2 ^ s)) < b.key (A3 m p) <;>
    rcases h2 : p.testBit s with _ | _ <;> by_cases h3 : asc (A3 0 p) = 1#1 <;>
    first
      | (simp [h1, h3, IntOp.xori]; done)
      | (simp [h1, eq_zero_of_ne_one h3, IntOp.xori]; done)

theorem stageKey_entry {n s : ℕ} (hs : s < 11) (asc : IVec (B3 1) 1) (A : ℕ → Prop) (hA : ∀ p, asc (A3 0 p) = 1#1 ↔ ¬ A p)
    (b : Five Ideal (B3 n)) (m : Fin n) :
    (fun p => entry (stageKey n s asc b) (A3 m p)) = Net.astage first s A fun p => entry b (A3 m p) := by
  classical
  funext p
  have hk := keepKey_apply hs asc A p (hA p) b m
  unfold Net.astage
  by_cases h : keepKey n s asc b.key (A3 m p) = 1#1
  · rw [if_pos (hk.mp h)]
    simp only [entry, stageKey, select_apply, h, select_one]
  · rw [if_neg (fun h' => h (hk.mpr h'))]
    simp only [entry, stageKey, select_apply, eq_zero_of_ne_one h, select_zero, partner_apply hs]

theorem stagesKey_entry {n : ℕ} (asc : IVec (B3 1) 1) (A : ℕ → Prop) (hA : ∀ p, asc (A3 0 p) = 1#1 ↔ ¬ A p) (m : Fin n) :
    ∀ (k : ℕ) (_ : k ≤ 11) (b : Five Ideal (B3 n)),
      (fun p => entry (stagesKey n asc k b) (A3 m p)) = Net.amerge first A k fun p => entry b (A3 m p)
  | 0, _, _ => rfl
  | k + 1, hk, b => (stagesKey_entry asc A hA m k (by omega) (stageKey n k asc b)).trans
      (congrArg (Net.amerge first A k) (stageKey_entry (by omega) asc A hA b m))

theorem sortUp_entry {n : ℕ} (b : Five Ideal (B3 n)) (m : Fin n) : ∀ (k : ℕ) (_ : k ≤ 11),
    (fun p => entry (sortUp n k b) (A3 m p)) = Net.asort first 11 k fun p => entry b (A3 m p)
  | 0, _ => rfl
  | k + 1, hk => (stagesKey_entry _ _ (fun p => by
        show IntOp.xori (bitMask (2 ^ (k + 1)) (A3 0 p)) 1#1 = 1#1 ↔ ¬ (p % 2048).testBit (k + 1) = true
        rw [bitMask_apply (by omega)]
        cases (p % 2048).testBit (k + 1) <;> simp [IntOp.xori]) m (k + 1) hk _).trans
      (congrArg (Net.amerge first _ (k + 1)) (sortUp_entry b m k (by omega)))

/-! ## What the sort leaves at a position -/

theorem cnt_one_more {B B' : ℕ → Prop} {n i : ℕ} (hi : i < n) (h : ∀ x < n, x ≠ i → (B' x ↔ B x)) : Net.cnt B' 0 n ≤ Net.cnt B 0 n + 1 := by
  obtain ⟨d, rfl⟩ := Nat.exists_eq_add_of_lt hi
  rw [show i + d + 1 = i + (1 + d) by omega, Net.cnt_add, Net.cnt_add, Net.cnt_add, Net.cnt_add,
    Net.cnt_congr (B := B') (B' := B) (base := 0) (base' := 0) (n := i) fun x hx => h _ (by omega) (by omega),
    Net.cnt_congr (B := B') (B' := B) (base := 0 + i + 1) (base' := 0 + i + 1) (n := d) fun x hx => h _ (by omega) (by omega)]
  have := Net.cnt_le B' (0 + i) 1
  omega

/-- Where no two keys are equal, position `s` holds the entry with `s` smaller keys. -/
theorem first_rank {N n : ℕ} {g v : ℕ → Entry} (h : Net.Best first N g v n) (hinj : ∀ i < n, ∀ j < n, (v i).key = (v j).key → i = j)
    {s : ℕ} (hs : s < N) : ∃ i < n, g s = v i ∧ Net.cnt (fun j => (v j).key < (v i).key) 0 n = s := by
  obtain ⟨i, hi, e⟩ := h.2 s hs
  refine ⟨i, hi, e, ?_⟩
  have up1 : Net.Up first fun y => y.key < (v i).key := fun x y => ⟨fun hxy hy => lt_of_le_of_lt hxy hy,
    fun hxy hx => (not_le.mp hxy).trans hx⟩
  have up2 : Net.Up first fun y => y.key ≤ (v i).key := fun x y => ⟨fun hxy hy => le_trans hxy hy,
    fun hxy hx => (not_le.mp hxy).le.trans hx⟩
  have h1 := h.1 _ up1 s hs
  have h2 := h.1 _ up2 s hs
  have h3 := cnt_one_more (B := fun j => (v j).key < (v i).key) (B' := fun j => (v j).key ≤ (v i).key) hi fun x hx hne =>
    ⟨fun hle => lt_of_le_of_ne hle fun heq => hne (hinj x hx i hi heq), fun hlt => hlt.le⟩
  have h4 := h2.mp (by rw [e])
  have h5 : ¬ s < _ := fun hc => by
    have := h1.mpr hc
    rw [e] at this
    exact lt_irrefl _ this
  omega

/-! ## The marks of all images, and their keys -/

theorem markBlock_apply {r : ℕ → FVec Ideal (sh2 1 128) .f32} {K : ℕ → Prop} (h : ∀ i < 16, ∀ l : Fin 128, r i (ix2 0 l) = bit (K (128 * i + l.val)))
    {p : ℕ} (hp : p < 2048) : markBlock r (P2 p) = bit (K p) := by
  unfold markBlock
  refine (concatenate_ofFn_apply (t := sh2 16 128) (s₁ := sh2 1 128) 0 (N := 16) (fun n => r n.val) _ rfl 1 rfl (P2 p)
    (⟨p / 128 % 16, Nat.mod_lt _ (by decide)⟩ : Fin 16) (Nat.div_one _) (ix2 0 (⟨p % 128, Nat.mod_lt _ (by decide)⟩ : Fin 128))
    (Nat.mod_one _).symm (fun b hb => match b with | ⟨0, _⟩ => absurd rfl hb | ⟨1, _⟩ => rfl)).trans ?_
  rw [h _ (Nat.mod_lt _ (by decide))]
  exact bit_congr (by rw [show 128 * (p / 128 % 16) + p % 128 = p by omega])

theorem allMarks_apply {M : Marks Ideal} {b : Fin 4} {K : ℕ → Prop} (h : MarksHold M b 16 K) {p : ℕ} (hp : p < 2048) :
    allMarks M (A3 b p) = bit (K p) := by
  unfold allMarks
  refine (concatenate_ofFn_apply (t := B3 4) (s₁ := B3 1) 0 (N := 4) (fun n => shapeCast (B3 1) (markBlock (M.row n.val)) (by decide)) _ rfl 1 rfl (A3 b p)
    b (Nat.div_one _) (A3 0 p) (Nat.mod_one _).symm (fun a ha => match a with | ⟨0, _⟩ => absurd rfl ha | ⟨1, _⟩ => rfl | ⟨2, _⟩ => rfl)).trans ?_
  refine (shapeCast_apply _ _ _ (P2 p) ?_).trans (markBlock_apply h.1 hp)
  rw [Shape.rowMajor_val_three, Shape.rowMajor_val_two]
  simp

theorem sum_block (x : FVec Ideal (B3 4) .f32) (h : (B3 4).Reduces [1, 2] (sh1 4)) (h2 : FKind.Formats .f32)
    (h3 : 0x00000000#32 = FKind.add.neutral .f32 h2) (b : Fin 4) :
    multiReduction (F := Ideal) .add [1, 2] (sh1 4) x 0x00000000#32 h h2 h3 (ix1 b) = ∑ p : Fin 2048, x (A3 b p.val) := by
  classical
  have hd : ∀ i : (B3 4).Idx, h.drop i = ix1 b ↔ (i 0).val = b.val := fun i => by
    constructor
    · intro e
      exact congrArg (fun f => (f 0).val) e
    · intro e
      funext a
      match a with
      | ⟨0, _⟩ => exact Fin.ext e
  show (∑ i with h.drop i = ix1 b, x i) = _
  symm
  refine Finset.sum_bij (fun p _ => A3 b p.val) (fun p _ => ?_) (fun p _ q _ e => ?_) (fun i hi => ?_) fun p _ => rfl
  · rw [Finset.mem_filter, hd]; exact ⟨Finset.mem_univ _, rfl⟩
  · have e1 : p.val / 128 % 16 = q.val / 128 % 16 := congrArg (fun f => (f 1).val) e
    have e2 : p.val % 128 = q.val % 128 := congrArg (fun f => (f 2).val) e
    have := p.isLt; have := q.isLt
    exact Fin.ext (by omega)
  · rw [Finset.mem_filter, hd] at hi
    have h1 : (i 1).val < 16 := (i 1).isLt
    have h2 : (i 2).val < 128 := (i 2).isLt
    refine ⟨⟨(i 1).val * 128 + (i 2).val, by omega⟩, Finset.mem_univ _, ?_⟩
    funext a
    match a with
    | ⟨0, _⟩ => exact Fin.ext hi.2.symm
    | ⟨1, _⟩ => exact Fin.ext (by show ((i 1).val * 128 + (i 2).val) / 128 % 16 = (i 1).val; omega)
    | ⟨2, _⟩ => exact Fin.ext (by show ((i 1).val * 128 + (i 2).val) % 128 = (i 2).val; omega)

theorem keptTotal_apply {M : Marks Ideal} {b : Fin 4} {K : ℕ → Prop} (h : MarksHold M b 16 K) :
    keptTotal M (ix3 b 0 0) = ((Net.cnt K 0 2048 : ℝ) : EReal) := by
  unfold keptTotal
  refine (shapeCast_apply _ _ _ (ix1 b) (by rw [Shape.rowMajor_val_one, Shape.rowMajor_val_three]; simp)).trans ?_
  refine (sum_block _ _ _ _ b).trans ?_
  rw [← bit_sum]
  exact Finset.sum_congr rfl fun p _ => allMarks_apply h p.isLt

theorem posF_apply {p : ℕ} (hp : p < 2048) : posF (F := Ideal) (A3 0 p) = ((p : ℝ) : EReal) := by
  show (((ploc (A3 0 p)).toInt : ℝ) : EReal) = _
  rw [ploc_apply, Nat.mod_eq_of_lt hp, BitVec.toInt_eq_toNat_of_lt (by rw [BitVec.toNat_ofNat]; omega), BitVec.toNat_ofNat, Nat.mod_eq_of_lt (by omega)]
  norm_cast

theorem lastKey_apply {M : Marks Ideal} {b : Fin 4} {K : ℕ → Prop} (h : MarksHold M b 16 K) {p : ℕ} (hp : p < 2048) :
    lastKey M (A3 b p) = ((place 2048 K p : ℝ) : EReal) := by
  show Scalar.select (BitVec.ofBool (decide (lit 0x3F000000#32 < allMarks M (A3 b p))))
    (broadcastTo (B3 4) (shapeCast (B3 1) posF _) (bc_B3 4) (A3 b p))
    (broadcastTo (B3 4) (shapeCast (B3 1) (addf posF (bc _ 0x45000000#32)) _) (bc_B3 4) (A3 b p)) = _
  rw [bcast3_apply, bcast3_apply, shapeCast_self, shapeCast_self, allMarks_apply h hp]
  have e : addf posF (bc (F := Ideal) _ 0x45000000#32) (A3 0 p) = ((p : ℝ) : EReal) + ((2048 : ℝ) : EReal) := by
    show posF (F := Ideal) (A3 0 p) + lit 0x45000000#32 = _
    rw [posF_apply hp, lit_block]
  rw [e, posF_apply hp]
  unfold place
  by_cases hk : K p
  · rw [if_pos hk, ofBool_iff.mpr (decide_eq_true (half_lt_bit.mpr hk)), select_one]
  · rw [if_neg hk, eq_zero_of_ne_one fun hc => hk (half_lt_bit.mp (of_decide_eq_true (ofBool_iff.mp hc))), select_zero]
    push_cast
    rfl

/-- After the last sort: position `s` holds a kept box with `s` kept before it, or all kept ones are before. -/
theorem compacted_apply {t : Six Ideal (B4 1)} {M : Marks Ideal} {b : Fin 4} {K : ℕ → Prop} (h : MarksHold M b 16 K) {s : ℕ} (hs : s < 2048) :
    (∃ i < 2048, K i ∧ Net.cnt K 0 i = s ∧ s < Net.cnt K 0 2048 ∧ (entry (compacted t M) (A3 b s)).box = slotBox t b i) ∨ Net.cnt K 0 2048 ≤ s := by
  set f : Five Ideal (B3 4) :=
    { key := lastKey M
      p0 := shapeCast (B3 4) t.p0 (by decide)
      p1 := shapeCast (B3 4) t.p1 (by decide)
      p2 := shapeCast (B3 4) t.p2 (by decide)
      p3 := shapeCast (B3 4) t.p3 (by decide) } with hf
  have hsort : (fun p => entry (compacted t M) (A3 b p)) = Net.asort first 11 11 fun p => entry f (A3 b p) := sortUp_entry f b 11 le_rfl
  have hb := Net.best_sort first 11 fun p => entry f (A3 b p)
  rw [← hsort] at hb
  have hkey : ∀ p < 2048, (entry f (A3 b p)).key = ((place 2048 K p : ℝ) : EReal) := fun p hp => lastKey_apply h hp
  have hlt : ∀ p < 2048, ∀ q < 2048, ((entry f (A3 b p)).key < (entry f (A3 b q)).key ↔ place 2048 K p < place 2048 K q) := fun p hp q hq => by
    rw [hkey p hp, hkey q hq, EReal.coe_lt_coe_iff, Nat.cast_lt]
  obtain ⟨i, hi, e, hc⟩ := first_rank hb (fun p hp q hq heq => place_inj (n := 2048) le_rfl K hp hq (by
    rw [hkey p hp, hkey q hq, EReal.coe_eq_coe_iff, Nat.cast_inj] at heq
    exact heq)) (s := s) hs
  have hi' : i < 2048 := hi
  have hc' : Net.cnt (fun j => place 2048 K j < place 2048 K i) 0 2048 = s := by
    rw [← hc]
    exact Net.cnt_congr fun x hx => (hlt (0 + x) (by omega) i hi').symm
  rcases place_rank (n := 2048) le_rfl hi' hc' with ⟨h1, h2, h3⟩ | ⟨_, h1⟩
  · refine .inl ⟨i, hi', h1, h2, h3, ?_⟩
    have e' : entry (compacted t M) (A3 b s) = entry f (A3 b i) := e
    rw [e']
    have hx : ∀ x : FVec Ideal (B4 1) .f32, shapeCast (B3 4) x (by decide) (A3 b i) = x (A4 b 0 i) := fun x =>
      shapeCast_apply _ _ _ _ (by rw [Shape.rowMajor_val_three, Shape.rowMajor_val_four]; simp)
    show (⟨shapeCast (B3 4) t.p0 _ (A3 b i), shapeCast (B3 4) t.p1 _ (A3 b i), shapeCast (B3 4) t.p2 _ (A3 b i), shapeCast (B3 4) t.p3 _ (A3 b i)⟩ : Spec.Box) = _
    rw [hx, hx, hx, hx]
    rfl
  · exact .inr h1

theorem okSlots_apply {M : Marks Ideal} {b : Fin 4} {K : ℕ → Prop} (h : MarksHold M b 16 K) (r : Fin 8) (l : Fin 128) :
    okSlots M (ix3 b r l) = bit (128 * r.val + l.val < Net.cnt K 0 2048 ∧ 128 * r.val + l.val < 1000) := by
  have hr := r.isLt; have hl := l.isLt
  show (((BitVec.setWidth 32 (BitVec.ofBool (decide
    (broadcastTo (sh3 4 8 128) (extractStridedSlice (sh3 1 8 128) ![0, 0, 0] (posF (F := Ideal)) _) _ (ix3 b r l) <
      broadcastTo (sh3 4 8 128) (minimumf (keptTotal M) (bc _ 0x447A0000#32)) _ (ix3 b r l))))).toInt : ℝ) : EReal) = _
  rw [sitofp_bit, bit_congr ofBool_iff, bit_congr decide_eq_true_iff,
    broadcastTo_apply _ _ _ (ix3 0 r l) (fun a => match a with | ⟨0, _⟩ => rfl | ⟨1, _⟩ => rfl | ⟨2, _⟩ => rfl),
    broadcastTo_apply _ _ _ (ix3 b 0 0) (fun a => match a with | ⟨0, _⟩ => rfl | ⟨1, _⟩ => rfl | ⟨2, _⟩ => rfl),
    extractStridedSlice_apply _ _ _ _ (A3 0 (128 * r.val + l.val)) (fun a => match a with
      | ⟨0, _⟩ => rfl
      | ⟨1, _⟩ => by show (128 * r.val + l.val) / 128 % 16 = 0 + r.val; omega
      | ⟨2, _⟩ => by show (128 * r.val + l.val) % 128 = 0 + l.val; omega),
    posF_apply (by omega)]
  refine bit_congr ?_
  show ((128 * r.val + l.val : ℕ) : ℝ) < min (keptTotal M (ix3 b 0 0)) (lit 0x447A0000#32) ↔ _
  rw [keptTotal_apply h, lit_slots, lt_min_iff, EReal.coe_lt_coe_iff, EReal.coe_lt_coe_iff, Nat.cast_lt]
  refine and_congr_right fun _ => ?_
  exact_mod_cast Iff.rfl

theorem slotOut_apply {M : Marks Ideal} {b : Fin 4} {K : ℕ → Prop} (h : MarksHold M b 16 K) (p : FVec Ideal (B3 4) .f32) (r : Fin 8) (l : Fin 128) :
    slotOut M p (ix4 b 0 r l) = p (A3 b (128 * r.val + l.val)) * bit (128 * r.val + l.val < Net.cnt K 0 2048 ∧ 128 * r.val + l.val < 1000) := by
  have hr := r.isLt; have hl := l.isLt
  unfold slotOut
  refine (shapeCast_apply _ _ _ (ix3 b r l) (by rw [Shape.rowMajor_val_three, Shape.rowMajor_val_four]; simp)).trans ?_
  show extractStridedSlice (sh3 4 8 128) ![0, 0, 0] p _ (ix3 b r l) * okSlots M (ix3 b r l) = _
  rw [okSlots_apply h, extractStridedSlice_apply _ _ _ _ (A3 b (128 * r.val + l.val)) (fun a => match a with
      | ⟨0, _⟩ => (Nat.zero_add _).symm
      | ⟨1, _⟩ => by show (128 * r.val + l.val) / 128 % 16 = 0 + r.val; omega
      | ⟨2, _⟩ => by show (128 * r.val + l.val) % 128 = 0 + l.val; omega)]

end Rpn

end

end
-- ==== Proof.RefModel.lean ====
/-
  What the reference computes, as ordinary functions of arrays: its decoding of the boxes, its overlaps, one trip of
  its suppression, and how it lays out the boxes it keeps. Each is the reference's own operations written once.
-/
module

public import proofs.«01_k».proof.Proof.Gen.ReferenceIdeal.Run

@[expose] public section

noncomputable section

namespace Cert.ReferenceIdeal.Model

open Idealize.ShloMosaic Idealize.ShloMosaic.TcCoe
open Cert.ReferenceIdeal.Gen

variable {F : FTy → Type} [FloatOps F]

/-- The foreground scores. -/
def fg (s : FVec F S4x20000x2 .f32) : FVec F S4x20000 .f32 :=
  shapeCast S4x20000 (extractStridedSlice S4x20000x1 ![0, 0, 1] s slices_S4x20000x2_S4x20000x1_0_0_1) shapeCasts_S4x20000x1_S4x20000

/-- The scaled deltas. -/
def scaled (d : FVec F S4x20000x4 .f32) : FVec F S4x20000x4 .f32 :=
  mulf d (broadcastInDim S4x20000x4 ![0, 1, 2] bcast_S1x1x4_S4x20000x4_0_1_2
    (shapeCast S1x1x4 (fun i => FloatOps.ofBits .f32 (lit0 (S4.rowMajor i)) : FVec F S4 .f32) shapeCasts_S4_S1x1x4))

/-- The indices of the 2000 best scores. -/
def best (s : FVec F S4x20000 .f32) : IVec S4x2000 32 :=
  (Host.topK S4x2000 1 (FloatOps.cmpfTotal .gt) s sliceFits_S4x20000_S4x2000).2

/-- The indices as the gathers read them: a negative one counts from the end of the axis, which has `n` entries. -/
def wrap (n : BitVec 32) (i : IVec S4x2000x1 32) : IVec S4x2000x1 32 :=
  select (cmpi .slt i (broadcastInDim S4x2000x1 ![] bcast_S_S4x2000x1 (constantI S_ 32 0#32)))
    (addi i (broadcastInDim S4x2000x1 ![] bcast_S_S4x2000x1 (constantI S_ 32 n))) i

/-- The rows of `x` that the indices name. -/
def rowsAt (x : FVec F S4x20000x4 .f32) (i : IVec S4x2000 32) : FVec F S4x2000x4 .f32 :=
  Host.gather gather_S4x20000x4_S4x2000x1_S4x2000x4_2_1_0_0_1_2_114 x
    (wrap 20000#32 (broadcastInDim S4x2000x1 ![0, 1] bcast_S4x2000_S4x2000x1_0_1 i))

/-- One column of the boxes. -/
def col (k : ℕ) (h : S4x2000x4.Slices ![0, 0, k] S4x2000x1) (x : FVec F S4x2000x4 .f32) : FVec F S4x2000 .f32 :=
  shapeCast S4x2000 (extractStridedSlice S4x2000x1 ![0, 0, k] x h) shapeCasts_S4x2000x1_S4x2000

def col0 (x : FVec F S4x2000x4 .f32) := col 0 slices_S4x2000x4_S4x2000x1_0_0_0 x
def col1 (x : FVec F S4x2000x4 .f32) := col 1 slices_S4x2000x4_S4x2000x1_0_0_1 x
def col2 (x : FVec F S4x2000x4 .f32) := col 2 slices_S4x2000x4_S4x2000x1_0_0_2 x
def col3 (x : FVec F S4x2000x4 .f32) := col 3 slices_S4x2000x4_S4x2000x1_0_0_3 x

/-- The array that holds one number everywhere. -/
def const (w : BitVec 32) : FVec F S4x2000 .f32 := broadcastInDim S4x2000 ![] bcast_S_S4x2000 (constant S_ .f32 w)

/-- The lower corner along one axis, from the anchor's corners `a1`, `a2` and the scaled deltas `d`, `e`. -/
def low (a1 a2 d e : FVec F S4x2000 .f32) : FVec F S4x2000 .f32 :=
  subf (addf (addf a1 (mulf (const 0x3F000000#32) (subf a2 a1))) (mulf d (subf a2 a1)))
    (mulf (const 0x3F000000#32) (mulf (subf a2 a1) (Host.exp e)))

/-- The upper corner. -/
def high (a1 a2 d e : FVec F S4x2000 .f32) : FVec F S4x2000 .f32 :=
  addf (low a1 a2 d e) (mulf (subf a2 a1) (Host.exp e))

/-- Four columns side by side. -/
def stack (x0 x1 x2 x3 : FVec F S4x2000 .f32) : FVec F S4x2000x4 .f32 :=
  concatenate S4x2000x4 2 [⟨S4x2000x1, broadcastInDim S4x2000x1 ![0, 1] bcast_S4x2000_S4x2000x1_0_1 x0⟩,
    ⟨S4x2000x1, broadcastInDim S4x2000x1 ![0, 1] bcast_S4x2000_S4x2000x1_0_1 x1⟩,
    ⟨S4x2000x1, broadcastInDim S4x2000x1 ![0, 1] bcast_S4x2000_S4x2000x1_0_1 x2⟩,
    ⟨S4x2000x1, broadcastInDim S4x2000x1 ![0, 1] bcast_S4x2000_S4x2000x1_0_1 x3⟩] concatenates_S4x2000x1_S4x2000x1_S4x2000x1_S4x2000x1_S4x2000x4_d2

/-- The boxes of anchors `a` and scaled deltas `d`. -/
def decode (a d : FVec F S4x2000x4 .f32) : FVec F S4x2000x4 .f32 :=
  stack (low (col0 a) (col2 a) (col0 d) (col2 d)) (low (col1 a) (col3 a) (col1 d) (col3 d))
    (high (col0 a) (col2 a) (col0 d) (col2 d)) (high (col1 a) (col3 a) (col1 d) (col3 d))

/-- A column limited to the unit interval. -/
def clip (x : FVec F S4x2000 .f32) : FVec F S4x2000 .f32 := minimumf (const 0x3F800000#32) (maximumf (const 0x00000000#32) x)

/-- Boxes limited to the unit square. -/
def clipped (x : FVec F S4x2000x4 .f32) : FVec F S4x2000x4 .f32 := stack (clip (col0 x)) (clip (col1 x)) (clip (col2 x)) (clip (col3 x))

/-- The 2000 boxes of each image, best first. -/
def boxes (s : FVec F S4x20000x2 .f32) (d a : FVec F S4x20000x4 .f32) : FVec F S4x2000x4 .f32 :=
  clipped (decode (rowsAt a (best (fg s))) (rowsAt (scaled d) (best (fg s))))

/-- A number per box, one box a row. -/
def down (x : FVec F S4x2000 .f32) : FVec F S4x2000x2000 .f32 :=
  broadcastInDim S4x2000x2000 ![0, 1, 2] bcast_S4x2000x1_S4x2000x2000_0_1_2 (broadcastInDim S4x2000x1 ![0, 1] bcast_S4x2000_S4x2000x1_0_1 x)

/-- A number per box, one box a column. -/
def across (x : FVec F S4x2000 .f32) : FVec F S4x2000x2000 .f32 :=
  broadcastInDim S4x2000x2000 ![0, 1, 2] bcast_S4x1x2000_S4x2000x2000_0_1_2 (broadcastInDim S4x1x2000 ![0, 2] bcast_S4x2000_S4x1x2000_0_2 x)

def const2 (w : BitVec 32) : FVec F S4x2000x2000 .f32 := broadcastInDim S4x2000x2000 ![] bcast_S_S4x2000x2000 (constant S_ .f32 w)

/-- The areas. -/
def area (b : FVec F S4x2000x4 .f32) : FVec F S4x2000 .f32 := mulf (subf (col2 b) (col0 b)) (subf (col3 b) (col1 b))

/-- The common part of two boxes. -/
def inter (b : FVec F S4x2000x4 .f32) : FVec F S4x2000x2000 .f32 :=
  mulf (maximumf (subf (minimumf (down (col2 b)) (across (col2 b))) (maximumf (down (col0 b)) (across (col0 b)))) (const2 0x00000000#32))
    (maximumf (subf (minimumf (down (col3 b)) (across (col3 b))) (maximumf (down (col1 b)) (across (col1 b)))) (const2 0x00000000#32))

/-- The overlaps of every two boxes. -/
def iou (b : FVec F S4x2000x4 .f32) : FVec F S4x2000x2000 .f32 :=
  Host.divf (inter b) (maximumf (subf (addf (down (area b)) (across (area b))) (inter b)) (const2 0x322BCC77#32))

/-- The positions. -/
def positions : IVec S1x2000 32 := broadcastInDim S1x2000 ![1] bcast_S2000_S1x2000_1 (iotaInDim S2000 32 0)

/-- All kept. -/
def allKept : IVec S4x2000 1 := broadcastInDim S4x2000 ![] bcast_S_S4x2000 (constantI S_ 1 1#1)

/-- The order that puts the kept boxes first. -/
def order (keep : IVec S4x2000 1) : IVec S4x2000 32 :=
  (Host.sort2 S4x2000 1 comparator_i32_i32_d1
    (select keep (broadcastInDim S4x2000 ![0, 1] bcast_S1x2000_S4x2000_0_1 positions)
      (broadcastInDim S4x2000 ![0, 1] bcast_S1x2000_S4x2000_0_1
        (addi (broadcastInDim S1x2000 ![] bcast_S_S1x2000 (constantI S_ 32 2000#32)) positions)))
    (iotaInDim S4x2000 32 1)).2

/-- The first 1000 of that order. -/
def firsts (keep : IVec S4x2000 1) : IVec S4x1000 32 := extractStridedSlice S4x1000 ![0, 0] (order keep) slices_S4x2000_S4x1000_0_0

def wrapOut (i : IVec S4x1000x1 32) : IVec S4x1000x1 32 :=
  select (cmpi .slt i (broadcastInDim S4x1000x1 ![] bcast_S_S4x1000x1 (constantI S_ 32 0#32)))
    (addi i (broadcastInDim S4x1000x1 ![] bcast_S_S4x1000x1 (constantI S_ 32 2000#32))) i

def wrapFlag (i : IVec S4x1000 32) : IVec S4x1000 32 :=
  select (cmpi .slt i (broadcastInDim S4x1000 ![] bcast_S_S4x1000 (constantI S_ 32 0#32)))
    (addi i (broadcastInDim S4x1000 ![] bcast_S_S4x1000 (constantI S_ 32 2000#32))) i

/-- The boxes at those positions. -/
def taken (b : FVec F S4x2000x4 .f32) (i : IVec S4x1000 32) : FVec F S4x1000x4 .f32 :=
  Host.gather gather_S4x2000x4_S4x1000x1_S4x1000x4_2_1_0_0_1_2_114 b
    (wrapOut (broadcastInDim S4x1000x1 ![0, 1] bcast_S4x1000_S4x1000x1_0_1 i))

/-- Whether the boxes at those positions are kept. -/
def flags (keep : IVec S4x2000 1) (i : IVec S4x1000 32) : IVec S4x1000 1 :=
  Host.gather gather_S4x2000_S4x1000x1_S4x1000_n_1_0_0_1_2_11 keep (shapeCast S4x1000x1 (wrapFlag i) shapeCasts_S4x1000_S4x1000x1)

/-- The boxes at the positions `i`, the ones not kept turned to zeros. -/
def laid (b : FVec F S4x2000x4 .f32) (keep : IVec S4x2000 1) (i : IVec S4x1000 32) : FVec F S4x1000x4 .f32 :=
  mulf (taken b i) (broadcastInDim S4x1000x4 ![0, 1, 2] bcast_S4x1000x1_S4x1000x4_0_1_2
    (uitofp .f32 (broadcastInDim S4x1000x1 ![0, 1] bcast_S4x1000_S4x1000x1_0_1 (flags keep i))))

/-- The proposals: the kept boxes in order, then zeros. -/
def proposals (b : FVec F S4x2000x4 .f32) (keep : IVec S4x2000 1) : FVec F S4x1000x4 .f32 := laid b keep (firsts keep)

end Cert.ReferenceIdeal.Model

end
-- ==== Proof.Rank.lean ====
module

public import Idealize.ShloMosaic.Lib.SortFacts
public import Idealize.ShloMosaic.Lib.SortPrefix
public import proofs.«01_k».proof.Proof.Net

@[expose] public section

/-! A stable sort, read by ranks: the element that ends at position `s` is the one with exactly `s` others before
it, where of two equal keys the one that stood first goes first. -/

namespace Rpn

open Idealize.ShloMosaic Finset

/-- On positions in increasing order a stable sort looks at a pair only to ask whether the later goes first. -/
theorem stableSort_of_later {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    unfold stableSort
    rw [stableSort_of_later R B h l hl.2]
    exact insertBefore_congr R B a _ fun b hb => h a b (hl.1 b ((perm_stableSort B l).mem_iff.mp hb))

variable {n : ℕ} {κ : Type} [LinearOrder κ]

/-- Smaller key first; of equal keys the earlier position. -/
def keyPos (key : Fin n → κ) (k k' : Fin n) : Bool := decide (key k < key k') || (decide (key k = key k') && decide (k < k'))

theorem keyPos_iff (key : Fin n → κ) (k k' : Fin n) : keyPos key k k' = true ↔ key k < key k' ∨ key k = key k' ∧ k < k' := by
  simp [keyPos]

theorem keyPos_irrefl (key : Fin n → κ) (k : Fin n) : keyPos key k k = false := by simp [keyPos]

theorem keyPos_trans (key : Fin n → κ) (a b c : Fin n) (h : keyPos key a b = true) (h' : keyPos key b c = true) : keyPos key a c = true := by
  rw [keyPos_iff] at *
  rcases h with h | ⟨h, h1⟩ <;> rcases h' with h' | ⟨h', h1'⟩
  · exact .inl (h.trans h')
  · exact .inl (h' ▸ h)
  · exact .inl (h ▸ h')
  · exact .inr ⟨h.trans h', h1.trans h1'⟩

theorem keyPos_total (key : Fin n → κ) (a b : Fin n) (h : a ≠ b) : keyPos key a b = true ∨ keyPos key b a = true := by
  rw [keyPos_iff, keyPos_iff]
  rcases lt_trichotomy (key a) (key b) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem keyPos_asymm (key : Fin n → κ) {a b : Fin n} (h : keyPos key a b = true) : keyPos key b a = false := by
  by_contra h'
  have := keyPos_trans key a b a h (by simpa using h')
  rw [keyPos_irrefl] at this
  exact absurd this (by decide)

open Classical in
theorem cnt_fin (P : Fin n → Prop) : Net.cnt (fun j => ∃ h : j < n, P ⟨j, h⟩) 0 n = (univ.filter P).card := by
  unfold Net.cnt
  beta_reduce
  refine (Fin.sum_univ_eq_sum_range (fun x => @ite ℕ (∃ h : 0 + x < n, P ⟨0 + x, h⟩) (propDecidable _) 1 0) n).symm.trans ?_
  rw [card_filter]
  refine sum_congr rfl fun x _ => ?_
  have : (∃ h : 0 + x.val < n, P ⟨0 + x.val, h⟩) ↔ P x := by
    simp only [Nat.zero_add]
    exact ⟨fun ⟨_, h⟩ => h, fun h => ⟨x.isLt, h⟩⟩
  simp only [this]

/-- The element of rank `s` ends at position `s`. -/
theorem sortedFrom_rank (key : Fin n → κ) (R : Fin n → Fin n → Bool) (hR : ∀ a b, R a b = decide (key a < key b))
    (i : Fin n) {s : ℕ} (hs : s < n)
    (hc : Net.cnt (fun j => ∃ h : j < n, key ⟨j, h⟩ < key i ∨ key ⟨j, h⟩ = key i ∧ (⟨j, h⟩ : Fin n) < i) 0 n = s) :
    sortedFrom R ⟨s, hs⟩ = i := by
  classical
  have hRB : sortPositions n R = sortPositions n (keyPos key) :=
    stableSort_of_later R (keyPos key) (fun a b hab => by
      rw [hR]
      simp [keyPos, not_lt_of_gt hab]) _ (List.pairwise_lt_finRange n)
  have hsf : sortedFrom R = sortedFrom (keyPos key) := by
    funext k
    unfold sortedFrom
    rw [List.get_of_eq hRB]
    rfl
  rw [hsf]
  obtain ⟨t, ht⟩ := sortedFrom_surjective (keyPos key) i
  have inv : ∀ u v, u < v → keyPos key (sortedFrom (keyPos key) u) (sortedFrom (keyPos key) v) = true := fun u v h => by
    rcases keyPos_total key _ _ (fun e => h.ne (sortedFrom_injective (keyPos key) e)) with h' | h'
    · exact h'
    · have := sortedFrom_noInversion (keyPos key) (keyPos key) (fun a b => keyPos_asymm key) (fun a b h => h)
        (fun a b c hab hbc => by
          by_contra hac
          have hac : keyPos key a c = true := by simpa using hac
          by_cases hb : a = b
          · subst hb; rw [hbc] at hac; exact absurd hac (by decide)
          · rcases keyPos_total key a b hb with h1 | h1
            · rw [hab] at h1; exact absurd h1 (by decide)
            · have := keyPos_trans key b a c h1 hac
              rw [hbc] at this; exact absurd this (by decide)) u v h
      rw [this] at h'; exact absurd h' (by decide)
  have hcard : (univ.filter fun j => key j < key i ∨ key j = key i ∧ j < i).card = t.val := by
    have : (univ.filter fun j => key j < key i ∨ key j = key i ∧ j < i) = (Iio t).image (sortedFrom (keyPos key)) := by
      ext j
      rw [mem_filter, mem_image]
      constructor
      · rintro ⟨_, h⟩
        obtain ⟨u, rfl⟩ := sortedFrom_surjective (keyPos key) j
        refine ⟨u, mem_Iio.mpr ?_, rfl⟩
        have h := (keyPos_iff key _ _).mpr h
        rw [← ht] at h
        by_contra hu
        rcases (not_lt.mp hu).eq_or_lt with e | e
        · rw [e, keyPos_irrefl] at h; exact absurd h (by decide)
        · rw [keyPos_asymm key (inv _ _ e)] at h; exact absurd h (by decide)
      · rintro ⟨u, hu, rfl⟩
        refine ⟨mem_univ _, (keyPos_iff key _ _).mp ?_⟩
        rw [← ht]
        exact inv _ _ (mem_Iio.mp hu)
    rw [this, card_image_of_injective _ (sortedFrom_injective (keyPos key)), Fin.card_Iio]
  rw [cnt_fin fun j => key j < key i ∨ key j = key i ∧ j < i] at hc
  have hc : t.val = s := by rw [← hcard, ← hc]; congr
  have : (⟨s, hs⟩ : Fin n) = t := Fin.ext hc.symm
  rw [this, ht]

/-- Where no two keys are equal, the element at position `s` has `s` others before it. -/
theorem rank_sortedFrom (key : Fin n → κ) (hinj : Function.Injective key) (R : Fin n → Fin n → Bool)
    (hR : ∀ a b, R a b = decide (key a < key b)) (s : Fin n) :
    Net.cnt (fun j => ∃ h : j < n, key ⟨j, h⟩ < key (sortedFrom R s)) 0 n = s.val := by
  classical
  set i := sortedFrom R s with hi
  have e : Net.cnt (fun j => ∃ h : j < n, key ⟨j, h⟩ < key i ∨ key ⟨j, h⟩ = key i ∧ (⟨j, h⟩ : Fin n) < i) 0 n =
      Net.cnt (fun j => ∃ h : j < n, key ⟨j, h⟩ < key i) 0 n :=
    Net.cnt_congr fun x _ => ⟨fun ⟨h, h'⟩ => ⟨h, h'.resolve_right fun h2 => by
      have := hinj h2.1
      rw [this] at h2
      exact lt_irrefl _ h2.2⟩, fun ⟨h, h'⟩ => ⟨h, .inl h'⟩⟩
  have hlt : Net.cnt (fun j => ∃ h : j < n, key ⟨j, h⟩ < key i) 0 n < n := by
    rw [cnt_fin fun j => key j < key i]
    have hs := card_lt_card (filter_ssubset (s := univ) (p := fun j => key j < key i).mpr ⟨i, mem_univ _, lt_irrefl _⟩)
    rw [card_univ, Fintype.card_fin] at hs
    convert hs
  have h := sortedFrom_rank key R hR i hlt e
  exact congrArg Fin.val (sortedFrom_injective R (h.trans hi))

end Rpn

end
-- ==== Proof.RefPoint.lean ====
module

public import Idealize.ShloMosaic.Lib.Pipeline.Value
public import Idealize.ShloMosaic.Lib.ValueIdx
public import Idealize.ShloMosaic.Lib.ValueIdxCoords
public import proofs.«01_k».proof.Proof.RefModel
public import proofs.«01_k».proof.Proof.Rank
public import proofs.«01_k».proof.Proof.Spec

@[expose] public section

/-! The reference's boxes and overlaps, read at one box or two. -/

noncomputable section

namespace Cert.ReferenceIdeal.Model

open Idealize.ShloMosaic Idealize.ShloMosaic.TcCoe
open Idealize.ShloMosaic.ValueIdx
open Cert.ReferenceIdeal.Gen
open Rpn Rpn.Spec

/-- A gather of rows, image by image: the row the index names. -/
theorem gather_rows_apply {α : Type} {B N M C w : ℕ} (hN : 0 < N)
    (d : GatherDims ⟨3, ![B, N, C]⟩ ⟨3, ![B, M, 1]⟩ ⟨3, ![B, M, C]⟩)
    (h1 : d.offsetDims = [2]) (h2 : d.collapsedSliceDims = [1]) (h3 : d.operandBatchingDims = [0]) (h4 : d.startIndicesBatchingDims = [0])
    (h5 : d.startIndexMap = [1]) (h6 : d.indexVectorDim = 2) (h7 : d.sliceSizes = ![1, 1, C])
    (x : (⟨3, ![B, N, C]⟩ : Shape).Idx → α) (i : IVec ⟨3, ![B, M, 1]⟩ w) (b : Fin B) (m : Fin M) (k : Fin C) :
    Host.gather d x i (ix3 b m k) = x (ix3 b ⟨min (i (ix3 b m 0)).toInt.toNat (N - 1), by omega⟩ k) := by
  obtain ⟨od, cd, ob, sb, sm, iv, ss, wf⟩ := d
  subst h1 h2 h3 h4 h5 h6 h7
  unfold Host.gather
  congr 1
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (i z).toInt.toNat (N - 1)) ?_
    funext c
    refine Fin.ext ?_
    match c with
    | ⟨0, _⟩ => rfl
    | ⟨1, _⟩ => rfl
    | ⟨2, _⟩ => rfl
  | ⟨2, _⟩ =>
    rw [GatherDims.batchCoord_eq_zero _ _ _ (fun h => by simp at h)]
    unfold GatherDims.start
    rw [dif_neg (fun h => by simp at h)]
    simp only [Nat.add_zero, Nat.zero_add]
    unfold GatherDims.offCoord
    rw [dif_pos ((GatherDims.mem_sKept _ _).mpr ⟨fun h => by simp at h, fun h => by simp at h⟩)]
    rfl

theorem wrap_small {n v : ℕ} (hv : v < 2 ^ 31) (i : BitVec 32) (h : i = BitVec.ofNat 32 v) (m : BitVec 32) :
    Scalar.select (IntOp.cmpi .slt i 0#32) (IntOp.addi i m) i = BitVec.ofNat 32 v ∧ (BitVec.ofNat 32 v).toInt.toNat = v := by
  subst h
  have e : (BitVec.ofNat 32 v).toInt = v := by
    rw [BitVec.toInt_eq_toNat_of_lt (by rw [BitVec.toNat_ofNat]; omega), BitVec.toNat_ofNat]
    omega
  refine ⟨?_, by rw [e]; rfl⟩
  have : IntOp.cmpi .slt (BitVec.ofNat 32 v) 0#32 = 0#1 := by
    show BitVec.ofBool (decide ((BitVec.ofNat 32 v).toInt < (0#32 : BitVec 32).toInt)) = _
    rw [e]
    have : ¬ ((v : ℤ) < (0#32 : BitVec 32).toInt) := by simp
    rw [decide_eq_false this]
    rfl
  rw [this]
  rfl

theorem rowsAt_apply (x : FVec Ideal S4x20000x4 .f32) (i : IVec S4x2000 32) (b : Fin 4) (s : Fin 2000) (k : Fin 4) (v : Fin 20000)
    (h : i (ix2 b s) = BitVec.ofNat 32 v.val) : rowsAt x i (ix3 b s k) = x (ix3 b v k) := by
  unfold rowsAt
  rw [gather_rows_apply (by decide) _ rfl rfl rfl rfl rfl rfl rfl]
  have hb : broadcastInDim S4x2000x1 ![0, 1] bcast_S4x2000_S4x2000x1_0_1 i (ix3 b s 0) = BitVec.ofNat 32 v.val :=
    (broadcastInDim_apply _ _ i _ (ix2 b s) fun a => match a with | ⟨0, _⟩ => rfl | ⟨1, _⟩ => rfl).trans h
  have hw := wrap_small (n := 0) (v := v.val) (by have := v.isLt; omega) _ hb 20000#32
  congr 1
  have : wrap 20000#32 (broadcastInDim S4x2000x1 ![0, 1] bcast_S4x2000_S4x2000x1_0_1 i) (ix3 b s 0) = BitVec.ofNat 32 v.val := hw.1
  have hm : min (wrap 20000#32 (broadcastInDim S4x2000x1 ![0, 1] bcast_S4x2000_S4x2000x1_0_1 i) (ix3 b s 0)).toInt.toNat (20000 - 1) = v.val := by
    rw [this, hw.2]
    have := v.isLt
    omega
  funext a
  match a with
  | ⟨0, _⟩ => rfl
  | ⟨1, _⟩ => exact Fin.ext hm
  | ⟨2, _⟩ => rfl

/-- A sort along the second of two axes, read at an index. -/
theorem sort2_snd_apply {α β : Type} {B n : ℕ} (cmp : α × β → α × β → BitVec 1) (x : (⟨2, ![B, n]⟩ : Shape).Idx → α)
    (y : (⟨2, ![B, n]⟩ : Shape).Idx → β) (b : Fin B) (s : Fin n) :
    (Host.sort2 ⟨2, ![B, n]⟩ 1 cmp x y).2 (ix2 b s) =
      y (ix2 b (sortedFrom (fun k k' : Fin n => cmp (x (ix2 b k), y (ix2 b k)) (x (ix2 b k'), y (ix2 b k')) == 1#1) s)) := by
  have e : ∀ k : Fin n, Shape.Idx.along (s := ⟨2, ![B, n]⟩) (ix2 b s) 1 k = ix2 b k := fun k => by
    funext a
    match a with
    | ⟨0, _⟩ => rfl
    | ⟨1, _⟩ => rfl
  unfold Host.sort2
  show y (Shape.Idx.along (s := ⟨2, ![B, n]⟩) (ix2 b s) 1 (sortedFrom (fun k k' : Fin n =>
    cmp (x (Shape.Idx.along (s := ⟨2, ![B, n]⟩) (ix2 b s) 1 k), y (Shape.Idx.along (s := ⟨2, ![B, n]⟩) (ix2 b s) 1 k))
      (x (Shape.Idx.along (s := ⟨2, ![B, n]⟩) (ix2 b s) 1 k'), y (Shape.Idx.along (s := ⟨2, ![B, n]⟩) (ix2 b s) 1 k')) == 1#1) s)) = _
  simp only [e]
  exact congrArg y (e _)

theorem fg_apply (s : FVec Ideal S4x20000x2 .f32) (b : Fin 4) (x : Fin 20000) : fg s (ix2 b x) = s (ix3 b x 1) := by
  unfold fg
  refine (shapeCast_apply _ _ _ (ix3 b x 0) ?_).trans (extractStridedSlice_apply _ _ _ _ (ix3 b x 1) fun a => match a with
    | ⟨0, _⟩ => by simp | ⟨1, _⟩ => by simp | ⟨2, _⟩ => rfl)
  rw [Shape.rowMajor_val_three, Shape.rowMajor_val_two]
  simp

theorem scaled_apply (d : FVec Ideal S4x20000x4 .f32) (b : Fin 4) (x : Fin 20000) (k : Fin 4) :
    scaled d (ix3 b x k) = d (ix3 b x k) * lit (lit0 k) := by
  unfold scaled
  show _ * _ = _
  congr 1
  refine (broadcastInDim_apply _ _ _ _ (ix3 0 0 k) fun a => match a with | ⟨0, _⟩ => rfl | ⟨1, _⟩ => rfl | ⟨2, _⟩ => rfl).trans ?_
  refine (shapeCast_apply _ _ _ (ix1 k) ?_).trans ?_
  · rw [Shape.rowMajor_val_three, Shape.rowMajor_val_one]; simp
  · show lit (lit0 _) = _
    congr 2
    exact Fin.ext (by rw [Shape.rowMajor_val_one])

/-- The index of rank `s` among the scores is the one the top-k lists at `s`. -/
theorem best_apply (x : FVec Ideal S4x20000 .f32) (b : Fin 4) (s : Fin 2000) (v : Fin 20000)
    (h : Net.cnt (fun j => ∃ hj : j < 20000, x (ix2 b v) < x (ix2 b ⟨j, hj⟩) ∨ x (ix2 b ⟨j, hj⟩) = x (ix2 b v) ∧ j < v.val) 0 20000 = s.val) :
    best x (ix2 b s) = BitVec.ofNat 32 v.val := by
  have hr := sortedFrom_rank (κ := ERealᵒᵈ) (fun k : Fin 20000 => OrderDual.toDual (x (ix2 b k)))
    (fun k k' => FloatOps.cmpfTotal (F := Ideal) .gt (x (ix2 b k)) (x (ix2 b k')) == 1#1)
    (fun a c => by
      show (BitVec.ofBool (decide (x (ix2 b c) < x (ix2 b a))) == 1#1) = decide (x (ix2 b c) < x (ix2 b a))
      cases decide (x (ix2 b c) < x (ix2 b a)) <;> rfl) v (s := s.val) (by have := s.isLt; omega) h
  unfold best
  show extractStridedSlice S4x2000 (fun _ => 0) (Host.sort2 S4x20000 1 (fun l r => FloatOps.cmpfTotal (F := Ideal) .gt l.1 r.1) x
    (fun i => if hd : 1 < S4x20000.rank then iotaInDim S4x20000 32 ⟨1, hd⟩ i else 0#32)).2 sliceFits_S4x20000_S4x2000 (ix2 b s) = _
  refine (extractStridedSlice_apply _ _ _ _ (ix2 b (⟨s.val, by have := s.isLt; omega⟩ : Fin 20000)) fun a => match a with
    | ⟨0, _⟩ => (Nat.zero_add _).symm | ⟨1, _⟩ => (Nat.zero_add _).symm).trans ?_
  refine (sort2_snd_apply _ x _ b _).trans ?_
  show BitVec.ofNat 32 (sortedFrom (fun k k' : Fin 20000 => FloatOps.cmpfTotal (F := Ideal) .gt (x (ix2 b k)) (x (ix2 b k')) == 1#1) _).val = _
  rw [hr]

theorem col_apply (k : ℕ) (hk : k < 4) (h) (x : FVec Ideal S4x2000x4 .f32) (b : Fin 4) (s : Fin 2000) : col k h x (ix2 b s) = x (ix3 b s ⟨k, hk⟩) := by
  unfold col
  refine (shapeCast_apply _ _ _ (ix3 b s 0) ?_).trans (extractStridedSlice_apply _ _ _ _ (ix3 b s ⟨k, hk⟩) fun a => match a with
    | ⟨0, _⟩ => by simp | ⟨1, _⟩ => by simp | ⟨2, _⟩ => rfl)
  rw [Shape.rowMajor_val_three, Shape.rowMajor_val_two]
  simp

theorem stack_apply (x : Fin 4 → FVec Ideal S4x2000 .f32) (b : Fin 4) (s : Fin 2000) (k : Fin 4) :
    stack (x 0) (x 1) (x 2) (x 3) (ix3 b s k) = x k (ix2 b s) := by
  have hb : ∀ y : FVec Ideal S4x2000 .f32, broadcastInDim S4x2000x1 ![0, 1] bcast_S4x2000_S4x2000x1_0_1 y (ix3 b s 0) = y (ix2 b s) := fun y =>
    broadcastInDim_apply _ _ y _ (ix2 b s) fun a => match a with | ⟨0, _⟩ => rfl | ⟨1, _⟩ => rfl
  refine (concatenate_ofFn_apply (t := S4x2000x4) (s₁ := S4x2000x1) 2 (N := 4)
    (fun n => broadcastInDim S4x2000x1 ![0, 1] bcast_S4x2000_S4x2000x1_0_1 (x n)) _ rfl 1 rfl (ix3 b s k) k (Nat.div_one _) (ix3 b s 0)
    (Nat.mod_one _).symm fun a => match a with | ⟨0, _⟩ => fun _ => rfl | ⟨1, _⟩ => fun _ => rfl | ⟨2, _⟩ => fun h => absurd rfl h).trans (hb _)

/-- The box at place `s` of image `b`. -/
def boxAt (x : FVec Ideal S4x2000x4 .f32) (b : Fin 4) (s : Fin 2000) : Box where
  y1 := x (ix3 b s 0)
  x1 := x (ix3 b s 1)
  y2 := x (ix3 b s 2)
  x2 := x (ix3 b s 3)

theorem slices_col (k : Fin 4) : S4x2000x4.Slices ![0, 0, k.val] S4x2000x1 := by
  revert k; decide

theorem clipped_apply (x : FVec Ideal S4x2000x4 .f32) (b : Fin 4) (s : Fin 2000) (k : Fin 4) :
    clipped x (ix3 b s k) = Spec.clip (x (ix3 b s k)) := by
  refine (stack_apply (fun k => Model.clip (col k.val (slices_col k) x)) b s k).trans ?_
  exact congrArg Spec.clip (col_apply k.val k.isLt (slices_col k) x b s)

/-- The box at a place is decoded from the anchor and the deltas of the index listed there. -/
theorem boxes_apply (s : FVec Ideal S4x20000x2 .f32) (d a : FVec Ideal S4x20000x4 .f32) (b : Fin 4) (p : Fin 2000) (v : Fin 20000)
    (h : best (fg s) (ix2 b p) = BitVec.ofNat 32 v.val) :
    boxAt (boxes s d a) b p = Spec.decode (fun k => a (ix3 b v k)) (fun k => d (ix3 b v k)) := by
  have ha : ∀ k : Fin 4, rowsAt a (best (fg s)) (ix3 b p k) = a (ix3 b v k) := fun k => rowsAt_apply a _ b p k v h
  have hd : ∀ k : Fin 4, rowsAt (scaled d) (best (fg s)) (ix3 b p k) = d (ix3 b v k) * lit (lit0 k) := fun k =>
    (rowsAt_apply (scaled d) _ b p k v h).trans (scaled_apply d b v k)
  have e : ∀ k : Fin 4, boxes s d a (ix3 b p k) = Spec.clip (decode (rowsAt a (best (fg s))) (rowsAt (scaled d) (best (fg s))) (ix3 b p k)) := fun k =>
    clipped_apply _ b p k
  have e' : boxAt (boxes s d a) b p = ⟨boxes s d a (ix3 b p 0), boxes s d a (ix3 b p 1), boxes s d a (ix3 b p 2), boxes s d a (ix3 b p 3)⟩ := rfl
  rw [e', e, e, e, e]
  generalize rowsAt a (best (fg s)) = A at ha
  generalize rowsAt (scaled d) (best (fg s)) = D at hd
  have hA : ∀ (k : ℕ) (hk : k < 4) (hs), col k hs A (ix2 b p) = a (ix3 b v ⟨k, hk⟩) := fun k hk hs => (col_apply k hk hs A b p).trans (ha _)
  have hD' : ∀ (k : ℕ) (hk : k < 4) (hs), col k hs D (ix2 b p) = d (ix3 b v ⟨k, hk⟩) * lit (lit0 ⟨k, hk⟩) := fun k hk hs =>
    (col_apply k hk hs D b p).trans (hd _)
  have hl : ∀ i j : ℕ, ∀ (hi : i < 4) (hj : j < 4) (h1) (h2) (h3) (h4),
      Model.low (col i h1 A) (col j h2 A) (col i h3 D) (col j h4 D) (ix2 b p) =
        Spec.low (a (ix3 b v ⟨i, hi⟩)) (a (ix3 b v ⟨j, hj⟩)) (d (ix3 b v ⟨i, hi⟩) * lit (lit0 ⟨i, hi⟩)) (d (ix3 b v ⟨j, hj⟩) * lit (lit0 ⟨j, hj⟩)) := by
    intro i j hi hj h1 h2 h3 h4
    show Spec.low (col i h1 A (ix2 b p)) (col j h2 A (ix2 b p)) (col i h3 D (ix2 b p)) (col j h4 D (ix2 b p)) = _
    rw [hA i hi, hA j hj, hD' i hi, hD' j hj]
  have hh : ∀ i j : ℕ, ∀ (hi : i < 4) (hj : j < 4) (h1) (h2) (h3) (h4),
      Model.high (col i h1 A) (col j h2 A) (col i h3 D) (col j h4 D) (ix2 b p) =
        Spec.high (a (ix3 b v ⟨i, hi⟩)) (a (ix3 b v ⟨j, hj⟩)) (d (ix3 b v ⟨i, hi⟩) * lit (lit0 ⟨i, hi⟩)) (d (ix3 b v ⟨j, hj⟩) * lit (lit0 ⟨j, hj⟩)) := by
    intro i j hi hj h1 h2 h3 h4
    show Spec.high (col i h1 A (ix2 b p)) (col j h2 A (ix2 b p)) (col i h3 D (ix2 b p)) (col j h4 D (ix2 b p)) = _
    rw [hA i hi, hA j hj, hD' i hi, hD' j hj]
  have hs : ∀ (x0 x1 x2 x3 : FVec Ideal S4x2000 .f32) (k : Fin 4), stack x0 x1 x2 x3 (ix3 b p k) = (![x0, x1, x2, x3] k) (ix2 b p) := fun x0 x1 x2 x3 k =>
    stack_apply ![x0, x1, x2, x3] b p k
  unfold decode
  rw [hs, hs, hs, hs]
  unfold Spec.decode col0 col1 col2 col3
  show Box.mk (Spec.clip (Model.low (col 0 _ A) (col 2 _ A) (col 0 _ D) (col 2 _ D) (ix2 b p))) (Spec.clip (Model.low (col 1 _ A) (col 3 _ A) (col 1 _ D) (col 3 _ D) (ix2 b p)))
    (Spec.clip (Model.high (col 0 _ A) (col 2 _ A) (col 0 _ D) (col 2 _ D) (ix2 b p))) (Spec.clip (Model.high (col 1 _ A) (col 3 _ A) (col 1 _ D) (col 3 _ D) (ix2 b p))) = _
  rw [hl 0 2 (by decide) (by decide), hl 1 3 (by decide) (by decide), hh 0 2 (by decide) (by decide), hh 1 3 (by decide) (by decide)]
  rfl

/-- One number per box, down and across. -/
theorem down_apply (x : FVec Ideal S4x2000 .f32) (b : Fin 4) (i j : Fin 2000) : down x (ix3 b i j) = x (ix2 b i) := by
  unfold down
  refine (broadcastInDim_apply _ _ _ _ (ix3 b i 0) fun a => match a with | ⟨0, _⟩ => rfl | ⟨1, _⟩ => rfl | ⟨2, _⟩ => rfl).trans ?_
  exact broadcastInDim_apply _ _ _ _ (ix2 b i) fun a => match a with | ⟨0, _⟩ => rfl | ⟨1, _⟩ => rfl

theorem across_apply (x : FVec Ideal S4x2000 .f32) (b : Fin 4) (i j : Fin 2000) : across x (ix3 b i j) = x (ix2 b j) := by
  unfold across
  refine (broadcastInDim_apply _ _ _ _ (ix3 b 0 j) fun a => match a with | ⟨0, _⟩ => rfl | ⟨1, _⟩ => rfl | ⟨2, _⟩ => rfl).trans ?_
  exact broadcastInDim_apply _ _ _ _ (ix2 b j) fun a => match a with | ⟨0, _⟩ => rfl | ⟨1, _⟩ => rfl

theorem area_apply (x : FVec Ideal S4x2000x4 .f32) (b : Fin 4) (i : Fin 2000) : area x (ix2 b i) = (boxAt x b i).area := by
  show (col 2 _ x (ix2 b i) - col 0 _ x (ix2 b i)) * (col 3 _ x (ix2 b i) - col 1 _ x (ix2 b i)) = _
  rw [col_apply 2 (by decide), col_apply 0 (by decide), col_apply 3 (by decide), col_apply 1 (by decide)]
  rfl

theorem inter_apply (x : FVec Ideal S4x2000x4 .f32) (b : Fin 4) (i j : Fin 2000) :
    Model.inter x (ix3 b i j) = Spec.inter (boxAt x b i) (boxAt x b j) := by
  show max (min (down (col 2 _ x) (ix3 b i j)) (across (col 2 _ x) (ix3 b i j)) - max (down (col 0 _ x) (ix3 b i j)) (across (col 0 _ x) (ix3 b i j))) (lit 0x00000000#32)
    * max (min (down (col 3 _ x) (ix3 b i j)) (across (col 3 _ x) (ix3 b i j)) - max (down (col 1 _ x) (ix3 b i j)) (across (col 1 _ x) (ix3 b i j))) (lit 0x00000000#32) = _
  simp only [down_apply, across_apply]
  rw [col_apply 2 (by decide), col_apply 0 (by decide), col_apply 3 (by decide), col_apply 1 (by decide),
    col_apply 2 (by decide), col_apply 0 (by decide), col_apply 3 (by decide), col_apply 1 (by decide)]
  rfl

/-- Two boxes overlap above the threshold. -/
theorem iou_apply (x : FVec Ideal S4x2000x4 .f32) (b : Fin 4) (i j : Fin 2000) :
    lit 0x3F333333#32 < iou x (ix3 b i j) ↔ Spec.over (boxAt x b i) (boxAt x b j) := by
  show lit 0x3F333333#32 < Ideal.div (Model.inter x (ix3 b i j))
    (max (down (area x) (ix3 b i j) + across (area x) (ix3 b i j) - Model.inter x (ix3 b i j)) (lit 0x322BCC77#32)) ↔ _
  rw [down_apply, across_apply, area_apply, area_apply, inter_apply]
  rfl

end Cert.ReferenceIdeal.Model

end

end
-- ==== Proof.RefOut.lean ====
module

public import proofs.«01_k».proof.Proof.RefPoint

@[expose] public section

/-! The reference's last lines, read at one entry: the kept boxes in order, then zeros. -/

noncomputable section

namespace Cert.ReferenceIdeal.Model

open Idealize.ShloMosaic Idealize.ShloMosaic.TcCoe
open Idealize.ShloMosaic.ValueIdx
open Cert.ReferenceIdeal.Gen
open Rpn Rpn.Spec

/-- A gather of single entries, image by image. -/
theorem gather_entries_apply {α : Type} {B N M w : ℕ} (hN : 0 < N)
    (d : GatherDims ⟨2, ![B, N]⟩ ⟨3, ![B, M, 1]⟩ ⟨2, ![B, M]⟩)
    (h1 : d.offsetDims = []) (h2 : d.collapsedSliceDims = [1]) (h3 : d.operandBatchingDims = [0]) (h4 : d.startIndicesBatchingDims = [0])
    (h5 : d.startIndexMap = [1]) (h6 : d.indexVectorDim = 2) (h7 : d.sliceSizes = ![1, 1])
    (x : (⟨2, ![B, N]⟩ : Shape).Idx → α) (i : IVec ⟨3, ![B, M, 1]⟩ w) (b : Fin B) (m : Fin M) :
    Host.gather d x i (ix2 b m) = x (ix2 b ⟨min (i (ix3 b m 0)).toInt.toNat (N - 1), by omega⟩) := by
  obtain ⟨od, cd, ob, sb, sm, iv, ss, wf⟩ := d
  subst h1 h2 h3 h4 h5 h6 h7
  unfold Host.gather
  congr 1
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (i z).toInt.toNat (N - 1)) ?_
    funext c
    refine Fin.ext ?_
    match c with
    | ⟨0, _⟩ => rfl
    | ⟨1, _⟩ => rfl
    | ⟨2, _⟩ => rfl

theorem gather_min {v N : ℕ} (hv : v < N) (hN : N < 2 ^ 31) : min (BitVec.ofNat 32 v).toInt.toNat (N - 1) = v := by
  rw [(wrap_small (n := 0) (v := v) (by omega) _ rfl 0#32).2]
  omega

theorem taken_apply (x : FVec Ideal S4x2000x4 .f32) (i : IVec S4x1000 32) (b : Fin 4) (p : Fin 1000) (k : Fin 4) (v : Fin 2000)
    (h : i (ix2 b p) = BitVec.ofNat 32 v.val) : taken x i (ix3 b p k) = x (ix3 b v k) := by
  unfold taken
  rw [gather_rows_apply (by decide) _ rfl rfl rfl rfl rfl rfl rfl]
  have hb : broadcastInDim S4x1000x1 ![0, 1] bcast_S4x1000_S4x1000x1_0_1 i (ix3 b p 0) = BitVec.ofNat 32 v.val :=
    (broadcastInDim_apply _ _ i _ (ix2 b p) fun a => match a with | ⟨0, _⟩ => rfl | ⟨1, _⟩ => rfl).trans h
  have hw : wrapOut (broadcastInDim S4x1000x1 ![0, 1] bcast_S4x1000_S4x1000x1_0_1 i) (ix3 b p 0) = BitVec.ofNat 32 v.val :=
    (wrap_small (n := 0) (v := v.val) (by have := v.isLt; omega) _ hb 2000#32).1
  congr 1
  funext a
  match a with
  | ⟨0, _⟩ => rfl
  | ⟨1, _⟩ => exact Fin.ext (by
      show min (wrapOut _ (ix3 b p 0)).toInt.toNat (2000 - 1) = v.val
      rw [hw]; exact gather_min v.isLt (by decide))
  | ⟨2, _⟩ => rfl

theorem flags_apply (keep : IVec S4x2000 1) (i : IVec S4x1000 32) (b : Fin 4) (p : Fin 1000) (v : Fin 2000)
    (h : i (ix2 b p) = BitVec.ofNat 32 v.val) : flags keep i (ix2 b p) = keep (ix2 b v) := by
  unfold flags
  rw [gather_entries_apply (by decide) _ rfl rfl rfl rfl rfl rfl rfl]
  have hw : wrapFlag i (ix2 b p) = BitVec.ofNat 32 v.val :=
    (wrap_small (n := 0) (v := v.val) (by have := v.isLt; omega) _ h 2000#32).1
  have hc : shapeCast S4x1000x1 (wrapFlag i) shapeCasts_S4x1000_S4x1000x1 (ix3 b p 0) = BitVec.ofNat 32 v.val :=
    (shapeCast_apply _ _ _ (ix2 b p) (by rw [Shape.rowMajor_val_three, Shape.rowMajor_val_two]; simp)).trans hw
  congr 1
  funext a
  match a with
  | ⟨0, _⟩ => rfl
  | ⟨1, _⟩ => exact Fin.ext (by
      show min (shapeCast S4x1000x1 (wrapFlag i) shapeCasts_S4x1000_S4x1000x1 (ix3 b p 0)).toInt.toNat (2000 - 1) = v.val
      rw [hc]; exact gather_min v.isLt (by decide))

theorem slt_small {j t : ℕ} (hj : j < 4000) (ht : t < 4000) : IntOp.cmpi .slt (BitVec.ofNat 32 j) (BitVec.ofNat 32 t) = BitVec.ofBool (decide (j < t)) := by
  show BitVec.ofBool (decide ((BitVec.ofNat 32 j).toInt < (BitVec.ofNat 32 t).toInt)) = _
  rw [BitVec.toInt_eq_toNat_of_lt (by rw [BitVec.toNat_ofNat]; omega), BitVec.toNat_ofNat,
    BitVec.toInt_eq_toNat_of_lt (by rw [BitVec.toNat_ofNat]; omega), BitVec.toNat_ofNat, Nat.mod_eq_of_lt (by omega), Nat.mod_eq_of_lt (by omega)]
  congr 1
  simp

/-- The boxes an array of flags keeps in one image. -/
def keptIn (keep : IVec S4x2000 1) (b : Fin 4) (j : ℕ) : Prop := ∃ h : j < 2000, keep (ix2 b ⟨j, h⟩) = 1#1

/-- The key of the reference's last sort. -/
def orderKey (keep : IVec S4x2000 1) : IVec S4x2000 32 :=
  select keep (broadcastInDim S4x2000 ![0, 1] bcast_S1x2000_S4x2000_0_1 positions)
    (broadcastInDim S4x2000 ![0, 1] bcast_S1x2000_S4x2000_0_1 (addi (broadcastInDim S1x2000 ![] bcast_S_S1x2000 (constantI S_ 32 2000#32)) positions))

theorem orderKey_apply (keep : IVec S4x2000 1) (b : Fin 4) (j : Fin 2000) :
    orderKey keep (ix2 b j) = BitVec.ofNat 32 (place 2000 (keptIn keep b) j.val) := by
  have hp : positions (ix2 0 j) = BitVec.ofNat 32 j.val := by
    unfold positions
    exact broadcastInDim_apply _ _ _ _ (ix1 j) fun a => match a with | ⟨0, _⟩ => rfl
  have hb : ∀ y : IVec S1x2000 32, broadcastInDim S4x2000 ![0, 1] bcast_S1x2000_S4x2000_0_1 y (ix2 b j) = y (ix2 0 j) := fun y =>
    broadcastInDim_apply _ _ y (ix2 b j) (ix2 0 j) fun a => match a with | ⟨0, _⟩ => rfl | ⟨1, _⟩ => rfl
  show Scalar.select (keep (ix2 b j)) (broadcastInDim S4x2000 ![0, 1] bcast_S1x2000_S4x2000_0_1 positions (ix2 b j))
    (broadcastInDim S4x2000 ![0, 1] bcast_S1x2000_S4x2000_0_1 (addi (broadcastInDim S1x2000 ![] bcast_S_S1x2000 (constantI S_ 32 2000#32)) positions) (ix2 b j)) = _
  rw [hb, hb]
  have h2 : addi (broadcastInDim S1x2000 ![] bcast_S_S1x2000 (constantI S_ 32 2000#32)) positions (ix2 0 j) = BitVec.ofNat 32 (j.val + 2000) := by
    show (2000#32 : BitVec 32) + positions (ix2 0 j) = _
    rw [hp, ← BitVec.ofNat_add, Nat.add_comm]
  rw [h2, hp]
  unfold place
  by_cases h : keep (ix2 b j) = 1#1
  · rw [h, select_one, if_pos ⟨j.isLt, h⟩]
  · rw [eq_zero_of_ne_one h, select_zero, if_neg (fun ⟨_, h'⟩ => h h')]

theorem place_lt (K : ℕ → Prop) {j : ℕ} (hj : j < 2000) : place 2000 K j < 4000 := by
  unfold place; split <;> omega

/-- The order lists at `s` the box with `s` others placed before it. -/
theorem order_apply (keep : IVec S4x2000 1) (b : Fin 4) (s : Fin 2000) : ∃ v : Fin 2000, order keep (ix2 b s) = BitVec.ofNat 32 v.val ∧
    Net.cnt (fun j => place 2000 (keptIn keep b) j < place 2000 (keptIn keep b) v.val) 0 2000 = s.val := by
  set R : Fin 2000 → Fin 2000 → Bool := fun k k' => comparator_i32_i32_d1 (orderKey keep (ix2 b k), iotaInDim S4x2000 32 1 (ix2 b k))
    (orderKey keep (ix2 b k'), iotaInDim S4x2000 32 1 (ix2 b k')) == 1#1 with hRdef
  have hR : ∀ k k', R k k' = decide (place 2000 (keptIn keep b) k.val < place 2000 (keptIn keep b) k'.val) := fun k k' => by
    show (IntOp.cmpi .slt (orderKey keep (ix2 b k)) (orderKey keep (ix2 b k')) == 1#1) = _
    rw [orderKey_apply, orderKey_apply, slt_small (place_lt _ k.isLt) (place_lt _ k'.isLt)]
    cases decide (place 2000 (keptIn keep b) k.val < place 2000 (keptIn keep b) k'.val) <;> rfl
  have hr := rank_sortedFrom (fun k : Fin 2000 => place 2000 (keptIn keep b) k.val)
    (fun i j h => Fin.ext (place_inj le_rfl _ i.isLt j.isLt h)) R hR s
  refine ⟨sortedFrom R s, ?_, ?_⟩
  · unfold order
    exact (sort2_snd_apply _ _ _ b s).trans rfl
  · rw [← hr]
    exact Net.cnt_congr fun x hx => ⟨fun h => ⟨by omega, h⟩, fun ⟨_, h⟩ => h⟩

/-- An entry of the proposals: of the kept box of that number, or zero. -/
theorem proposals_apply (x : FVec Ideal S4x2000x4 .f32) (keep : IVec S4x2000 1) (b : Fin 4) (p : Fin 1000) (k : Fin 4) :
    (∃ i : Fin 2000, keptIn keep b i.val ∧ Net.cnt (keptIn keep b) 0 i.val = p.val ∧ p.val < Net.cnt (keptIn keep b) 0 2000 ∧
        proposals x keep (ix3 b p k) = x (ix3 b i k)) ∨
      (Net.cnt (keptIn keep b) 0 2000 ≤ p.val ∧ proposals x keep (ix3 b p k) = 0) := by
  obtain ⟨v, hv, hc⟩ := order_apply keep b ⟨p.val, by have := p.isLt; omega⟩
  have hf : firsts keep (ix2 b p) = BitVec.ofNat 32 v.val := by
    unfold firsts
    refine (extractStridedSlice_apply _ _ _ _ (ix2 b (⟨p.val, by have := p.isLt; omega⟩ : Fin 2000)) fun a => match a with
      | ⟨0, _⟩ => (Nat.zero_add _).symm | ⟨1, _⟩ => (Nat.zero_add _).symm).trans hv
  have hm : proposals x keep (ix3 b p k) = x (ix3 b v k) * (((keep (ix2 b v)).toNat : ℝ) : EReal) := by
    show taken x (firsts keep) (ix3 b p k) * broadcastInDim S4x1000x4 ![0, 1, 2] bcast_S4x1000x1_S4x1000x4_0_1_2
      (uitofp (F := Ideal) .f32 (broadcastInDim S4x1000x1 ![0, 1] bcast_S4x1000_S4x1000x1_0_1 (flags keep (firsts keep)))) (ix3 b p k) = _
    rw [taken_apply x _ b p k v hf, broadcastInDim_apply _ _ _ (ix3 b p k) (ix3 b p 0) (fun a => match a with | ⟨0, _⟩ => rfl | ⟨1, _⟩ => rfl | ⟨2, _⟩ => rfl)]
    show _ * (((broadcastInDim S4x1000x1 ![0, 1] bcast_S4x1000_S4x1000x1_0_1 (flags keep (firsts keep)) (ix3 b p 0)).toNat : ℝ) : EReal) = _
    rw [broadcastInDim_apply _ _ _ (ix3 b p 0) (ix2 b p) (fun a => match a with | ⟨0, _⟩ => rfl | ⟨1, _⟩ => rfl), flags_apply keep _ b p v hf]
  rcases place_rank (n := 2000) le_rfl v.isLt hc with ⟨hk, h1, h2⟩ | ⟨hk, h1⟩
  · refine .inl ⟨v, hk, h1, h2, ?_⟩
    obtain ⟨_, hk⟩ := hk
    rw [hm, show keep (ix2 b v) = 1#1 from hk]
    simp
  · refine .inr ⟨h1, ?_⟩
    rw [hm, eq_zero_of_ne_one (b := keep (ix2 b v)) fun h => hk ⟨v.isLt, h⟩]
    simp

end Cert.ReferenceIdeal.Model

end

end
-- ==== Proof.RefRead.lean ====
/-
  The reference's operations read off: what its buffers hold where its loop begins, and its result from what they hold
  where the loop ends.
-/
module

public import proofs.«01_k».proof.Proof.RefModel
public import Idealize.ShloMosaic.Lib.StableHlo.RunHlo
public import Idealize.ShloMosaic.Lib.Quiescent

@[expose] public section

set_option maxRecDepth 8192

noncomputable section

namespace Cert.ReferenceIdeal.Model

open Idealize.ShloMosaic Idealize.ShloMosaic.TcCoe Idealize.ShloMosaic.StableHlo Idealize.SL.Sem
open Cert.ReferenceIdeal.Gen Cert.ReferenceIdeal.Value

variable {F : FTy → Type} [FloatOps F] (V : Valuation τ sig (Elt F))

theorem head_v4 : after hostOps0 V (Proc.devRef .tc main_v4) = scaled (V (Proc.devRef .tc main_arg1)) := by
  after_reads_simp
  rfl

theorem head_indices : after hostOps0 V (Proc.devRef .tc main_indices) = best (fg (V (Proc.devRef .tc main_arg0))) := by
  after_reads_simp
  rfl

theorem head_v5 : after hostOps0 V (Proc.devRef .tc main_v5) =
    broadcastInDim S4x2000x1 ![0, 1] bcast_S4x2000_S4x2000x1_0_1 (best (fg (V (Proc.devRef .tc main_arg0)))) := by
  after_reads_simp
  rfl

theorem head_arg2 : after hostOps0 V (Proc.devRef .tc main_arg2) = V (Proc.devRef .tc main_arg2) := by
  after_reads_simp

theorem first_rows : after hostOps0_1 V (Proc.devRef .tc main_v6) =
    Host.gather gather_S4x20000x4_S4x2000x1_S4x2000x4_2_1_0_0_1_2_114 (V (Proc.devRef .tc main_v4)) (wrap 20000#32 (V (Proc.devRef .tc main_v5))) := by
  after_reads_simp
  rfl

theorem second_rows : after hostOps0_3 V (Proc.devRef .tc main_v8) =
    Host.gather gather_S4x20000x4_S4x2000x1_S4x2000x4_2_1_0_0_1_2_114 (V (Proc.devRef .tc main_arg2)) (wrap 20000#32 (V (Proc.devRef .tc main_v7))) := by
  after_reads_simp
  rfl

theorem decode_read : after hostOps0_4 V (Proc.devRef .tc main_v57) =
    decode (V (Proc.devRef .tc main_v8)) (V (Proc.devRef .tc main_v6)) := by
  after_reads_simp
  rfl

/-- What the second gather's stretches leave as it was. -/
theorem keep_v6 : after hostOps0_3 (after hostOps0_2 V) (Proc.devRef .tc main_v6) = V (Proc.devRef .tc main_v6) := by
  after_reads_simp

theorem pass_v7 : after hostOps0_2 V (Proc.devRef .tc main_v7) =
    broadcastInDim S4x2000x1 ![0, 1] bcast_S4x2000_S4x2000x1_0_1 (V (Proc.devRef .tc main_indices)) := by
  after_reads_simp

theorem keep_arg2 : after hostOps0_2 (after hostOps0_1 V) (Proc.devRef .tc main_arg2) = V (Proc.devRef .tc main_arg2) := by
  after_reads_simp

theorem keep_indices : after hostOps0_1 V (Proc.devRef .tc main_indices) = V (Proc.devRef .tc main_indices) := by
  after_reads_simp

/-- The first stretches: the decoded boxes. -/
theorem early : afterL [hostOps0, hostOps0_1, hostOps0_2, hostOps0_3, hostOps0_4] V (Proc.devRef .tc main_v57) =
    decode (rowsAt (V (Proc.devRef .tc main_arg2)) (best (fg (V (Proc.devRef .tc main_arg0)))))
      (rowsAt (scaled (V (Proc.devRef .tc main_arg1))) (best (fg (V (Proc.devRef .tc main_arg0))))) := by
  simp only [afterL_cons, afterL_nil]
  rw [decode_read, second_rows, keep_v6, first_rows, pass_v7, keep_arg2, keep_indices, head_v4, head_v5, head_indices, head_arg2]
  rfl

theorem stack_read : after hostOps0_12 V (Proc.devRef .tc main_v74) =
    stack (V (Proc.devRef .tc main_v60)) (V (Proc.devRef .tc main_v63)) (V (Proc.devRef .tc main_v66)) (V (Proc.devRef .tc main_v69)) := by
  after_reads_simp
  rfl

theorem iou_read : after hostOps0_12 V (Proc.devRef .tc main_v125_1) =
    iou (stack (V (Proc.devRef .tc main_v60)) (V (Proc.devRef .tc main_v63)) (V (Proc.devRef .tc main_v66)) (V (Proc.devRef .tc main_v69))) := by
  after_reads_simp
  rfl

/-- The four limited columns. -/
theorem four (W : Valuation τ sig (Elt F)) (hW : W = after hostOps0_11 (after hostOps0_10 (after hostOps0_9 (after hostOps0_8 (after hostOps0_7 (after hostOps0_6 (after hostOps0_5 V))))))) :
    W (Proc.devRef .tc main_v60) = minimumf (broadcastInDim S4x2000 ![] bcast_S_S4x2000 (V (Proc.devRef .tc main_cst_5)))
      (maximumf (broadcastInDim S4x2000 ![] bcast_S_S4x2000 (V (Proc.devRef .tc main_cst_4))) (V (Proc.devRef .tc main_v59))) ∧
    W (Proc.devRef .tc main_v63) = clip (col1 (V (Proc.devRef .tc main_v57))) ∧
    W (Proc.devRef .tc main_v66) = clip (col2 (V (Proc.devRef .tc main_v57))) ∧
    W (Proc.devRef .tc main_v69) = clip (col3 (V (Proc.devRef .tc main_v57))) := by
  subst hW
  refine ⟨?_, ?_, ?_, ?_⟩ <;> after_reads_simp <;> rfl

theorem consts : afterL [hostOps0, hostOps0_1, hostOps0_2, hostOps0_3, hostOps0_4] V (Proc.devRef .tc main_cst_5) = constant S_ .f32 0x3F800000#32 ∧
    afterL [hostOps0, hostOps0_1, hostOps0_2, hostOps0_3, hostOps0_4] V (Proc.devRef .tc main_cst_4) = constant S_ .f32 0x00000000#32 := by
  simp only [afterL_cons, afterL_nil]
  refine ⟨?_, ?_⟩ <;> after_reads_simp

theorem early' : afterL [hostOps0, hostOps0_1, hostOps0_2, hostOps0_3, hostOps0_4] V (Proc.devRef .tc main_v59) =
    col0 (afterL [hostOps0, hostOps0_1, hostOps0_2, hostOps0_3, hostOps0_4] V (Proc.devRef .tc main_v57)) := by
  have h : ∀ V : Valuation τ sig (Elt F), after hostOps0_4 V (Proc.devRef .tc main_v59) =
      col0 (after hostOps0_4 V (Proc.devRef .tc main_v57)) := fun V => by
    after_reads_simp
    rfl
  exact h _

/-- The boxes, where the loop begins. -/
theorem entry_boxes : afterL preI V (Proc.devRef .tc main_v74) =
    boxes (V (Proc.devRef .tc main_arg0)) (V (Proc.devRef .tc main_arg1)) (V (Proc.devRef .tc main_arg2)) := by
  have h := four (afterL [hostOps0, hostOps0_1, hostOps0_2, hostOps0_3, hostOps0_4] V) _ rfl
  rw [(consts V).1, (consts V).2, early', early] at h
  refine (stack_read (F := F) _).trans ?_
  exact congr (congr (congr (congrArg stack h.1) h.2.1) h.2.2.1) h.2.2.2

theorem entry_iou : afterL preI V (Proc.devRef .tc main_v125_1) =
    iou (boxes (V (Proc.devRef .tc main_arg0)) (V (Proc.devRef .tc main_arg1)) (V (Proc.devRef .tc main_arg2))) := by
  refine (iou_read (F := F) _).trans (congrArg iou ?_)
  exact (stack_read (F := F) _).symm.trans (entry_boxes V)

theorem entry_positions : afterL preI V (Proc.devRef .tc main_v125_2) = positions := by
  simp only [afterL_cons, afterL_nil]
  after_reads_simp
  rfl

theorem entry_index : afterL preI V (Proc.devRef .tc main_v125_4) = constantI S_ 32 0#32 := by
  simp only [afterL_cons, afterL_nil]
  after_reads_simp
  rfl

theorem entry_keep : afterL preI V (Proc.devRef .tc main_v125_5) = allKept := by
  simp only [afterL_cons, afterL_nil]
  after_reads_simp
  rfl

theorem order_read : afterL [hostOps0_13, hostOps0_14, hostOps0_15] V (Proc.devRef .tc main_v131) = order (V (Proc.devRef .tc main_v125_5)) := by
  simp only [afterL_cons, afterL_nil]
  after_reads_simp
  rfl

theorem laid_read : afterL [hostOps0_16, hostOps0_17, hostOps0_18, hostOps0_19] V (Proc.devRef .tc main_v139) =
    laid (V (Proc.devRef .tc main_v74)) (V (Proc.devRef .tc main_v125_5))
      (extractStridedSlice S4x1000 ![0, 0] (V (Proc.devRef .tc main_v131)) slices_S4x2000_S4x1000_0_0) := by
  simp only [afterL_cons, afterL_nil]
  after_reads_simp
  rfl

/-- The result, from what the loop leaves. -/
theorem result_read : afterL postI V (Proc.devRef .tc main_v139) =
    proposals (V (Proc.devRef .tc main_v74)) (V (Proc.devRef .tc main_v125_5)) := by
  refine (laid_read (afterL [hostOps0_13, hostOps0_14, hostOps0_15] V)).trans ?_
  have h1 : afterL [hostOps0_13, hostOps0_14, hostOps0_15] V (Proc.devRef .tc main_v74) = V (Proc.devRef .tc main_v74) := by
    simp only [afterL_cons, afterL_nil]
    after_reads_simp
  have h2 : afterL [hostOps0_13, hostOps0_14, hostOps0_15] V (Proc.devRef .tc main_v125_5) = V (Proc.devRef .tc main_v125_5) := by
    simp only [afterL_cons, afterL_nil]
    after_reads_simp
  rw [h1, h2, order_read]
  rfl

/-- What a trip, and the test before it, leave as they were. -/
theorem trip_boxes : afterL bodyI (after condOps V) (Proc.devRef .tc main_v74) = V (Proc.devRef .tc main_v74) := by
  simp only [afterL_cons, afterL_nil]
  after_reads_simp

theorem trip_arg0 : afterL bodyI (after condOps V) (Proc.devRef .tc main_arg0) = V (Proc.devRef .tc main_arg0) := by
  simp only [afterL_cons, afterL_nil]
  after_reads_simp

theorem trip_arg1 : afterL bodyI (after condOps V) (Proc.devRef .tc main_arg1) = V (Proc.devRef .tc main_arg1) := by
  simp only [afterL_cons, afterL_nil]
  after_reads_simp

theorem trip_arg2 : afterL bodyI (after condOps V) (Proc.devRef .tc main_arg2) = V (Proc.devRef .tc main_arg2) := by
  simp only [afterL_cons, afterL_nil]
  after_reads_simp

/-- A buffer the trips leave as it was. -/
theorem kept_trips (r : Ref sig .tc)
    (h : ∀ V : Valuation τ sig (Elt F), afterL bodyI (after condOps V) (Proc.devRef .tc r) = V (Proc.devRef .tc r))
    (m : (ℓ : Loc nD τ sig) → Buf (Elt F) ℓ) (c : Dev nD) : ∀ k, atK m k c (Proc.devRef .tc r) = entryContents preI m c (Proc.devRef .tc r)
  | 0 => rfl
  | k + 1 => (h (atK m k c)).trans (kept_trips r h m c k)

theorem final_arg0 (m : (ℓ : Loc nD τ sig) → Buf (Elt F) ℓ) (c : Dev nD) (n : ℕ) :
    finalContents condOps preI bodyI postI n m c (Proc.devRef .tc main_arg0) = m ((c.tc : Thread nD τ).loc main_arg0) := by
  have h : ∀ V : Valuation τ sig (Elt F), afterL postI (after condOps V) (Proc.devRef .tc main_arg0) = V (Proc.devRef .tc main_arg0) := fun V => by
    simp only [afterL_cons, afterL_nil]
    after_reads_simp
  refine (h _).trans ((kept_trips main_arg0 trip_arg0 m c n).trans ?_)
  simp only [entryContents, afterL_cons, afterL_nil]
  after_reads_simp

theorem final_arg1 (m : (ℓ : Loc nD τ sig) → Buf (Elt F) ℓ) (c : Dev nD) (n : ℕ) :
    finalContents condOps preI bodyI postI n m c (Proc.devRef .tc main_arg1) = m ((c.tc : Thread nD τ).loc main_arg1) := by
  have h : ∀ V : Valuation τ sig (Elt F), afterL postI (after condOps V) (Proc.devRef .tc main_arg1) = V (Proc.devRef .tc main_arg1) := fun V => by
    simp only [afterL_cons, afterL_nil]
    after_reads_simp
  refine (h _).trans ((kept_trips main_arg1 trip_arg1 m c n).trans ?_)
  simp only [entryContents, afterL_cons, afterL_nil]
  after_reads_simp

theorem final_arg2 (m : (ℓ : Loc nD τ sig) → Buf (Elt F) ℓ) (c : Dev nD) (n : ℕ) :
    finalContents condOps preI bodyI postI n m c (Proc.devRef .tc main_arg2) = m ((c.tc : Thread nD τ).loc main_arg2) := by
  have h : ∀ V : Valuation τ sig (Elt F), afterL postI (after condOps V) (Proc.devRef .tc main_arg2) = V (Proc.devRef .tc main_arg2) := fun V => by
    simp only [afterL_cons, afterL_nil]
    after_reads_simp
  refine (h _).trans ((kept_trips main_arg2 trip_arg2 m c n).trans ?_)
  simp only [entryContents, afterL_cons, afterL_nil]
  after_reads_simp

/-- The result of the whole program: the proposals of the boxes, with the flags the loop leaves. -/
theorem final_result (m : (ℓ : Loc nD τ sig) → Buf (Elt F) ℓ) (c : Dev nD) (n : ℕ) :
    finalContents condOps preI bodyI postI n m c (Proc.devRef .tc main_v139) =
      proposals (boxes (m ((c.tc : Thread nD τ).loc main_arg0)) (m ((c.tc : Thread nD τ).loc main_arg1)) (m ((c.tc : Thread nD τ).loc main_arg2)))
        (atK m n c (Proc.devRef .tc main_v125_5)) := by
  have h1 : ∀ V : Valuation τ sig (Elt F), after condOps V (Proc.devRef .tc main_v74) = V (Proc.devRef .tc main_v74) := fun V => by
    after_reads_simp
  have h2 : ∀ V : Valuation τ sig (Elt F), after condOps V (Proc.devRef .tc main_v125_5) = V (Proc.devRef .tc main_v125_5) := fun V => by
    after_reads_simp
  refine (result_read _).trans ?_
  rw [h1, h2]
  exact congrArg (fun b => proposals b _) ((kept_trips main_v74 trip_boxes m c n).trans (entry_boxes _))

end Cert.ReferenceIdeal.Model

namespace Cert.ReferenceIdeal

open Idealize.ShloMosaic Idealize.ShloMosaic.TcCoe Idealize.ShloMosaic.StableHlo Idealize.SL.Sem
open Cert.ReferenceIdeal.Gen

variable {F : FTy → Type} [FloatOps F]

/-- The whole run: the result, the arguments as they were, and every semaphore at zero. -/
theorem value_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v139) =
        Model.proposals (Model.boxes (m ((c.tc : Thread nD τ).loc main_arg0)) (m ((c.tc : Thread nD τ).loc main_arg1)) (m ((c.tc : Thread nD τ).loc main_arg2)))
          (Value.atK m 2000 c (Proc.devRef .tc main_v125_5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (Value.run_fold m ρ) ?_
  intro r h
  refine ⟨fun c => ⟨?_, ?_, ?_, ?_⟩, sem_eq_zero_of_no_sems rfl _⟩
  · exact (h c main_v139 rfl).trans (Model.final_result m c 2000)
  · exact (h c main_arg0 rfl).trans (Model.final_arg0 m c 2000)
  · exact (h c main_arg1 rfl).trans (Model.final_arg1 m c 2000)
  · exact (h c main_arg2 rfl).trans (Model.final_arg2 m c 2000)

end Cert.ReferenceIdeal

end
-- ==== Proof.RefKeep.lean ====
module

public import proofs.«01_k».proof.Proof.RefPoint
public import proofs.«01_k».proof.Proof.RefRead

@[expose] public section

/-! The reference's loop: its flags after two thousand trips are the greedy choice. -/

noncomputable section

namespace Cert.ReferenceIdeal.Model

open Idealize.ShloMosaic Idealize.ShloMosaic.TcCoe
open Idealize.ShloMosaic.ValueIdx
open Cert.ReferenceIdeal.Gen
open Rpn Rpn.Spec

/-- The index the trip reads at: a negative one counts from the end. -/
def wrapTrip (i : IVec S_ 32) : IVec S_ 32 :=
  select (cmpi .slt i (constantI S_ 32 0#32)) (addi (id i) (constantI S_ 32 2000#32)) i

/-- The row of overlaps of the trip's box. -/
def tripRow (o : FVec Ideal S4x2000x2000 .f32) (i : IVec S_ 32) : FVec Ideal S4x2000 .f32 :=
  shapeCast S4x2000 (Host.dynamicSlice S4x1x2000 o (fun k => (((![constantI S_ 32 0#32, wrapTrip i, constantI S_ 32 0#32] :
    Fin 3 → IVec S_ 32)) k (Shape.Idx.first h_S_)).toInt) sliceFits_S4x2000x2000_S4x1x2000) shapeCasts_S4x1x2000_S4x2000

/-- Whether the trip's box is kept. -/
def tripFlag (k : IVec S4x2000 1) (i : IVec S_ 32) : IVec S4x1 1 :=
  Host.dynamicSlice S4x1 k (fun k => (((![constantI S_ 32 0#32, wrapTrip i] : Fin 2 → IVec S_ 32)) k (Shape.Idx.first h_S_)).toInt)
    sliceFits_S4x2000_S4x1

/-- One trip: the boxes that the trip's box, if it is kept, does not overlap stay. -/
def trip (o : FVec Ideal S4x2000x2000 .f32) (p : IVec S1x2000 32) (i : IVec S_ 32) (k : IVec S4x2000 1) : IVec S4x2000 1 :=
  id (andi k (noti (andi (andi (cmpf .ogt (tripRow o i) (broadcastInDim S4x2000 ![] bcast_S_S4x2000 (constant S_ .f32 0x3F333333#32)))
    (broadcastInDim S4x2000 ![0, 1] bcast_S1x2000_S4x2000_0_1 (cmpi .sgt p (broadcastInDim S1x2000 ![] bcast_S_S1x2000 (id i)))))
    (broadcastInDim S4x2000 ![0, 1] bcast_S4x1_S4x2000_0_1 (tripFlag k i)))))

theorem dynamicSlice_read {α : Type} {s t : Shape} (x : s.Idx → α) (start : Fin s.rank → Int) (h : s.Slices (fun _ => 0) t) (j : t.Idx) (k : s.Idx)
    (hk : ∀ a : Fin s.rank, (k a).val = (min (max (start a) 0) ((s.size a - t.size (a.cast h.1.symm) : Nat) : Int)).toNat + (j (a.cast h.1.symm)).val) :
    Host.dynamicSlice t x start h j = x k := by
  unfold Host.dynamicSlice
  exact extractStridedSlice_apply _ _ _ _ _ hk

theorem wrapTrip_apply (t : ℕ) (ht : t < 2000) (i : IVec S_ 32) (h : ∀ z, i z = BitVec.ofNat 32 t) (z : S_.Idx) : (wrapTrip i z).toInt = t := by
  have hw := wrap_small (n := 0) (v := t) (by omega) (i z) (h z) 2000#32
  have : wrapTrip i z = BitVec.ofNat 32 t := hw.1
  rw [this, BitVec.toInt_eq_toNat_of_lt (by rw [BitVec.toNat_ofNat]; omega), BitVec.toNat_ofNat]
  omega

theorem tripRow_apply (o : FVec Ideal S4x2000x2000 .f32) (t : Fin 2000) (i : IVec S_ 32) (h : ∀ z, i z = BitVec.ofNat 32 t.val) (b : Fin 4) (j : Fin 2000) :
    tripRow o i (ix2 b j) = o (ix3 b t j) := by
  unfold tripRow
  refine (shapeCast_apply _ _ _ (ix3 b 0 j) (by rw [Shape.rowMajor_val_three, Shape.rowMajor_val_two]; simp)).trans ?_
  refine dynamicSlice_read _ _ _ _ _ fun a => ?_
  have hw := wrapTrip_apply t.val t.isLt i h (Shape.Idx.first h_S_)
  have ht := t.isLt
  match a with
  | ⟨0, _⟩ => exact (Nat.zero_add _).symm
  | ⟨1, _⟩ =>
    show t.val = (min (max (wrapTrip i (Shape.Idx.first h_S_)).toInt 0) ((1999 : ℕ) : ℤ)).toNat + 0
    rw [hw]; omega
  | ⟨2, _⟩ => exact (Nat.zero_add _).symm

theorem tripFlag_apply (k : IVec S4x2000 1) (t : Fin 2000) (i : IVec S_ 32) (h : ∀ z, i z = BitVec.ofNat 32 t.val) (b : Fin 4) :
    tripFlag k i (ix2 b 0) = k (ix2 b t) := by
  unfold tripFlag
  refine dynamicSlice_read _ _ _ _ _ fun a => ?_
  have hw := wrapTrip_apply t.val t.isLt i h (Shape.Idx.first h_S_)
  have ht := t.isLt
  match a with
  | ⟨0, _⟩ => exact (Nat.zero_add _).symm
  | ⟨1, _⟩ =>
    show t.val = (min (max (wrapTrip i (Shape.Idx.first h_S_)).toInt 0) ((1999 : ℕ) : ℤ)).toNat + 0
    rw [hw]; omega

theorem positions_apply (j : Fin 2000) : positions (ix2 0 j) = BitVec.ofNat 32 j.val := by
  unfold positions
  exact broadcastInDim_apply _ _ _ _ (ix1 j) fun a => match a with | ⟨0, _⟩ => rfl

theorem sgt_small {j t : ℕ} (hj : j < 2000) (ht : t < 2000) : IntOp.cmpi .sgt (BitVec.ofNat 32 j) (BitVec.ofNat 32 t) = BitVec.ofBool (decide (t < j)) := by
  show BitVec.ofBool (decide ((BitVec.ofNat 32 t).toInt < (BitVec.ofNat 32 j).toInt)) = _
  rw [BitVec.toInt_eq_toNat_of_lt (by rw [BitVec.toNat_ofNat]; omega), BitVec.toNat_ofNat,
    BitVec.toInt_eq_toNat_of_lt (by rw [BitVec.toNat_ofNat]; omega), BitVec.toNat_ofNat, Nat.mod_eq_of_lt (by omega), Nat.mod_eq_of_lt (by omega)]
  congr 1
  simp

theorem bits (a b c d : BitVec 1) : IntOp.andi a (~~~ (IntOp.andi (IntOp.andi b c) d)) = 1#1 ↔ a = 1#1 ∧ ¬ (b = 1#1 ∧ c = 1#1 ∧ d = 1#1) := by
  revert a b c d; decide

theorem trip_apply (o : FVec Ideal S4x2000x2000 .f32) (t : Fin 2000) (i : IVec S_ 32) (h : ∀ z, i z = BitVec.ofNat 32 t.val) (k : IVec S4x2000 1)
    (b : Fin 4) (j : Fin 2000) :
    trip o positions i k (ix2 b j) = 1#1 ↔
      k (ix2 b j) = 1#1 ∧ ¬ (lit 0x3F333333#32 < o (ix3 b t j) ∧ t.val < j.val ∧ k (ix2 b t) = 1#1) := by
  show IntOp.andi (k (ix2 b j)) (~~~ (IntOp.andi (IntOp.andi (Ideal.cmp .ogt (tripRow o i (ix2 b j)) (lit 0x3F333333#32))
    (broadcastInDim S4x2000 ![0, 1] bcast_S1x2000_S4x2000_0_1 (cmpi .sgt positions (broadcastInDim S1x2000 ![] bcast_S_S1x2000 (id i))) (ix2 b j)))
    (broadcastInDim S4x2000 ![0, 1] bcast_S4x1_S4x2000_0_1 (tripFlag k i) (ix2 b j)))) = 1#1 ↔ _
  rw [bits, tripRow_apply o t i h, broadcastInDim_apply _ _ (tripFlag k i) (ix2 b j) (ix2 b 0) (fun a => match a with | ⟨0, _⟩ => rfl | ⟨1, _⟩ => rfl),
    tripFlag_apply k t i h,
    broadcastInDim_apply _ _ (cmpi .sgt positions (broadcastInDim S1x2000 ![] bcast_S_S1x2000 (id i))) (ix2 b j) (ix2 0 j)
      (fun a => match a with | ⟨0, _⟩ => rfl | ⟨1, _⟩ => rfl)]
  have e : cmpi .sgt positions (broadcastInDim S1x2000 ![] bcast_S_S1x2000 (id i)) (ix2 0 j) = BitVec.ofBool (decide (t.val < j.val)) := by
    show IntOp.cmpi .sgt (positions (ix2 0 j)) (i _) = _
    rw [positions_apply, h, sgt_small j.isLt t.isLt]
  rw [e]
  have ob : ∀ p : Bool, BitVec.ofBool p = 1#1 ↔ p = true := by decide
  show _ ∧ ¬ (BitVec.ofBool (decide (lit 0x3F333333#32 < o (ix3 b t j))) = 1#1 ∧ _) ↔ _
  rw [ob, ob, decide_eq_true_iff, decide_eq_true_iff]

/-- The flags after `n` trips. -/
def flagsTo (o : FVec Ideal S4x2000x2000 .f32) : ℕ → IVec S4x2000 1
  | 0 => allKept
  | n + 1 => trip o positions (fun _ => BitVec.ofNat 32 n) (flagsTo o n)

theorem flagsTo_apply (o : FVec Ideal S4x2000x2000 .f32) (b : Fin 4) (j : Fin 2000) : ∀ n ≤ 2000,
    (flagsTo o n (ix2 b j) = 1#1 ↔ ∀ t : Fin 2000, t.val < n → t.val < j.val → flagsTo o t.val (ix2 b t) = 1#1 → ¬ lit 0x3F333333#32 < o (ix3 b t j))
  | 0, _ => ⟨fun _ t ht => absurd ht (Nat.not_lt_zero _), fun _ => rfl⟩
  | n + 1, hn => by
    refine (trip_apply o ⟨n, hn⟩ _ (fun _ => rfl) (flagsTo o n) b j).trans ?_
    rw [flagsTo_apply o b j n (by omega)]
    constructor
    · rintro ⟨h1, h2⟩ t ht htj hf ho
      rcases Nat.lt_succ_iff_lt_or_eq.mp ht with h | h
      · exact h1 t h htj hf ho
      · obtain rfl : t = ⟨n, hn⟩ := Fin.ext h
        exact h2 ⟨ho, htj, hf⟩
    · intro h
      exact ⟨fun t ht => h t (by omega), fun ⟨ho, htj, hf⟩ => h ⟨n, hn⟩ (Nat.lt_succ_self n) htj hf ho⟩

/-- A flag does not change from its own trip on. -/
theorem flagsTo_own (o : FVec Ideal S4x2000x2000 .f32) (b : Fin 4) (j : Fin 2000) :
    flagsTo o 2000 (ix2 b j) = 1#1 ↔ flagsTo o j.val (ix2 b j) = 1#1 := by
  rw [flagsTo_apply o b j 2000 le_rfl, flagsTo_apply o b j j.val j.isLt.le]
  exact forall_congr' fun t => ⟨fun h _ => h t.isLt, fun h _ hj => h hj hj⟩

/-- The flags after all trips are the greedy choice. -/
theorem flags_greedy (x : FVec Ideal S4x2000x4 .f32) (b : Fin 4) (ov : ℕ → ℕ → Prop)
    (hov : ∀ i j : Fin 2000, ov i.val j.val ↔ Spec.over (boxAt x b i) (boxAt x b j)) :
    Greedy 2000 ov fun j => ∃ h : j < 2000, flagsTo (iou x) 2000 (ix2 b ⟨j, h⟩) = 1#1 := by
  intro j
  constructor
  · rintro ⟨hj, h⟩
    refine ⟨hj, fun i hi ⟨hi', hk⟩ => ?_⟩
    rw [flagsTo_apply _ b ⟨j, hj⟩ 2000 le_rfl] at h
    have := h ⟨i, hi'⟩ hi' hi ((flagsTo_own _ b _).mp hk)
    rw [iou_apply] at this
    exact fun h' => this ((hov ⟨i, hi'⟩ ⟨j, hj⟩).mp h')
  · rintro ⟨hj, h⟩
    refine ⟨hj, ?_⟩
    rw [flagsTo_apply _ b ⟨j, hj⟩ 2000 le_rfl]
    intro t _ htj hf ho
    rw [iou_apply] at ho
    exact h t.val htj ⟨t.isLt, (flagsTo_own _ b t).mpr hf⟩ ((hov t ⟨j, hj⟩).mpr ho)

open Cert.ReferenceIdeal.Value Idealize.ShloMosaic.StableHlo in
/-- The program's loop carries those flags. -/
theorem loop_flags (m : (ℓ : Loc nD τ sig) → Buf (Elt Ideal) ℓ) (c : Dev nD) : ∀ n,
    (atK m n c (Proc.devRef .tc main_v125_1) =
        iou (F := Ideal) (boxes (m ((c.tc : Thread nD τ).loc main_arg0)) (m ((c.tc : Thread nD τ).loc main_arg1)) (m ((c.tc : Thread nD τ).loc main_arg2)))) ∧
    (atK m n c (Proc.devRef .tc main_v125_2) = positions) ∧
    (atK m n c (Proc.devRef .tc main_v125_4) = fun _ => BitVec.ofNat 32 n) ∧
    (atK m n c (Proc.devRef .tc main_v125_5) =
      flagsTo (iou (F := Ideal) (boxes (m ((c.tc : Thread nD τ).loc main_arg0)) (m ((c.tc : Thread nD τ).loc main_arg1)) (m ((c.tc : Thread nD τ).loc main_arg2)))) n)
  | 0 => ⟨entry_iou _, entry_positions _, entry_index _, entry_keep _⟩
  | n + 1 => by
    obtain ⟨h1, h2, h4, h5⟩ := loop_flags m c n
    have ht := trip_agree (atK m n c)
    refine ⟨?_, ?_, ?_, ?_⟩
    · exact (ht main_v125_1 (by decide)).trans ((STEP_main_v125_1 _).trans h1)
    · exact (ht main_v125_2 (by decide)).trans ((STEP_main_v125_2 _).trans h2)
    · refine (ht main_v125_4 (by decide)).trans ((STEP_main_v125_4 _).trans ?_)
      unfold step_main_v125_4
      rw [h4]
      funext z
      show BitVec.ofNat 32 n + BitVec.ofNat 32 1 = _
      rw [← BitVec.ofNat_add]
    · refine (ht main_v125_5 (by decide)).trans ((STEP_main_v125_5 _).trans ?_)
      have e : ∀ W : Valuation τ sig (Elt Ideal), step_main_v125_5 W = trip (W (Proc.devRef .tc main_v125_1)) (W (Proc.devRef .tc main_v125_2))
        (W (Proc.devRef .tc main_v125_4)) (W (Proc.devRef .tc main_v125_5)) := fun W => rfl
      rw [e, h1, h2, h4, h5]
      rfl

end Cert.ReferenceIdeal.Model

end

end
-- ==== Proof.KerSlots.lean ====
module

public import proofs.«01_k».proof.Proof.KerStage
public import proofs.«01_k».proof.Proof.KerLast
public import proofs.«01_k».proof.Proof.RefOut
public import proofs.«01_k».proof.Proof.RefKeep

@[expose] public section

/-! The kernel's slots hold the reference's boxes, in the reference's order; the kernel's chosen boxes are the
reference's. -/

noncomputable section

namespace Cert.KernelIdeal

open Rpn Gen
open Idealize.ShloMosaic Idealize.ShloMosaic.ValueIdx
open Rpn.Spec Rpn.Net
open Cert.ReferenceIdeal.Model (boxAt fg boxes best_apply boxes_apply fg_apply keptIn flagsTo flags_greedy iou proposals proposals_apply)

/-- The kernel's best boxes of three arguments. -/
def bestBoxes (s : FVec Ideal S4x20000x2 .f32) (d a : FVec Ideal S4x20000x4 .f32) : Six Ideal (B4 1) :=
  topBlock (decoded (stagedScores s) (chanOf 0 (stagedRows d)) (chanOf 1 (stagedRows d)) (chanOf 2 (stagedRows d)) (chanOf 3 (stagedRows d))
    (chanOf 0 (stagedRows a)) (chanOf 1 (stagedRows a)) (chanOf 2 (stagedRows a)) (chanOf 3 (stagedRows a)))

variable (s : FVec Ideal S4x20000x2 .f32) (d a : FVec Ideal S4x20000x4 .f32)
  (hs : ∀ (b : Fin 4) (x : Fin 20000), lit 0xBF800000#32 ≤ s (ix3 b x 1))

include hs

/-- A slot below 2000 holds the box at the same place of the reference. -/
theorem slot_box (b : Fin 4) (q : Fin 2000) : slotBox (bestBoxes s d a) b q.val = boxAt (boxes s d a) b q := by
  obtain ⟨v, hb, hc⟩ := slot_rank (stagedScores s) (fun k => chanOf k (stagedRows d)) (fun k => chanOf k (stagedRows a)) b (w := lit 0xBF800000#32)
    (fun x hx h => score_pad s b x hx h) (fun x hx => le_of_le_of_eq (hs b ⟨x, hx⟩) (score_at s b ⟨x, hx⟩).symm) q.isLt
  refine hb.trans ?_
  have hbest : Cert.ReferenceIdeal.Model.best (fg s) (ix2 b q) = BitVec.ofNat 32 v.val := by
    refine best_apply (fg s) b q v ?_
    rw [← hc]
    refine cnt_congr fun j hj => ?_
    rw [Nat.zero_add, score_at]
    constructor
    · rintro ⟨h, h'⟩
      rw [fg_apply, fg_apply] at h'
      rw [show stagedScores s (L3 b j) = s (ix3 b ⟨j, h⟩ 1) from score_at s b ⟨j, h⟩]
      exact h'
    · intro h'
      refine ⟨hj, ?_⟩
      rw [fg_apply, fg_apply]
      rw [show stagedScores s (L3 b j) = s (ix3 b ⟨j, hj⟩ 1) from score_at s b ⟨j, hj⟩] at h'
      exact h'
  rw [boxes_apply s d a b q v hbest]
  exact congrArg₂ Spec.decode (funext fun k => row_at a b k v) (funext fun k => row_at d b k v)

/-- What the reference keeps is the greedy choice among the kernel's slots. -/
theorem kept_greedy (b : Fin 4) : Greedy 2000 (fun i j => over (slotBox (bestBoxes s d a) b i) (slotBox (bestBoxes s d a) b j))
    (keptIn (flagsTo (iou (boxes s d a)) 2000) b) := by
  refine flags_greedy (boxes s d a) b _ fun i j => ?_
  rw [slot_box s d a hs, slot_box s d a hs]

/-- One number of the result, as the kernel lays it out, is the reference's. -/
theorem slotOut_eq (b : Fin 4) (p : Fin 1000) (k : Fin 4) (r : Fin 8) (l : Fin 128) (hp : p.val = 128 * r.val + l.val) :
    slotOut (marksTo (bestBoxes s d a) 16)
      (![(compacted (bestBoxes s d a) (marksTo (bestBoxes s d a) 16)).p0, (compacted (bestBoxes s d a) (marksTo (bestBoxes s d a) 16)).p1,
        (compacted (bestBoxes s d a) (marksTo (bestBoxes s d a) 16)).p2, (compacted (bestBoxes s d a) (marksTo (bestBoxes s d a) 16)).p3] k)
      (ix4 b 0 r l) = proposals (boxes s d a) (flagsTo (iou (boxes s d a)) 2000) (ix3 b p k) := by
  have hM := marks_hold (kept_greedy s d a hs b) 16 le_rfl
  rw [slotOut_apply hM, ← hp]
  have hpre : cnt (keptIn (flagsTo (iou (boxes s d a)) 2000) b) 0 2048 = cnt (keptIn (flagsTo (iou (boxes s d a)) 2000) b) 0 2000 :=
    cnt_prefix (by decide) fun x hx h => by obtain ⟨h', _⟩ := h; omega
  have hcomp := compacted_apply (t := bestBoxes s d a) hM (s := p.val) (by have := p.isLt; omega)
  rw [hpre] at hcomp ⊢
  rcases proposals_apply (boxes s d a) (flagsTo (iou (boxes s d a)) 2000) b p k with ⟨i, hK, hc, hlt, e⟩ | ⟨hle, e⟩
  · rw [e, bit_true ⟨hlt, p.isLt⟩, mul_one]
    rcases hcomp with ⟨i', hi', hK', hc', _, e'⟩ | hle
    · obtain rfl : i' = i.val := rank_unique hK' hK (hc'.trans hc.symm)
      rw [slot_box s d a hs] at e'
      fin_cases k
      · exact congrArg Box.y1 e'
      · exact congrArg Box.x1 e'
      · exact congrArg Box.y2 e'
      · exact congrArg Box.x2 e'
    · omega
  · rw [e, bit_false (by omega), mul_zero]

end Cert.KernelIdeal

end
-- ==== Proof.KerOut.lean ====
/-
  The kernel's result read off: the array the body wrote, through the host's lines after it, is the reference's result.
-/
module

public import proofs.«01_k».proof.Proof.KerSlots

@[expose] public section

set_option maxRecDepth 8192

noncomputable section

namespace Cert.KernelIdeal

open Rpn Gen
open Idealize.ShloMosaic Idealize.ShloMosaic.ValueIdx Idealize.ShloMosaic.TcCoe Idealize.ShloMosaic.StableHlo Idealize.SL.Sem
open Rpn.Spec Rpn.Net
open Cert.ReferenceIdeal.Model (boxes flagsTo iou proposals)

section Generic
variable {F : FTy → Type} [FloatOps F] (m : (ℓ : Loc nD τ sig) → Buf (Elt F) ℓ) (c : Dev nD)

/-- Four channels as one array. -/
def joined (q : Fin 4 → FVec F S4x1x8x128 .f32) : FVec F S4x4x8x128 .f32 := fun i => q (i 1) (ix4 (i 0) 0 (i 2) (i 3))

/-- A piece holding channel `k` lies where the joined array says. -/
theorem piece_joined (q : Fin 4 → FVec F S4x1x8x128 .f32) (k : Fin 4) (inb) (x : S4x1x8x128.Idx) :
    q k x = joined q ((Rect.unit (s := S4x4x8x128) ![0, k.val, 0, 0] S4x1x8x128.size inb).emb x) := by
  have h1 : (x 1).val = 0 := by have := (x 1).isLt; change (x 1).val < 1 at this; omega
  have hk : (Rect.unit (s := S4x4x8x128) ![0, k.val, 0, 0] S4x1x8x128.size inb).emb x 1 = k := by
    apply Fin.ext
    show k.val + 1 * (x 1).val = k.val
    omega
  unfold joined
  rw [hk]
  refine congrArg (q k) (funext fun a => Fin.ext ?_)
  match a with
  | 0 => show (x 0).val = 0 + 1 * (x 0).val; omega
  | 1 => exact h1
  | 2 => show (x 2).val = 0 + 1 * (x 2).val; omega
  | 3 => show (x 3).val = 0 + 1 * (x 3).val; omega

/-- The four stores together write the joined array. -/
theorem read_pieces (v : View sig .tc .vmem S4x4x8x128 .f32) (f) (q0 q1 q2 q3 : FVec F S4x1x8x128 .f32) :
    v.read (Elt F) (v.writes (Elt F) f (piecesOut q0 q1 q2 q3)) = joined ![q0, q1, q2, q3] := by
  funext y
  refine View.read_writes_apply_of_pieces (Val := Elt F) (e := .f32) _ _ (joined ![q0, q1, q2, q3]) _ ?_ y ?_
  · intro p hp x
    simp only [piecesOut, List.mem_cons, List.mem_nil_iff, _root_.or_false] at hp
    rcases hp with rfl | rfl | rfl | rfl
    · exact piece_joined ![q0, q1, q2, q3] 3 inb_S4x4x8x128_S4x1x8x128_0_3_0_0 x
    · exact piece_joined ![q0, q1, q2, q3] 2 inb_S4x4x8x128_S4x1x8x128_0_2_0_0 x
    · exact piece_joined ![q0, q1, q2, q3] 1 inb_S4x4x8x128_S4x1x8x128_0_1_0_0 x
    · exact piece_joined ![q0, q1, q2, q3] 0 inb_S4x4x8x128_S4x1x8x128_0_0_0_0 x
  · have h0 := (y 0).isLt
    have h1 := (y 1).isLt
    have h2 := (y 2).isLt
    have h3 := (y 3).isLt
    change (y 0).val < 4 at h0
    change (y 1).val < 4 at h1
    change (y 2).val < 8 at h2
    change (y 3).val < 128 at h3
    have key : ∀ (k : ℕ) inb, (y 1).val = k → y ∈ (Rect.unit (s := S4x4x8x128) ![0, k, 0, 0] S4x1x8x128.size inb).set := by
      intro k inb hk
      rw [Rect.mem_set_unit]
      intro a
      match a with
      | 0 => exact ⟨Nat.zero_le _, by show (y 0).val < 0 + 4; omega⟩
      | 1 => exact ⟨by show k ≤ (y 1).val; omega, by show (y 1).val < k + 1; omega⟩
      | 2 => exact ⟨Nat.zero_le _, by show (y 2).val < 0 + 8; omega⟩
      | 3 => exact ⟨Nat.zero_le _, by show (y 3).val < 0 + 128; omega⟩
    have h : (y 1).val = 3 ∨ (y 1).val = 2 ∨ (y 1).val = 1 ∨ (y 1).val = 0 := by omega
    unfold piecesOut
    rcases h with h | h | h | h
    · exact ⟨_, List.mem_cons_self, key 3 inb_S4x4x8x128_S4x1x8x128_0_3_0_0 h⟩
    · exact ⟨_, List.mem_cons_of_mem _ List.mem_cons_self, key 2 inb_S4x4x8x128_S4x1x8x128_0_2_0_0 h⟩
    · exact ⟨_, List.mem_cons_of_mem _ (List.mem_cons_of_mem _ List.mem_cons_self), key 1 inb_S4x4x8x128_S4x1x8x128_0_1_0_0 h⟩
    · exact ⟨_, List.mem_cons_of_mem _ (List.mem_cons_of_mem _ (List.mem_cons_of_mem _ List.mem_cons_self)), key 0 inb_S4x4x8x128_S4x1x8x128_0_0_0_0 h⟩

/-- The array the best boxes leave. -/
def arrayOf (t : Six F (B4 1)) : FVec F S4x4x8x128 .f32 :=
  joined ![slotOut (marksTo t 16) (compacted t (marksTo t 16)).p0, slotOut (marksTo t 16) (compacted t (marksTo t 16)).p1,
    slotOut (marksTo t 16) (compacted t (marksTo t 16)).p2, slotOut (marksTo t 16) (compacted t (marksTo t 16)).p3]

/-- The result's staging buffer is read whole. -/
theorem read_stage (f : S4x4x8x128.Idx → Elt F .f32) : (stage0_3 0).view.read (Elt F) f = f := rfl

theorem left3_eq : left3 m c = arrayOf (best m c) := by
  unfold left3 writtenOf arrayOf
  exact (read_stage _).symm.trans (read_pieces (F := F) (stage0_3 0).view _ _ _ _ _)

/-- The body leaves the array in the result's staging buffer. -/
theorem after3 : (dats m 0 c).after 3 t0_0 = arrayOf (best m c) := by
  refine Eq.trans ?_ (left3_eq m c)
  dsimp only [dats]
  generalize left3 m c = w
  rfl

theorem flushed_eq : (dats m 0 c).flushed 3 t0_0 = arrayOf (best m c) := by
  unfold Pipeline.Dat.flushed
  rw [after3]
  generalize arrayOf (best m c) = w
  rfl

/-- The result's array after the run. -/
theorem array_after : (dats m 0 c).arrAt 3 (cfgs (F := F) 0).N = arrayOf (best m c) := by
  have e := (dats m 0 c).arrAt_succ 3 t0_0
  rw [if_pos (flush0_3 t0_0), flushed_eq] at e
  refine Eq.trans e ?_
  generalize arrayOf (best m c) = w
  exact (whole3 _).symm.trans (View.read_write_univ _ _)

/-- The host's lines after the kernel: rows of 128 become one axis, the coordinates go last, the first 1000 are kept. -/
def unstaged (x : FVec F S4x4x8x128 .f32) : FVec F S4x1000x4 .f32 :=
  extractStridedSlice S4x1000x4 ![0, 0, 0] (transpose S4x1024x4 [0, 2, 1] (shapeCast S4x4x1024 x shapeCasts_S4x4x8x128_S4x4x1024)
    transposes_S4x4x1024_S4x1024x4_0_2_1) slices_S4x1024x4_S4x1000x4_0_0_0

theorem arr_inj : Function.Injective (Pipeline.arrRef spec0) := by decide

theorem result_read : Pipeline.afterTail₀ cfgs (dats m) 0 (V0 m) linesAfter c main_v13 = unstaged (arrayOf (best m c)) := by
  unfold Pipeline.afterTail₀
  have h : Pipeline.withArrays spec0 c (V0 m c) (fun w => (dats m 0 c).arrAt w (cfgs (F := F) 0).N) (Proc.devRef .tc main_v10) = arrayOf (best m c) :=
    (Pipeline.withArrays_arr spec0 arr_inj c (V0 m c) (fun w => (dats m 0 c).arrAt w (cfgs (F := F) 0).N) 3).trans (array_after m c)
  show StableHlo.after (List.flatten linesAfter) (Pipeline.withArrays spec0 c (V0 m c) (fun w => (dats m 0 c).arrAt w (cfgs (F := F) 0).N)) (Proc.devRef .tc main_v13) = _
  generalize Pipeline.withArrays spec0 c (V0 m c) (fun w => (dats m 0 c).arrAt w (cfgs (F := F) 0).N) = W at h ⊢
  simp only [linesAfter, List.flatten_cons, List.flatten_nil, List.append_nil]
  after_reads_simp
  rw [h]
  rfl

theorem unstaged_apply (x : FVec F S4x4x8x128 .f32) (b : Fin 4) (p : Fin 1000) (k : Fin 4) (r : Fin 8) (l : Fin 128) (hp : p.val = 128 * r.val + l.val) :
    unstaged x (ix3 b p k) = x (ix4 b k r l) := by
  unfold unstaged
  have hlt := p.isLt
  refine (extractStridedSlice_apply _ _ _ _ (ix3 b ⟨p.val, by omega⟩ k) fun a => ?_).trans ?_
  · match a with
    | 0 => show b.val = 0 + b.val; omega
    | 1 => show p.val = 0 + p.val; omega
    | 2 => show k.val = 0 + k.val; omega
  refine (transpose_apply _ _ _ _ (ix3 b k ⟨p.val, by omega⟩) fun a => ?_).trans ?_
  · match a with
    | 0 => rfl
    | 1 => rfl
    | 2 => rfl
  refine shapeCast_apply _ _ _ _ ?_
  rw [Shape.rowMajor_val_three, Shape.rowMajor_val_four]
  simp
  omega

end Generic

/-- The proposals of three arguments. -/
def answer (s : FVec Ideal S4x20000x2 .f32) (d a : FVec Ideal S4x20000x4 .f32) : FVec Ideal S4x1000x4 .f32 :=
  proposals (boxes s d a) (flagsTo (iou (boxes s d a)) 2000)

/-- The kernel's result is the reference's. -/
theorem result_eq (s : FVec Ideal S4x20000x2 .f32) (d a : FVec Ideal S4x20000x4 .f32)
    (hs : ∀ (b : Fin 4) (x : Fin 20000), lit 0xBF800000#32 ≤ s (ix3 b x 1)) :
    unstaged (arrayOf (bestBoxes s d a)) = answer s d a := by
  funext i
  obtain ⟨b, p, k, rfl⟩ : ∃ (b : Fin 4) (p : Fin 1000) (k : Fin 4), i = ix3 b p k := ⟨i 0, i 1, i 2, by funext a; fin_cases a <;> rfl⟩
  have hlt := p.isLt
  have hp : p.val = 128 * (⟨p.val / 128, by omega⟩ : Fin 8).val + (⟨p.val % 128, by omega⟩ : Fin 128).val := by simp only; omega
  rw [unstaged_apply _ b p k ⟨p.val / 128, by omega⟩ ⟨p.val % 128, by omega⟩ hp]
  refine Eq.trans ?_ (slotOut_eq s d a hs b p k _ _ hp)
  fin_cases k <;> rfl

/-- The run: the result holds the proposals of the arguments, which stay as they were. -/
theorem value_run (m : (ℓ : Loc nD τ sig) → Buf (Elt Ideal) ℓ) (ρ : Dev nD → PrngReg)
    (hs : ∀ (c : Dev nD) (b : Fin 4) (x : Fin 20000), lit 0xBF800000#32 ≤ (show FVec Ideal S4x20000x2 .f32 from m ((c.tc : Thread nD τ).loc main_arg0)) (ix3 b x 1)) :
    θ_run defs (onTc (τ := τ) (main (F := Ideal))) ⟨m, fun _ => 0, ρ⟩ (fun r => ∀ c : Dev nD,
      r.2.mem ((c.tc : Thread nD τ).loc main_v13) =
        answer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (run_main m ρ) ?_
  rintro r ⟨hr, -⟩ c
  refine ⟨?_, ?_, ?_, ?_⟩
  · refine ((hr c).2 main_v13 (by decide : main_v13 ∈ Pipeline.restRefs sig spec0)).trans ((result_read m c).trans ?_)
    rw [best_eq]
    exact result_eq _ _ _ (hs c)
  · exact ((hr c).2 main_arg0 (by decide : main_arg0 ∈ Pipeline.restRefs sig spec0)).trans (kept_after m main_arg0 (by simp) c)
  · exact ((hr c).2 main_arg1 (by decide : main_arg1 ∈ Pipeline.restRefs sig spec0)).trans (kept_after m main_arg1 (by simp) c)
  · exact ((hr c).2 main_arg2 (by decide : main_arg2 ∈ Pipeline.restRefs sig spec0)).trans (kept_after m main_arg2 (by simp) c)

end Cert.KernelIdeal

end
-- ==== Proof.lean ====
/-
  The claim: the printed programs run to the end with their arguments as they were and every semaphore at zero, the
  idealized kernel is the other unchanged, and over the extended reals the kernel's result is the reference's.
-/
module

public import proofs.«01_k».proof.Defs
public import proofs.«01_k».proof.Proof.LaunchKernel
public import proofs.«01_k».proof.Proof.KerOut
public import proofs.«01_k».proof.Proof.RefRead

@[expose] public section

noncomputable section

namespace Cert.Proof

open Idealize.ShloMosaic Idealize.ShloMosaic.StableHlo
open Cert.KernelIdeal (answer)

/-- The reference's run: the result holds the proposals of the arguments, which stay as they were. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v139) =
          answer (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine θ_run_mono (Cert.ReferenceIdeal.value_run m g) fun r h c => ⟨(h.1 c).1.trans ?_, (h.1 c).2⟩
  obtain ⟨-, -, -, e⟩ := Cert.ReferenceIdeal.Model.loop_flags m c 2000
  rw [e]
  rfl

/-- Over the extended reals kernel and reference agree. -/
theorem agree : @Cert.algebraic_KernelIdeal_ReferenceIdeal_pre_scores_at_least_minus_one Cert.KernelIdeal.Gen.facts Cert.ReferenceIdeal.Gen.facts
    Cert.Pre_scores_at_least_minus_one.facts := by
  intro m g m' g' hpre hargs
  refine ⟨fun c => answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact Cert.KernelIdeal.value_run m g fun c b x =>
      @Cert.Pre_scores_at_least_minus_one.score_ge Cert.Pre_scores_at_least_minus_one.facts _ _ _ (hpre c) b x
  · refine θ_run_mono (reference_run m' g') fun r h c => ⟨(h c).1.trans ?_, (h c).2⟩
    obtain ⟨e0, e1, e2⟩ := hargs c
    rw [e0, e1, e2]

theorem claim : Cert.Claim :=
  ⟨Cert.Kernel.Gen.facts, Cert.KernelIdeal.Gen.facts, Cert.ReferenceIdeal.Gen.facts, Cert.Pre_scores_at_least_minus_one.facts,
    fun m g _ => Cert.Kernel.frame_run m g,
    fun m g _ => Cert.KernelIdeal.frame_run m g, fun m g _ => Cert.KernelIdeal.frame_run m g,
    fun m g _ => θ_run_mono (Cert.ReferenceIdeal.value_run m g) fun _ h => ⟨fun c => (h.1 c).2, h.2⟩,
    fun m g _ => θ_run_mono (Cert.ReferenceIdeal.value_run m g) fun _ h => ⟨fun c => (h.1 c).2, h.2⟩, trivial, agree⟩

end Cert.Proof

end
